-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "s" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_v11_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "s" .f32 0x3DB504F3#32 (((Real.sqrt 128)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v10)) (v1 : (c : Dev Cert.Kernel6Ideal.nD) → Buf (Elt Ideal) ((c.tc : Thread Cert.Kernel6Ideal.nD Cert.Kernel6Ideal.τ).loc Cert.Kernel6Ideal.main_v11)) (v2 : (c : Dev Cert.Kernel6Ideal.nD) → Buf (Elt Ideal) ((c.tc : Thread Cert.Kernel6Ideal.nD Cert.Kernel6Ideal.τ).loc Cert.Kernel6Ideal.main_v12)) (v3 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_v11) = v1 c
          ∧ r.2.mem ((c.tc : Thread Cert.Kernel6Ideal.nD Cert.Kernel6Ideal.τ).loc Cert.Kernel6Ideal.main_v12) = v2 c
          ∧ r.2.mem ((c.tc : Thread Cert.Kernel6Ideal.nD Cert.Kernel6Ideal.τ).loc Cert.Kernel6Ideal.main_v13) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_v30) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_qk.lean ====
abbrev S8x4096x2048 : Shape := ⟨3, ![8, 4096, 2048]⟩
abbrev S_ : Shape := ⟨0, ![]⟩

class Facts : Prop where
  bitsLt_bf16_f32 : FTy.bits .bf16 < FTy.bits .f32
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x2048 .bf16) (main_arg1 : FVec F S8x4096x2048 .f32) (main_arg2 : FVec F S8x4096x2048 .f32) (main_arg3 : FVec F S8x4096x2048 .bf16) : IVec S_ 1 :=
  let main_v0 : FVec F S8x4096x2048 .f32 := (extf .f32 · bitsLt_bf16_f32) main_arg0
  let main_v1 : FVec F S8x4096x2048 .f32 := Host.absf main_v0
  let main_cst : FVec F S_ .f32 := constant S_ .f32 0x7F800000#32
  let main_v2 : FVec F S8x4096x2048 .f32 := broadcastInDim S8x4096x2048 ![] bcast_S_S8x4096x2048 main_cst
  let main_v3 : IVec S8x4096x2048 1 := cmpf .olt main_v1 main_v2
  let main_c : IVec S_ 1 := constantI S_ 1 1#1
  let main_v4 : IVec S_ 1 := (fun x v => Host.reduce IntOp.andi x v reducesTo_S8x4096x2048_S_d0_1_2 h_S_) main_v3 main_c
  let main_v5 : FVec F S8x4096x2048 .f32 := Host.absf main_arg1
  let main_cst_0 : FVec F S_ .f32 := constant S_ .f32 0x7F800000#32
  let main_v6 : FVec F S8x4096x2048 .f32 := broadcastInDim S8x4096x2048 ![] bcast_S_S8x4096x2048 main_cst_0
  let main_v7 : IVec S8x4096x2048 1 := cmpf .olt main_v5 main_v6
  let main_c_1 : IVec S_ 1 := constantI S_ 1 1#1
  let main_v8 : IVec S_ 1 := (fun x v => Host.reduce IntOp.andi x v reducesTo_S8x4096x2048_S_d0_1_2 h_S_) main_v7 main_c_1
  let main_v9 : IVec S_ 1 := andi main_v4 main_v8
  main_v9
-- ==== Kernel.lean ====
abbrev S8x4096x2048 : Shape := ⟨3, ![8, 4096, 2048]⟩
abbrev S256x256 : Shape := ⟨2, ![256, 256]⟩
abbrev S_ : Shape := ⟨0, ![]⟩
abbrev S256x128 : Shape := ⟨2, ![256, 128]⟩
abbrev S1x256x128 : Shape := ⟨3, ![1, 256, 128]⟩
abbrev S1x4096x128 : Shape := ⟨3, ![1, 4096, 128]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .f32⟩
  | .hbm, ⟨2, _⟩ => ⟨S8x4096x2048, .f32⟩
  | .hbm, ⟨3, _⟩ => ⟨S8x4096x2048, .bf16⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S_, .bf16⟩
  | .hbm, ⟨9, _⟩ => ⟨S256x128, .bf16⟩
  | .hbm, ⟨10, _⟩ => ⟨S8x4096x2048, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x256x128, .bf16⟩
  | .local _ .vmem, ⟨7, _⟩ => ⟨S1x256x128, .bf16⟩
  | .local _ .vmem, ⟨8, _⟩ => ⟨S256x256, .bf16⟩
  | .local _ .vmem, ⟨9, _⟩ => ⟨S256x128, .bf16⟩
  | .local _ .vmem, ⟨10, _⟩ => ⟨S1x256x128, .bf16⟩
  | .local _ .vmem, ⟨11, _⟩ => ⟨S1x256x128, .bf16⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 16, 16], ![false, false, false]⟩

def k0_mult1 (i : grid0.Coords) : BitVec 32 :=
  let arg2 : BitVec 32 := BitVec.ofNat 32 (i 2).val
  let c256_i32 : BitVec 32 := 256#32
  let v8 : BitVec 32 := Scalar.muli arg2 c256_i32
  v8
def k0_off1 (i : grid0.Coords) : Fin 3 → Nat :=
  let c0_6 : Index := 0#32
  let arg2 : BitVec 32 := BitVec.ofNat 32 (i 2).val
  let c256_i32 : BitVec 32 := 256#32
  let v8 : BitVec 32 := Scalar.muli arg2 c256_i32
  let v9 : BitVec 32 := v8
  let v10 : Index := Scalar.indexCast v9
  let c0_7 : Index := 0#32
  ![0, v10.toNat, 0]
@[reducible] def k0_t1_loop (i : grid0.Coords) : Scf.Loop 32 :=
  let c0_i32 : BitVec 32 := 0#32
  let arg2 : BitVec 32 := BitVec.ofNat 32 (i 2).val
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_21 : BitVec 32 := 1#32
  ⟨c0_i32, v57, c1_i32_21⟩
def k0_mult2 (i : grid0.Coords) (k0_t1 : Fin (k0_t1_loop i).trips) : BitVec 32 :=
  let arg2 : BitVec 32 := BitVec.ofNat 32 (i 2).val
  let c1_i32_31 : BitVec 32 := 1#32
  let v74 : BitVec 32 := Scalar.subi arg2 c1_i32_31
  let c0_i32 : BitVec 32 := 0#32
  let c1_i32_21 : BitVec 32 := 1#32
  let arg10 : BitVec 32 := Scf.iv c0_i32 c1_i32_21 k0_t1
  let v75 : BitVec 32 := Scalar.subi v74 arg10
  let c256_i32_32 : BitVec 32 := 256#32
  let v76 : BitVec 32 := Scalar.muli v75 c256_i32_32
  v76
def k0_off2 (i : grid0.Coords) (k0_t1 : Fin (k0_t1_loop i).trips) : Fin 3 → Nat :=
  let c0_33 : Index := 0#32
  let arg2 : BitVec 32 := BitVec.ofNat 32 (i 2).val
  let c1_i32_31 : BitVec 32 := 1#32
  let v74 : BitVec 32 := Scalar.subi arg2 c1_i32_31
  let c0_i32 : BitVec 32 := 0#32
  let c1_i32_21 : BitVec 32 := 1#32
  let arg10 : BitVec 32 := Scf.iv c0_i32 c1_i32_21 k0_t1
  let v75 : BitVec 32 := Scalar.subi v74 arg10
  let c256_i32_32 : BitVec 32 := 256#32
  let v76 : BitVec 32 := Scalar.muli v75 c256_i32_32
  let v77 : BitVec 32 := v76
  let v78 : Index := Scalar.indexCast v77
  let c0_34 : Index := 0#32
  ![0, v78.toNat, 0]
@[reducible] def k0_t2_loop (i : grid0.Coords) : Scf.Loop 32 :=
  let c0_i32 : BitVec 32 := 0#32
  let arg2 : BitVec 32 := BitVec.ofNat 32 (i 2).val
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let v54 : BitVec 32 := Scalar.addi c0_i32 v53
  let c1_i32_22 : BitVec 32 := 1#32
  ⟨v57, v54, c1_i32_22⟩
def k0_mult3 (i : grid0.Coords) (k0_t2 : Fin (k0_t2_loop i).trips) : BitVec 32 :=
  let arg2 : BitVec 32 := BitVec.ofNat 32 (i 2).val
  let c1_i32_31 : BitVec 32 := 1#32
  let v74 : BitVec 32 := Scalar.subi arg2 c1_i32_31
  let c0_i32 : BitVec 32 := 0#32
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_22 : BitVec 32 := 1#32
  let arg10 : BitVec 32 := Scf.iv v57 c1_i32_22 k0_t2
  let v75 : BitVec 32 := Scalar.subi v74 arg10
  let c256_i32_32 : BitVec 32 := 256#32
  let v76 : BitVec 32 := Scalar.muli v75 c256_i32_32
  v76
def k0_off3 (i : grid0.Coords) (k0_t2 : Fin (k0_t2_loop i).trips) : Fin 3 → Nat :=
  let c0_33 : Index := 0#32
  let arg2 : BitVec 32 := BitVec.ofNat 32 (i 2).val
  let c1_i32_31 : BitVec 32 := 1#32
  let v74 : BitVec 32 := Scalar.subi arg2 c1_i32_31
  let c0_i32 : BitVec 32 := 0#32
  let v53 : BitVec 32 := Scalar.subi arg2 c0_i32
  let c1_i32 : BitVec 32 := 1#32
  let v55 : BitVec 32 := Scalar.divsi v53 c1_i32
  let v56 : BitVec 32 := Scalar.muli v55 c1_i32
  let v57 : BitVec 32 := Scalar.addi c0_i32 v56
  let c1_i32_22 : BitVec 32 := 1#32
  let arg10 : BitVec 32 := Scf.iv v57 c1_i32_22 k0_t2
  let v75 : BitVec 32 := Scalar.subi v74 arg10
  let c256_i32_32 : BitVec 32 := 256#32
  let v76 : BitVec 32 := Scalar.muli v75 c256_i32_32
  let v77 : BitVec 32 := v76
  let v78 : Index := Scalar.indexCast v77
  let c0_34 : Index := 0#32
  ![0, v78.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x4096x2048 : Shape := ⟨3, ![8, 4096, 2048]⟩
abbrev S8x4096x16x128 : Shape := ⟨4, ![8, 4096, 16, 128]⟩
abbrev S4096 : Shape := ⟨1, ![4096]⟩
abbrev S8x16x4096x4096 : Shape := ⟨4, ![8, 16, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x16x128x4096 : Shape := ⟨4, ![8, 16, 128, 4096]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .f32⟩
  | .hbm, ⟨2, _⟩ => ⟨S8x4096x2048, .f32⟩
  | .hbm, ⟨3, _⟩ => ⟨S8x4096x2048, .bf16⟩
  | .hbm, ⟨4, _⟩ => ⟨S8x4096x2048, .f32⟩
  | .hbm, ⟨5, _⟩ => ⟨S8x4096x16x128, .f32⟩
  | .hbm, ⟨6, _⟩ => ⟨S8x4096x16x128, .f32⟩
  | .hbm, ⟨7, _⟩ => ⟨S8x4096x16x128, .f32⟩
  | .hbm, ⟨8, _⟩ => ⟨S4096, .i32⟩
  | .hbm, ⟨9, _⟩ => ⟨S8x16x4096x4096, .f32⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S8x16x4096x4096, .f32⟩
  | .hbm, ⟨17, _⟩ => ⟨S8x16x4096x4096, .f32⟩
  | .hbm, ⟨18, _⟩ => ⟨S8x16x4096x4096, .f32⟩
  | .hbm, ⟨19, _⟩ => ⟨S8x16x4096x4096, .f32⟩
  | .hbm, ⟨20, _⟩ => ⟨S8x16x4096x4096, .i1⟩
  | .hbm, ⟨21, _⟩ => ⟨S8x16x4096x4096, .f32⟩
  | .hbm, ⟨22, _⟩ => ⟨S8x16x4096x4096, .f32⟩
  | .hbm, ⟨23, _⟩ => ⟨S8x16x4096x4096, .f32⟩
  | .hbm, ⟨24, _⟩ => ⟨S8x16x4096x4096, .f32⟩
  | .hbm, ⟨25, _⟩ => ⟨S8x16x4096x4096, .f32⟩
  | .hbm, ⟨26, _⟩ => ⟨S8x16x4096x4096, .f32⟩
  | .hbm, ⟨27, _⟩ => ⟨S8x16x4096x4096, .f32⟩
  | .hbm, ⟨28, _⟩ => ⟨S8x16x4096x4096, .f32⟩
  | .hbm, ⟨29, _⟩ => ⟨S_, .f32⟩
  | .hbm, ⟨30, _⟩ => ⟨S_, .f32⟩
  | .hbm, ⟨31, _⟩ => ⟨S8x16x4096x4096, .i1⟩
  | .hbm, ⟨32, _⟩ => ⟨S8x16x4096x4096, .f32⟩
  | .hbm, ⟨33, _⟩ => ⟨S8x16x4096x4096, .f32⟩
  | .hbm, ⟨34, _⟩ => ⟨S_, .f32⟩
  | .hbm, ⟨35, _⟩ => ⟨S_, .f32⟩
  | .hbm, ⟨36, _⟩ => ⟨S8x16x4096x4096, .f32⟩
  | .hbm, ⟨37, _⟩ => ⟨S8x16x4096x4096, .f32⟩
  | .hbm, ⟨38, _⟩ => ⟨S8x16x4096x4096, .f32⟩
  | .hbm, ⟨39, _⟩ => ⟨S_, .f32⟩
  | .hbm, ⟨40, _⟩ => ⟨S8x16x4096x4096, .f32⟩
  | .hbm, ⟨41, _⟩ => ⟨S8x16x4096x4096, .f32⟩
  | .hbm, ⟨42, _⟩ => ⟨S8x16x4096x4096, .f32⟩
  | .hbm, ⟨43, _⟩ => ⟨S8x16x4096x4096, .f32⟩
  | .hbm, ⟨44, _⟩ => ⟨S8x16x4096x4096, .i1⟩
  | .hbm, ⟨45, _⟩ => ⟨S8x16x4096x4096, .f32⟩
  | .hbm, ⟨46, _⟩ => ⟨S8x16x4096x4096, .f32⟩
  | .hbm, ⟨47, _⟩ => ⟨S8x16x4096x4096, .f32⟩
  | .hbm, ⟨48, _⟩ => ⟨S8x16x4096x4096, .f32⟩
  | .hbm, ⟨49, _⟩ => ⟨S8x16x4096x4096, .f32⟩
  | .hbm, ⟨50, _⟩ => ⟨S8x16x4096x4096, .f32⟩
  | .hbm, ⟨51, _⟩ => ⟨S8x16x4096x4096, .f32⟩
  | .hbm, ⟨52, _⟩ => ⟨S8x16x4096x4096, .f32⟩
  | .hbm, ⟨53, _⟩ => ⟨S8x16x4096x4096, .f32⟩
  | .hbm, ⟨54, _⟩ => ⟨S8x16x4096x4096, .f32⟩
  | .hbm, ⟨55, _⟩ => ⟨S8x16x4096x4096, .f32⟩
  | .hbm, ⟨56, _⟩ => ⟨S_, .f32⟩
  | .hbm, ⟨57, _⟩ => ⟨S_, .f32⟩
  | .hbm, ⟨58, _⟩ => ⟨S8x16x4096x4096, .i1⟩
  | .hbm, ⟨59, _⟩ => ⟨S8x16x4096x4096, .f32⟩
  | .hbm, ⟨60, _⟩ => ⟨S8x16x4096x4096, .f32⟩
  | .hbm, ⟨61, _⟩ => ⟨S8x16x128x4096, .f32⟩
  | .hbm, ⟨62, _⟩ => ⟨S8x4096x16x128, .f32⟩
  | .hbm, ⟨63, _⟩ => ⟨S8x4096x2048, .f32⟩
  | .hbm, ⟨64, _⟩ => ⟨S8x4096x2048, .f32⟩
  | .hbm, ⟨65, _⟩ => ⟨S8x4096x2048, .f32⟩
  | .hbm, ⟨66, _⟩ => ⟨S8x4096x2048, .f32⟩
  | .hbm, ⟨67, _⟩ => ⟨S_, .f32⟩
  | .hbm, ⟨68, _⟩ => ⟨S8x4096x2048, .f32⟩
  | .hbm, ⟨69, _⟩ => ⟨S8x4096x2048, .f32⟩
  | .hbm, ⟨70, _⟩ => ⟨S_, .f32⟩
  | .hbm, ⟨71, _⟩ => ⟨S8x4096x2048, .f32⟩
  | .hbm, ⟨72, _⟩ => ⟨S8x4096x2048, .f32⟩
  | .hbm, ⟨73, _⟩ => ⟨S8x4096x2048, .f32⟩
  | .hbm, ⟨74, _⟩ => ⟨S8x4096x2048, .f32⟩
  | .hbm, ⟨75, _⟩ => ⟨S8x4096x2048, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v11 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_call2_cst : Ref sig .tc := ⟨.hbm, 34, rfl⟩
abbrev main_call2_v0 : Ref sig .tc := ⟨.hbm, 35, rfl⟩
abbrev main_v13 : Ref sig .tc := ⟨.hbm, 36, rfl⟩
abbrev main_v14 : Ref sig .tc := ⟨.hbm, 37, rfl⟩
abbrev main_call3_v0 : Ref sig .tc := ⟨.hbm, 38, rfl⟩
abbrev main_call3_call0_cst : Ref sig .tc := ⟨.hbm, 39, rfl⟩
abbrev main_call3_call0_v0 : Ref sig .tc := ⟨.hbm, 40, rfl⟩
abbrev main_call3_call0_v1 : Ref sig .tc := ⟨.hbm, 41, rfl⟩
abbrev main_call3_call0_v2 : Ref sig .tc := ⟨.hbm, 42, rfl⟩
abbrev main_call3_call0_v3 : Ref sig .tc := ⟨.hbm, 43, rfl⟩
abbrev main_call3_call0_v4 : Ref sig .tc := ⟨.hbm, 44, rfl⟩
abbrev main_call3_call0_v5 : Ref sig .tc := ⟨.hbm, 45, rfl⟩
abbrev main_call3_call0_v6 : Ref sig .tc := ⟨.hbm, 46, rfl⟩
abbrev main_call3_call0_v7 : Ref sig .tc := ⟨.hbm, 47, rfl⟩
abbrev main_call3_call0_v8 : Ref sig .tc := ⟨.hbm, 48, rfl⟩
abbrev main_call3_call0_v9 : Ref sig .tc := ⟨.hbm, 49, rfl⟩
abbrev main_call3_call0_v10 : Ref sig .tc := ⟨.hbm, 50, rfl⟩
abbrev main_call3_call0_v11 : Ref sig .tc := ⟨.hbm, 51, rfl⟩
abbrev main_call3_v1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_0 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call5_v0 : Ref sig .tc := ⟨.hbm, 65, rfl⟩
abbrev main_call5_v1 : Ref sig .tc := ⟨.hbm, 66, rfl⟩
abbrev main_call5_cst : Ref sig .tc := ⟨.hbm, 67, rfl⟩
abbrev main_call5_v2 : Ref sig .tc := ⟨.hbm, 68, rfl⟩
abbrev main_call5_v3 : Ref sig .tc := ⟨.hbm, 69, rfl⟩
abbrev main_call5_cst_0 : Ref sig .tc := ⟨.hbm, 70, rfl⟩
abbrev main_call5_v4 : Ref sig .tc := ⟨.hbm, 71, rfl⟩
abbrev main_call5_v5 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩

abbrev nD : Nat := 1
abbrev τ : Topo := Topo.v7x

variable {F : FTy → Type} [FloatOps F]
-- ==== Kernel2.lean ====
abbrev S8x4096x2048 : Shape := ⟨3, ![8, 4096, 2048]⟩
abbrev S8x2048 : Shape := ⟨2, ![8, 2048]⟩
abbrev S2048 : Shape := ⟨1, ![2048]⟩
abbrev S2048x8192 : Shape := ⟨2, ![2048, 8192]⟩
abbrev S8x1x2048 : Shape := ⟨3, ![8, 1, 2048]⟩
abbrev S1x2048 : Shape := ⟨2, ![1, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1024x2048 : Shape := ⟨2, ![1024, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩

abbrev nBuf : Space → Nat
  | .hbm => 13
  | .vmem => 18
  | .smem => 0
  | _ => 0

abbrev bufTy : (tb : Table) → Fin (tcTables nBuf tb) → BufTy
  | .hbm, ⟨0, _⟩ => ⟨S8x4096x2048, .f32⟩
  | .hbm, ⟨1, _⟩ => ⟨S8x2048, .f32⟩
  | .hbm, ⟨2, _⟩ => ⟨S8x2048, .f32⟩
  | .hbm, ⟨3, _⟩ => ⟨S2048, .f32⟩
  | .hbm, ⟨4, _⟩ => ⟨S2048x8192, .f32⟩
  | .hbm, ⟨5, _⟩ => ⟨S8x1x2048, .f32⟩
  | .hbm, ⟨6, _⟩ => ⟨S8x1x2048, .f32⟩
  | .hbm, ⟨7, _⟩ => ⟨S2048x8192, .bf16⟩
  | .hbm, ⟨8, _⟩ => ⟨S1x2048, .f32⟩
  | .hbm, ⟨9, _⟩ => ⟨S8x4096x2048, .bf16⟩
  | .hbm, ⟨10, _⟩ => ⟨S8x4096x2048, .f32⟩
  | .hbm, ⟨11, _⟩ => ⟨S8x4096x2048, .f32⟩
  | .hbm, ⟨12, _⟩ => ⟨S8x4096x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .bf16⟩
  | .local _ .vmem, ⟨16, _⟩ => ⟨S1x1024x512, .bf16⟩
  | .local _ .vmem, ⟨17, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 4, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c64_i32 : BitVec 32 := 64#32
  let v27 : BitVec 32 := Scalar.addi c0_i32_12 c64_i32
  let c1_i32 : BitVec 32 := 1#32
  ⟨c0_i32_12, v27, c1_i32⟩
def k0_mult1 (k0_t1 : Fin k0_t1_loop.trips) : BitVec 32 :=
  let c0_i32_12 : BitVec 32 := 0#32
  let c1_i32 : BitVec 32 := 1#32
  let arg13 : BitVec 32 := Scf.iv c0_i32_12 c1_i32 k0_t1
  let c16_i32_14 : BitVec 32 := 16#32
  let v28 : BitVec 32 := Scalar.muli arg13 c16_i32_14
  v28
def k0_off1 (k0_t1 : Fin k0_t1_loop.trips) : Fin 3 → Nat :=
  let c0_15 : Index := 0#32
  let c0_i32_12 : BitVec 32 := 0#32
  let c1_i32 : BitVec 32 := 1#32
  let arg13 : BitVec 32 := Scf.iv c0_i32_12 c1_i32 k0_t1
  let c16_i32_14 : BitVec 32 := 16#32
  let v28 : BitVec 32 := Scalar.muli arg13 c16_i32_14
  let v29 : BitVec 32 := v28
  let v30 : Index := Scalar.indexCast v29
  let c0_16 : Index := 0#32
  ![0, v30.toNat, 0]
def k0_off2 (k0_t1 : Fin k0_t1_loop.trips) : Fin 2 → Nat :=
  let c0_i32_12 : BitVec 32 := 0#32
  let c1_i32 : BitVec 32 := 1#32
  let arg13 : BitVec 32 := Scf.iv c0_i32_12 c1_i32 k0_t1
  let c16_i32_14 : BitVec 32 := 16#32
  let v28 : BitVec 32 := Scalar.muli arg13 c16_i32_14
  let v29 : BitVec 32 := v28
  let v58 : Index := Scalar.indexCast v29
  let c0_29 : Index := 0#32
  ![v58.toNat, 0]
def k0_cond2 (i : grid0.Coords) : BitVec 1 :=
  let arg2 : BitVec 32 := BitVec.ofNat 32 (i 2).val
  let c0_i32_4 : BitVec 32 := 0#32
  let v7 : BitVec 1 := Scalar.cmpi .sge arg2 c0_i32_4
  let c4_i32 : BitVec 32 := 4#32
  let v8 : BitVec 1 := Scalar.cmpi .slt arg2 c4_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c4_i32_6 : BitVec 32 := 4#32
  let v12 : BitVec 1 := Scalar.cmpi .sge arg2 c4_i32_6
  let c8_i32 : BitVec 32 := 8#32
  let v13 : BitVec 1 := Scalar.cmpi .slt arg2 c8_i32
  let v14 : BitVec 1 := Scalar.andi v12 v13
  let v15 : BitVec 32 := Scalar.extui v14
  let c0_i32_7 : BitVec 32 := 0#32
  let v16 : BitVec 1 := Scalar.cmpi .ne v15 c0_i32_7
  v16

def k0_cond4 (i : grid0.Coords) : BitVec 1 :=
  let arg2 : BitVec 32 := BitVec.ofNat 32 (i 2).val
  let c8_i32_8 : BitVec 32 := 8#32
  let v17 : BitVec 1 := Scalar.cmpi .sge arg2 c8_i32_8
  let c12_i32 : BitVec 32 := 12#32
  let v18 : BitVec 1 := Scalar.cmpi .slt arg2 c12_i32
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c12_i32_10 : BitVec 32 := 12#32
  let v22 : BitVec 1 := Scalar.cmpi .sge arg2 c12_i32_10
  let c16_i32 : BitVec 32 := 16#32
  let v23 : BitVec 1 := Scalar.cmpi .slt arg2 c16_i32
  let v24 : BitVec 1 := Scalar.andi v22 v23
  let v25 : BitVec 32 := Scalar.extui v24
  let c0_i32_11 : BitVec 32 := 0#32
  let v26 : BitVec 1 := Scalar.cmpi .ne v25 c0_i32_11
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, arg1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel2Ideal.lean ====
variable {F : FTy → Type} [FloatOps F] [Named F]
def κ : String → Option EReal := fun
  | "s" => some (((Real.sqrt 128)⁻¹ : ℝ) : EReal)
  | _ => none
-- ==== Reference2Ideal.lean ====
abbrev S8x4096x2048 : Shape := ⟨3, ![8, 4096, 2048]⟩
abbrev S8x2048 : Shape := ⟨2, ![8, 2048]⟩
abbrev S2048 : Shape := ⟨1, ![2048]⟩
abbrev S2048x8192 : Shape := ⟨2, ![2048, 8192]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x8192 : Shape := ⟨3, ![8, 4096, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048, .f32⟩
  | .hbm, ⟨2, _⟩ => ⟨S8x2048, .f32⟩
  | .hbm, ⟨3, _⟩ => ⟨S2048, .f32⟩
  | .hbm, ⟨4, _⟩ => ⟨S2048x8192, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x4096x2048, .f32⟩
  | .hbm, ⟨26, _⟩ => ⟨S8x4096x2048, .f32⟩
  | .hbm, ⟨27, _⟩ => ⟨S8x1x2048, .f32⟩
  | .hbm, ⟨28, _⟩ => ⟨S8x4096x2048, .f32⟩
  | .hbm, ⟨29, _⟩ => ⟨S8x4096x2048, .f32⟩
  | .hbm, ⟨30, _⟩ => ⟨S8x4096x8192, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S_, .f32⟩
  | .hbm, ⟨36, _⟩ => ⟨S_, .f32⟩
  | .hbm, ⟨37, _⟩ => ⟨S8x4096x2048, .f32⟩
  | .hbm, ⟨38, _⟩ => ⟨S8x4096x2048, .f32⟩
  | .hbm, ⟨39, _⟩ => ⟨S8x4096x2048, .bf16⟩
  | .hbm, ⟨40, _⟩ => ⟨S8x4096x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel3.lean ====
abbrev S8x4096x2048 : Shape := ⟨3, ![8, 4096, 2048]⟩
abbrev S2048x2048 : Shape := ⟨2, ![2048, 2048]⟩
abbrev S8x2048 : Shape := ⟨2, ![8, 2048]⟩
abbrev S8x1x2048 : Shape := ⟨3, ![8, 1, 2048]⟩
abbrev S1x256x2048 : Shape := ⟨3, ![1, 256, 2048]⟩
abbrev S1x1x2048 : Shape := ⟨3, ![1, 1, 2048]⟩
abbrev S256x2048 : Shape := ⟨2, ![256, 2048]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S2048x2048, .bf16⟩
  | .hbm, ⟨5, _⟩ => ⟨S8x1x2048, .f32⟩
  | .hbm, ⟨6, _⟩ => ⟨S8x4096x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x256x2048, .f32⟩
  | .local _ .vmem, ⟨8, _⟩ => ⟨S1x256x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8x4096x2048 : Shape := ⟨3, ![8, 4096, 2048]⟩
abbrev S2048x2048 : Shape := ⟨2, ![2048, 2048]⟩
abbrev S8x2048 : Shape := ⟨2, ![8, 2048]⟩
abbrev S8x1x2048 : Shape := ⟨3, ![8, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S8x1x2048, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S8x4096x2048 : Shape := ⟨3, ![8, 4096, 2048]⟩
abbrev S2048x2048 : Shape := ⟨2, ![2048, 2048]⟩
abbrev S8x2048 : Shape := ⟨2, ![8, 2048]⟩
abbrev S2048 : Shape := ⟨1, ![2048]⟩
abbrev S8x1x2048 : Shape := ⟨3, ![8, 1, 2048]⟩
abbrev S1x2048 : Shape := ⟨2, ![1, 2048]⟩
abbrev S1x256x2048 : Shape := ⟨3, ![1, 256, 2048]⟩
abbrev S1x1x2048 : Shape := ⟨3, ![1, 1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S2048, .f32⟩
  | .hbm, ⟨5, _⟩ => ⟨S2048x2048, .bf16⟩
  | .hbm, ⟨6, _⟩ => ⟨S8x1x2048, .f32⟩
  | .hbm, ⟨7, _⟩ => ⟨S1x2048, .f32⟩
  | .hbm, ⟨8, _⟩ => ⟨S8x4096x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x256x2048, .f32⟩
  | .local _ .vmem, ⟨9, _⟩ => ⟨S1x256x2048, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x4096x2048 : Shape := ⟨3, ![8, 4096, 2048]⟩
abbrev S2048x2048 : Shape := ⟨2, ![2048, 2048]⟩
abbrev S8x2048 : Shape := ⟨2, ![8, 2048]⟩
abbrev S2048 : Shape := ⟨1, ![2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x2048, .f32⟩
  | .hbm, ⟨4, _⟩ => ⟨S2048, .f32⟩
  | .hbm, ⟨5, _⟩ => ⟨S8x1x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x2048, .f32⟩
  | .hbm, ⟨23, _⟩ => ⟨S8x4096x2048, .f32⟩
  | .hbm, ⟨24, _⟩ => ⟨S1x1x2048, .f32⟩
  | .hbm, ⟨25, _⟩ => ⟨S8x4096x2048, .f32⟩
  | .hbm, ⟨26, _⟩ => ⟨S8x4096x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel5.lean ====
abbrev S8x4096x2048 : Shape := ⟨3, ![8, 4096, 2048]⟩
abbrev S8x2048 : Shape := ⟨2, ![8, 2048]⟩
abbrev S2048 : Shape := ⟨1, ![2048]⟩
abbrev S2048x6160 : Shape := ⟨2, ![2048, 6160]⟩
abbrev S16x1024 : Shape := ⟨2, ![16, 1024]⟩
abbrev S1024 : Shape := ⟨1, ![1024]⟩
abbrev S2048x16 : Shape := ⟨2, ![2048, 16]⟩
abbrev S_ : Shape := ⟨0, ![]⟩
abbrev S2048x128 : Shape := ⟨2, ![2048, 128]⟩
abbrev S128x1024 : Shape := ⟨2, ![128, 1024]⟩
abbrev S8x1x2048 : Shape := ⟨3, ![8, 1, 2048]⟩
abbrev S2048x6144 : Shape := ⟨2, ![2048, 6144]⟩
abbrev S1x2048 : Shape := ⟨2, ![1, 2048]⟩
abbrev S1x1024 : Shape := ⟨2, ![1, 1024]⟩
abbrev S8x4096x1024 : Shape := ⟨3, ![8, 4096, 1024]⟩
abbrev S1x1024x2048 : Shape := ⟨3, ![1, 1024, 2048]⟩
abbrev S1x1x2048 : Shape := ⟨3, ![1, 1, 2048]⟩
abbrev S2048x512 : Shape := ⟨2, ![2048, 512]⟩
abbrev S1x1024x512 : Shape := ⟨3, ![1, 1024, 512]⟩
abbrev S1x1024x1024 : Shape := ⟨3, ![1, 1024, 1024]⟩
abbrev S1024x2048 : Shape := ⟨2, ![1024, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩
abbrev S1024x128 : Shape := ⟨2, ![1024, 128]⟩
abbrev S1024x1024 : Shape := ⟨2, ![1024, 1024]⟩

abbrev nBuf : Space → Nat
  | .hbm => 26
  | .vmem => 21
  | .smem => 0
  | _ => 0

abbrev bufTy : (tb : Table) → Fin (tcTables nBuf tb) → BufTy
  | .hbm, ⟨0, _⟩ => ⟨S8x4096x2048, .f32⟩
  | .hbm, ⟨1, _⟩ => ⟨S8x2048, .f32⟩
  | .hbm, ⟨2, _⟩ => ⟨S8x2048, .f32⟩
  | .hbm, ⟨3, _⟩ => ⟨S2048, .f32⟩
  | .hbm, ⟨4, _⟩ => ⟨S2048x6160, .f32⟩
  | .hbm, ⟨5, _⟩ => ⟨S16x1024, .f32⟩
  | .hbm, ⟨6, _⟩ => ⟨S1024, .f32⟩
  | .hbm, ⟨7, _⟩ => ⟨S2048x16, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S_, .i32⟩
  | .hbm, ⟨13, _⟩ => ⟨S_, .f32⟩
  | .hbm, ⟨14, _⟩ => ⟨S128x1024, .f32⟩
  | .hbm, ⟨15, _⟩ => ⟨S128x1024, .bf16⟩
  | .hbm, ⟨16, _⟩ => ⟨S8x1x2048, .f32⟩
  | .hbm, ⟨17, _⟩ => ⟨S8x1x2048, .f32⟩
  | .hbm, ⟨18, _⟩ => ⟨S2048x6144, .f32⟩
  | .hbm, ⟨19, _⟩ => ⟨S2048x6144, .bf16⟩
  | .hbm, ⟨20, _⟩ => ⟨S1x2048, .f32⟩
  | .hbm, ⟨21, _⟩ => ⟨S1x1024, .f32⟩
  | .hbm, ⟨22, _⟩ => ⟨S8x4096x2048, .f32⟩
  | .hbm, ⟨23, _⟩ => ⟨S8x4096x2048, .bf16⟩
  | .hbm, ⟨24, _⟩ => ⟨S8x4096x2048, .bf16⟩
  | .hbm, ⟨25, _⟩ => ⟨S8x4096x1024, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x128, .bf16⟩
  | .local _ .vmem, ⟨10, _⟩ => ⟨S128x1024, .bf16⟩
  | .local _ .vmem, ⟨11, _⟩ => ⟨S1x1024, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x1024, .f32⟩
  | .local _ .vmem, ⟨19, _⟩ => ⟨S1x1024x1024, .f32⟩
  | .local _ .vmem, ⟨20, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![8, 4, 12], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c64_i32 : BitVec 32 := 64#32
  let v25 : BitVec 32 := Scalar.addi c0_i32_11 c64_i32
  let c1_i32 : BitVec 32 := 1#32
  ⟨c0_i32_11, v25, c1_i32⟩
def k0_mult1 (k0_t1 : Fin k0_t1_loop.trips) : BitVec 32 :=
  let c0_i32_11 : BitVec 32 := 0#32
  let c1_i32 : BitVec 32 := 1#32
  let arg16 : BitVec 32 := Scf.iv c0_i32_11 c1_i32 k0_t1
  let c16_i32 : BitVec 32 := 16#32
  let v26 : BitVec 32 := Scalar.muli arg16 c16_i32
  v26
def k0_off1 (k0_t1 : Fin k0_t1_loop.trips) : Fin 3 → Nat :=
  let c0_13 : Index := 0#32
  let c0_i32_11 : BitVec 32 := 0#32
  let c1_i32 : BitVec 32 := 1#32
  let arg16 : BitVec 32 := Scf.iv c0_i32_11 c1_i32 k0_t1
  let c16_i32 : BitVec 32 := 16#32
  let v26 : BitVec 32 := Scalar.muli arg16 c16_i32
  let v27 : BitVec 32 := v26
  let v28 : Index := Scalar.indexCast v27
  let c0_14 : Index := 0#32
  ![0, v28.toNat, 0]
def k0_off2 (k0_t1 : Fin k0_t1_loop.trips) : Fin 2 → Nat :=
  let c0_i32_11 : BitVec 32 := 0#32
  let c1_i32 : BitVec 32 := 1#32
  let arg16 : BitVec 32 := Scf.iv c0_i32_11 c1_i32 k0_t1
  let c16_i32 : BitVec 32 := 16#32
  let v26 : BitVec 32 := Scalar.muli arg16 c16_i32
  let v27 : BitVec 32 := v26
  let v56 : Index := Scalar.indexCast v27
  let c0_27 : Index := 0#32
  ![v56.toNat, 0]
def k0_cond2 (i : grid0.Coords) : BitVec 1 :=
  let arg2 : BitVec 32 := BitVec.ofNat 32 (i 2).val
  let c0_i32_4 : BitVec 32 := 0#32
  let v7 : BitVec 1 := Scalar.cmpi .sge arg2 c0_i32_4
  let c4_i32 : BitVec 32 := 4#32
  let v8 : BitVec 1 := Scalar.cmpi .slt arg2 c4_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c4_i32_6 : BitVec 32 := 4#32
  let v12 : BitVec 1 := Scalar.cmpi .sge arg2 c4_i32_6
  let c8_i32 : BitVec 32 := 8#32
  let v13 : BitVec 1 := Scalar.cmpi .slt arg2 c8_i32
  let v14 : BitVec 1 := Scalar.andi v12 v13
  let v15 : BitVec 32 := Scalar.extui v14
  let c0_i32_7 : BitVec 32 := 0#32
  let v16 : BitVec 1 := Scalar.cmpi .ne v15 c0_i32_7
  v16

def k0_cond4 (i : grid0.Coords) : BitVec 1 :=
  let arg2 : BitVec 32 := BitVec.ofNat 32 (i 2).val
  let c8_i32_8 : BitVec 32 := 8#32
  let v17 : BitVec 1 := Scalar.cmpi .sge arg2 c8_i32_8
  let c12_i32 : BitVec 32 := 12#32
  let v18 : BitVec 1 := Scalar.cmpi .slt arg2 c12_i32
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c11_i32 : BitVec 32 := 11#32
  let v22 : BitVec 1 := Scalar.cmpi .eq arg2 c11_i32
  let v23 : BitVec 32 := Scalar.extui v22
  let c0_i32_10 : BitVec 32 := 0#32
  let v24 : BitVec 1 := Scalar.cmpi .ne v23 c0_i32_10
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, arg1.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== Reference5Ideal.lean ====
abbrev S8x4096x2048 : Shape := ⟨3, ![8, 4096, 2048]⟩
abbrev S8x2048 : Shape := ⟨2, ![8, 2048]⟩
abbrev S2048 : Shape := ⟨1, ![2048]⟩
abbrev S2048x6160 : Shape := ⟨2, ![2048, 6160]⟩
abbrev S16x1024 : Shape := ⟨2, ![16, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x6160 : Shape := ⟨3, ![8, 4096, 6160]⟩
abbrev S8x4096x16 : Shape := ⟨3, ![8, 4096, 16]⟩
abbrev S8x4096x1024 : Shape := ⟨3, ![8, 4096, 1024]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x2048, .f32⟩
  | .hbm, ⟨2, _⟩ => ⟨S8x2048, .f32⟩
  | .hbm, ⟨3, _⟩ => ⟨S2048, .f32⟩
  | .hbm, ⟨4, _⟩ => ⟨S2048x6160, .f32⟩
  | .hbm, ⟨5, _⟩ => ⟨S16x1024, .f32⟩
  | .hbm, ⟨6, _⟩ => ⟨S1024, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S8x1x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x4096x2048, .f32⟩
  | .hbm, ⟨28, _⟩ => ⟨S8x4096x2048, .f32⟩
  | .hbm, ⟨29, _⟩ => ⟨S8x1x2048, .f32⟩
  | .hbm, ⟨30, _⟩ => ⟨S8x4096x2048, .f32⟩
  | .hbm, ⟨31, _⟩ => ⟨S8x4096x2048, .f32⟩
  | .hbm, ⟨32, _⟩ => ⟨S8x4096x6160, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | .hbm, ⟨36, _⟩ => ⟨S8x4096x16, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .i1⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S_, .f32⟩
  | .hbm, ⟨58, _⟩ => ⟨S8x4096x1024, .f32⟩
  | .hbm, ⟨59, _⟩ => ⟨S8x4096x1024, .f32⟩
  | .hbm, ⟨60, _⟩ => ⟨S8x4096x2048, .bf16⟩
  | .hbm, ⟨61, _⟩ => ⟨S8x4096x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩

abbrev nD : Nat := 1
abbrev τ : Topo := Topo.v7x

variable {F : FTy → Type} [FloatOps F]
-- ==== Kernel6.lean ====
abbrev S8x16x2048 : Shape := ⟨3, ![8, 16, 2048]⟩
abbrev S8x2048 : Shape := ⟨2, ![8, 2048]⟩
abbrev S2048 : Shape := ⟨1, ![2048]⟩
abbrev S2048x8192 : Shape := ⟨2, ![2048, 8192]⟩
abbrev S1x128x2048 : Shape := ⟨3, ![1, 128, 2048]⟩
abbrev S8x1x2048 : Shape := ⟨3, ![8, 1, 2048]⟩
abbrev S1x2048 : Shape := ⟨2, ![1, 2048]⟩
abbrev S2048x512 : Shape := ⟨2, ![2048, 512]⟩
abbrev S1x128x512 : Shape := ⟨3, ![1, 128, 512]⟩
abbrev S128x2048 : Shape := ⟨2, ![128, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S128x512 : Shape := ⟨2, ![128, 512]⟩

abbrev nBuf : Space → Nat
  | .hbm => 22
  | .vmem => 15
  | .smem => 0
  | _ => 0

abbrev bufTy : (tb : Table) → Fin (tcTables nBuf tb) → BufTy
  | .hbm, ⟨0, _⟩ => ⟨S8x16x2048, .f32⟩
  | .hbm, ⟨1, _⟩ => ⟨S8x2048, .f32⟩
  | .hbm, ⟨2, _⟩ => ⟨S8x2048, .f32⟩
  | .hbm, ⟨3, _⟩ => ⟨S2048, .f32⟩
  | .hbm, ⟨4, _⟩ => ⟨S2048x8192, .f32⟩
  | .hbm, ⟨5, _⟩ => ⟨S1x128x2048, .f32⟩
  | .hbm, ⟨6, _⟩ => ⟨S8x1x2048, .f32⟩
  | .hbm, ⟨7, _⟩ => ⟨S8x16x2048, .f32⟩
  | .hbm, ⟨8, _⟩ => ⟨S1x128x2048, .f32⟩
  | .hbm, ⟨9, _⟩ => ⟨S8x1x2048, .f32⟩
  | .hbm, ⟨10, _⟩ => ⟨S8x16x2048, .f32⟩
  | .hbm, ⟨11, _⟩ => ⟨S1x128x2048, .f32⟩
  | .hbm, ⟨12, _⟩ => ⟨S2048x8192, .bf16⟩
  | .hbm, ⟨13, _⟩ => ⟨S1x2048, .f32⟩
  | .hbm, ⟨14, _⟩ => ⟨S1x128x2048, .bf16⟩
  | .hbm, ⟨15, _⟩ => ⟨S1x128x2048, .f32⟩
  | .hbm, ⟨16, _⟩ => ⟨S1x128x2048, .f32⟩
  | .hbm, ⟨17, _⟩ => ⟨S1x128x2048, .bf16⟩
  | .hbm, ⟨18, _⟩ => ⟨S8x16x2048, .bf16⟩
  | .hbm, ⟨19, _⟩ => ⟨S8x16x2048, .f32⟩
  | .hbm, ⟨20, _⟩ => ⟨S8x16x2048, .f32⟩
  | .hbm, ⟨21, _⟩ => ⟨S8x16x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x2048, .f32⟩
  | .local _ .vmem, ⟨4, _⟩ => ⟨S2048x512, .bf16⟩
  | .local _ .vmem, ⟨5, _⟩ => ⟨S2048x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .bf16⟩
  | .local _ .vmem, ⟨13, _⟩ => ⟨S1x128x512, .bf16⟩
  | .local _ .vmem, ⟨14, _⟩ => ⟨S128x2048, .bf16⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![1, 1, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c8_i32_13 : BitVec 32 := 8#32
  let v27 : BitVec 32 := Scalar.addi c0_i32_12 c8_i32_13
  let c1_i32 : BitVec 32 := 1#32
  ⟨c0_i32_12, v27, c1_i32⟩
def k0_mult1 (k0_t1 : Fin k0_t1_loop.trips) : BitVec 32 :=
  let c0_i32_12 : BitVec 32 := 0#32
  let c1_i32 : BitVec 32 := 1#32
  let arg13 : BitVec 32 := Scf.iv c0_i32_12 c1_i32 k0_t1
  let c16_i32_15 : BitVec 32 := 16#32
  let v28 : BitVec 32 := Scalar.muli arg13 c16_i32_15
  v28
def k0_off1 (k0_t1 : Fin k0_t1_loop.trips) : Fin 3 → Nat :=
  let c0_16 : Index := 0#32
  let c0_i32_12 : BitVec 32 := 0#32
  let c1_i32 : BitVec 32 := 1#32
  let arg13 : BitVec 32 := Scf.iv c0_i32_12 c1_i32 k0_t1
  let c16_i32_15 : BitVec 32 := 16#32
  let v28 : BitVec 32 := Scalar.muli arg13 c16_i32_15
  let v29 : BitVec 32 := v28
  let v30 : Index := Scalar.indexCast v29
  let c0_17 : Index := 0#32
  ![0, v30.toNat, 0]
def k0_off2 (k0_t1 : Fin k0_t1_loop.trips) : Fin 2 → Nat :=
  let c0_i32_12 : BitVec 32 := 0#32
  let c1_i32 : BitVec 32 := 1#32
  let arg13 : BitVec 32 := Scf.iv c0_i32_12 c1_i32 k0_t1
  let c16_i32_15 : BitVec 32 := 16#32
  let v28 : BitVec 32 := Scalar.muli arg13 c16_i32_15
  let v29 : BitVec 32 := v28
  let v58 : Index := Scalar.indexCast v29
  let c0_28 : Index := 0#32
  ![v58.toNat, 0]
def k0_cond2 (i : grid0.Coords) : BitVec 1 :=
  let arg2 : BitVec 32 := BitVec.ofNat 32 (i 2).val
  let c0_i32_4 : BitVec 32 := 0#32
  let v7 : BitVec 1 := Scalar.cmpi .sge arg2 c0_i32_4
  let c4_i32 : BitVec 32 := 4#32
  let v8 : BitVec 1 := Scalar.cmpi .slt arg2 c4_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c4_i32_6 : BitVec 32 := 4#32
  let v12 : BitVec 1 := Scalar.cmpi .sge arg2 c4_i32_6
  let c8_i32 : BitVec 32 := 8#32
  let v13 : BitVec 1 := Scalar.cmpi .slt arg2 c8_i32
  let v14 : BitVec 1 := Scalar.andi v12 v13
  let v15 : BitVec 32 := Scalar.extui v14
  let c0_i32_7 : BitVec 32 := 0#32
  let v16 : BitVec 1 := Scalar.cmpi .ne v15 c0_i32_7
  v16

def k0_cond4 (i : grid0.Coords) : BitVec 1 :=
  let arg2 : BitVec 32 := BitVec.ofNat 32 (i 2).val
  let c8_i32_8 : BitVec 32 := 8#32
  let v17 : BitVec 1 := Scalar.cmpi .sge arg2 c8_i32_8
  let c12_i32 : BitVec 32 := 12#32
  let v18 : BitVec 1 := Scalar.cmpi .slt arg2 c12_i32
  let v19 : BitVec 1 := Scalar.andi v17 v18
  let v20 : BitVec 32 := Scalar.extui v19
  let c0_i32_9 : BitVec 32 := 0#32
  let v21 : BitVec 1 := Scalar.cmpi .ne v20 c0_i32_9
  v21

def k0_cond5 (i : grid0.Coords) : BitVec 1 :=
  let arg2 : BitVec 32 := BitVec.ofNat 32 (i 2).val
  let c12_i32_10 : BitVec 32 := 12#32
  let v22 : BitVec 1 := Scalar.cmpi .sge arg2 c12_i32_10
  let c16_i32 : BitVec 32 := 16#32
  let v23 : BitVec 1 := Scalar.cmpi .slt arg2 c16_i32
  let v24 : BitVec 1 := Scalar.andi v22 v23
  let v25 : BitVec 32 := Scalar.extui v24
  let c0_i32_11 : BitVec 32 := 0#32
  let v26 : BitVec 1 := Scalar.cmpi .ne v25 c0_i32_11
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, arg1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi arg2 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, arg1.toNat, v2.toNat]

abbrev stage0_0 : Fin 1 → Memref sig .tc .vmem S1x128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel6Ideal.lean ====
variable {F : FTy → Type} [FloatOps F] [Named F]
def κ : String → Option EReal := fun
  | "s" => some (((Real.sqrt 128)⁻¹ : ℝ) : EReal)
  | _ => none
-- ==== Reference6Ideal.lean ====
abbrev S8x16x2048 : Shape := ⟨3, ![8, 16, 2048]⟩
abbrev S8x2048 : Shape := ⟨2, ![8, 2048]⟩
abbrev S2048 : Shape := ⟨1, ![2048]⟩
abbrev S2048x8192 : Shape := ⟨2, ![2048, 8192]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S8x1x2048 : Shape := ⟨3, ![8, 1, 2048]⟩
abbrev S8x16x8192 : Shape := ⟨3, ![8, 16, 8192]⟩

abbrev nBuf : Space → Nat
  | .hbm => 41
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S8x2048, .f32⟩
  | .hbm, ⟨2, _⟩ => ⟨S8x2048, .f32⟩
  | .hbm, ⟨3, _⟩ => ⟨S2048, .f32⟩
  | .hbm, ⟨4, _⟩ => ⟨S2048x8192, .f32⟩
  | .hbm, ⟨5, _⟩ => ⟨S8x16x2048, .f32⟩
  | .hbm, ⟨6, _⟩ => ⟨S_, .f32⟩
  | .hbm, ⟨7, _⟩ => ⟨S8x16, .f32⟩
  | .hbm, ⟨8, _⟩ => ⟨S8x16x1, .f32⟩
  | .hbm, ⟨9, _⟩ => ⟨S_, .f32⟩
  | .hbm, ⟨10, _⟩ => ⟨S8x16x1, .f32⟩
  | .hbm, ⟨11, _⟩ => ⟨S8x16x1, .f32⟩
  | .hbm, ⟨12, _⟩ => ⟨S_, .f32⟩
  | .hbm, ⟨13, _⟩ => ⟨S8x16x1, .f32⟩
  | .hbm, ⟨14, _⟩ => ⟨S8x16x1, .f32⟩
  | .hbm, ⟨15, _⟩ => ⟨S8x16x1, .f32⟩
  | .hbm, ⟨16, _⟩ => ⟨S8x16x2048, .f32⟩
  | .hbm, ⟨17, _⟩ => ⟨S8x16x2048, .f32⟩
  | .hbm, ⟨18, _⟩ => ⟨S1x1x2048, .f32⟩
  | .hbm, ⟨19, _⟩ => ⟨S8x16x2048, .f32⟩
  | .hbm, ⟨20, _⟩ => ⟨S8x16x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x16x2048, .f32⟩
  | .hbm, ⟨26, _⟩ => ⟨S8x16x2048, .f32⟩
  | .hbm, ⟨27, _⟩ => ⟨S8x1x2048, .f32⟩
  | .hbm, ⟨28, _⟩ => ⟨S8x16x2048, .f32⟩
  | .hbm, ⟨29, _⟩ => ⟨S8x16x2048, .f32⟩
  | .hbm, ⟨30, _⟩ => ⟨S8x16x8192, .f32⟩
  | .hbm, ⟨31, _⟩ => ⟨S8x16x2048, .f32⟩
  | .hbm, ⟨32, _⟩ => ⟨S8x16x2048, .f32⟩
  | .hbm, ⟨33, _⟩ => ⟨S8x16x2048, .f32⟩
  | .hbm, ⟨34, _⟩ => ⟨S8x16x2048, .f32⟩
  | .hbm, ⟨35, _⟩ => ⟨S_, .f32⟩
  | .hbm, ⟨36, _⟩ => ⟨S_, .f32⟩
  | .hbm, ⟨37, _⟩ => ⟨S8x16x2048, .f32⟩
  | .hbm, ⟨38, _⟩ => ⟨S8x16x2048, .f32⟩
  | .hbm, ⟨39, _⟩ => ⟨S8x16x2048, .bf16⟩
  | .hbm, ⟨40, _⟩ => ⟨S8x16x2048, .bf16⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel7.lean ====
abbrev S8x16x2048 : Shape := ⟨3, ![8, 16, 2048]⟩
abbrev S2048x2048 : Shape := ⟨2, ![2048, 2048]⟩
abbrev S8x2048 : Shape := ⟨2, ![8, 2048]⟩
abbrev S2048 : Shape := ⟨1, ![2048]⟩
abbrev S1x128x2048 : Shape := ⟨3, ![1, 128, 2048]⟩
abbrev S8x1x2048 : Shape := ⟨3, ![8, 1, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 14
  | .vmem => 6
  | .smem => 0
  | _ => 0

abbrev bufTy : (tb : Table) → Fin (tcTables nBuf tb) → BufTy
  | .hbm, ⟨0, _⟩ => ⟨S8x16x2048, .bf16⟩
  | .hbm, ⟨1, _⟩ => ⟨S2048x2048, .f32⟩
  | .hbm, ⟨2, _⟩ => ⟨S8x16x2048, .f32⟩
  | .hbm, ⟨3, _⟩ => ⟨S8x2048, .f32⟩
  | .hbm, ⟨4, _⟩ => ⟨S2048, .f32⟩
  | .hbm, ⟨5, _⟩ => ⟨S1x128x2048, .bf16⟩
  | .hbm, ⟨6, _⟩ => ⟨S2048x2048, .bf16⟩
  | .hbm, ⟨7, _⟩ => ⟨S1x128x2048, .f32⟩
  | .hbm, ⟨8, _⟩ => ⟨S8x1x2048, .f32⟩
  | .hbm, ⟨9, _⟩ => ⟨S8x16x2048, .f32⟩
  | .hbm, ⟨10, _⟩ => ⟨S1x128x2048, .f32⟩
  | .hbm, ⟨11, _⟩ => ⟨S1x2048, .f32⟩
  | .hbm, ⟨12, _⟩ => ⟨S1x128x2048, .f32⟩
  | .hbm, ⟨13, _⟩ => ⟨S8x16x2048, .f32⟩
  | .local _ .vmem, ⟨0, _⟩ => ⟨S1x128x2048, .bf16⟩
  | .local _ .vmem, ⟨1, _⟩ => ⟨S2048x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x2048, .f32⟩
  | .local _ .vmem, ⟨5, _⟩ => ⟨S1x128x2048, .f32⟩
  | _, _ => ⟨S8x16x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference7Ideal.lean ====
abbrev S8x16x2048 : Shape := ⟨3, ![8, 16, 2048]⟩
abbrev S2048x2048 : Shape := ⟨2, ![2048, 2048]⟩
abbrev S8x2048 : Shape := ⟨2, ![8, 2048]⟩
abbrev S2048 : Shape := ⟨1, ![2048]⟩
abbrev S8x1x2048 : Shape := ⟨3, ![8, 1, 2048]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8x16x2048, .bf16⟩
  | .hbm, ⟨1, _⟩ => ⟨S2048x2048, .f32⟩
  | .hbm, ⟨2, _⟩ => ⟨S8x16x2048, .f32⟩
  | .hbm, ⟨3, _⟩ => ⟨S8x2048, .f32⟩
  | .hbm, ⟨4, _⟩ => ⟨S2048, .f32⟩
  | .hbm, ⟨5, _⟩ => ⟨S8x1x2048, .f32⟩
  | .hbm, ⟨6, _⟩ => ⟨S8x16x2048, .f32⟩
  | .hbm, ⟨7, _⟩ => ⟨S8x16x2048, .f32⟩
  | .hbm, ⟨8, _⟩ => ⟨S8x16x2048, .f32⟩
  | .hbm, ⟨9, _⟩ => ⟨S8x16x2048, .f32⟩
  | .hbm, ⟨10, _⟩ => ⟨S8x16x2048, .f32⟩
  | .hbm, ⟨11, _⟩ => ⟨S8x16x2048, .f32⟩
  | .hbm, ⟨12, _⟩ => ⟨S_, .f32⟩
  | .hbm, ⟨13, _⟩ => ⟨S8x16, .f32⟩
  | .hbm, ⟨14, _⟩ => ⟨S8x16x1, .f32⟩
  | .hbm, ⟨15, _⟩ => ⟨S_, .f32⟩
  | .hbm, ⟨16, _⟩ => ⟨S8x16x1, .f32⟩
  | .hbm, ⟨17, _⟩ => ⟨S8x16x1, .f32⟩
  | .hbm, ⟨18, _⟩ => ⟨S_, .f32⟩
  | .hbm, ⟨19, _⟩ => ⟨S8x16x1, .f32⟩
  | .hbm, ⟨20, _⟩ => ⟨S8x16x1, .f32⟩
  | .hbm, ⟨21, _⟩ => ⟨S8x16x1, .f32⟩
  | .hbm, ⟨22, _⟩ => ⟨S8x16x2048, .f32⟩
  | .hbm, ⟨23, _⟩ => ⟨S8x16x2048, .f32⟩
  | .hbm, ⟨24, _⟩ => ⟨S1x1x2048, .f32⟩
  | .hbm, ⟨25, _⟩ => ⟨S8x16x2048, .f32⟩
  | .hbm, ⟨26, _⟩ => ⟨S8x16x2048, .f32⟩
  | _, _ => ⟨S8x16x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.Scalar.lean ====
/-
  The real numbers of stick-breaking attention: the softplus of a finite score, the log-sigmoid identity, and one row's
  running sums over blocks of keys, as sums over ranges of key positions. Nothing here names a program.
-/
module

public import Idealize.ShloMosaic.PureOps.Ideal.Laws
public import Idealize.ShloMosaic.Lib.IdealHost
public import Idealize.ShloMosaic.Lib.ValueIdx

@[expose] public section

noncomputable section

namespace Cert.Stick

open Idealize.ShloMosaic

/-- The softplus of a real number, in the stable form both programs use. -/
def spl (x : ℝ) : ℝ := max x 0 + Real.log (1 + Real.exp (-|x|))

/-- `softplus x - softplus (-x) = x`. -/
theorem spl_sub_neg (x : ℝ) : spl x - spl (-x) = x := by
  unfold spl
  rw [abs_neg]
  rcases le_total 0 x with h | h
  · rw [max_eq_left h, max_eq_right (by linarith)]; ring
  · rw [max_eq_right h, max_eq_left (by linarith)]; ring

/-- The larger of two reals is the larger of the two as extended reals. -/
theorem coe_max (x y : ℝ) : max (x : EReal) (y : EReal) = ((max x y : ℝ) : EReal) :=
  (EReal.coe_strictMono.monotone.map_max (a := x) (b := y)).symm

/-- A sum of reals is their sum as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The magnitude `max x (-x)` of a real. -/
theorem coe_abs (x : ℝ) : max (x : EReal) (-(x : EReal)) = ((|x| : ℝ) : EReal) := by
  rw [← EReal.coe_neg, coe_max]; rfl

/-- The logarithm of `1 + exp (-|x|)` is a real number. -/
theorem log_one_add_exp (x : ℝ) :
    Ideal.log (1 + Ideal.exp ((-|x| : ℝ) : EReal)) = ((Real.log (1 + Real.exp (-|x|)) : ℝ) : EReal) := by
  rw [Ideal.exp_coe, ← EReal.coe_one, ← EReal.coe_add, Ideal.log_coe, if_neg]
  have := Real.exp_pos (-|x|)
  linarith

/-- The kernel's softplus at a real score. -/
theorem kernel_softplus (x : ℝ) :
    max (x : EReal) 0 + Ideal.log (1 + Ideal.exp (0 - max (x : EReal) (-(x : EReal)))) = ((spl x : ℝ) : EReal) := by
  rw [coe_abs, zero_sub, ← EReal.coe_neg, log_one_add_exp, ← EReal.coe_zero, coe_max, ← EReal.coe_add]
  rfl

/-- The reference's softplus at a real score. -/
theorem host_softplus (x : ℝ) :
    max (x : EReal) 0 + Ideal.log1p (Ideal.exp (-max ((x : EReal) - 0) (-((x : EReal) - 0)))) = ((spl x : ℝ) : EReal) := by
  rw [sub_zero, coe_abs, ← EReal.coe_neg]
  unfold Ideal.log1p
  rw [log_one_add_exp, ← EReal.coe_zero, coe_max, ← EReal.coe_add]
  rfl

/-- A product of a block's softplus values with a weight column, taken once on their high parts and once on their low
    parts: over the reals the low parts are zero. -/
theorem split_sum {N : ℕ} (σ w : Fin N → ℝ) (S W : Fin N → EReal) (hS : ∀ u, S u = ((σ u : ℝ) : EReal)) (hW : ∀ u, W u = ((w u : ℝ) : EReal)) :
    (0 + ∑ u, S u * W u) + (0 + ∑ u, (S u - S u) * W u) = ((∑ u, σ u * w u : ℝ) : EReal) := by
  have h1 : ∀ u, S u * W u = ((σ u * w u : ℝ) : EReal) := fun u => by rw [hS, hW, EReal.coe_mul]
  have h2 : ∀ u, (S u - S u) * W u = ((0 : ℝ) : EReal) := fun u => by
    rw [hS, hW, ← EReal.coe_sub, ← EReal.coe_mul, sub_self, zero_mul]
  rw [Finset.sum_congr rfl fun u _ => h1 u, Finset.sum_congr rfl fun u _ => h2 u, coe_sum, coe_sum]
  simp

/-- A sum over the block's positions from `s` on is the sum over a range of key positions. -/
theorem sum_from {N : ℕ} {M : Type*} [AddCommMonoid M] (f : ℕ → M) (n0 s : ℕ) :
    (∑ u : Fin N, if s ≤ u.val then f (n0 + u.val) else 0) = ∑ n ∈ Finset.Ico (n0 + s) (n0 + N), f n := by
  rw [Fin.sum_univ_eq_sum_range (fun u => if s ≤ u then f (n0 + u) else 0) N, ← Finset.sum_filter]
  refine Finset.sum_bij (fun u _ => n0 + u) ?_ ?_ ?_ ?_
  · intro u hu
    simp only [Finset.mem_filter, Finset.mem_range] at hu
    simp only [Finset.mem_Ico]; omega
  · intro a _ b _ h; omega
  · intro n hn
    simp only [Finset.mem_Ico] at hn
    exact ⟨n - n0, by simp only [Finset.mem_filter, Finset.mem_range]; omega, by omega⟩
  · intro u _; rfl

/-- The same with the positions at or past `r` left out. -/
theorem sum_from_below {N : ℕ} {M : Type*} [AddCommMonoid M] (f : ℕ → M) (n0 s r : ℕ) (hr : r ≤ N) :
    (∑ u : Fin N, if s ≤ u.val ∧ u.val < r then f (n0 + u.val) else 0) = ∑ n ∈ Finset.Ico (n0 + s) (n0 + r), f n := by
  rw [Fin.sum_univ_eq_sum_range (fun u => if s ≤ u ∧ u < r then f (n0 + u) else 0) N, ← Finset.sum_filter]
  refine Finset.sum_bij (fun u _ => n0 + u) ?_ ?_ ?_ ?_
  · intro u hu
    simp only [Finset.mem_filter, Finset.mem_range] at hu
    simp only [Finset.mem_Ico]; omega
  · intro a _ b _ h; omega
  · intro n hn
    simp only [Finset.mem_Ico] at hn
    exact ⟨n - n0, by simp only [Finset.mem_filter, Finset.mem_range]; omega, by omega⟩
  · intro u _; rfl

/-- The weight of key `n` for the query at position `t`, whose scores are `f`: `exp` of the score minus the softplus of
    every score from `n` up to the query. -/
def wt (f : ℕ → ℝ) (t n : ℕ) : ℝ := Real.exp (f n - ∑ j ∈ Finset.Ico n t, spl (f j))

/-- The softplus values of the keys from `n` up to the query. -/
def run (f : ℕ → ℝ) (t n : ℕ) : ℝ := ∑ j ∈ Finset.Ico n t, spl (f j)

/-- The weighted values of the keys from `n` up to the query. -/
def acc (f : ℕ → ℝ) (g : ℕ → EReal) (t n : ℕ) : EReal := ∑ j ∈ Finset.Ico n t, ((wt f t j : ℝ) : EReal) * g j

/-- One more block of `N` keys before `n0 + N`. -/
theorem run_block {N : ℕ} (f : ℕ → ℝ) (t n0 : ℕ) (h : n0 + N ≤ t) :
    run f t (n0 + N) + ∑ u : Fin N, spl (f (n0 + u.val)) = run f t n0 := by
  unfold run
  have := sum_from (N := N) (fun n => spl (f n)) n0 0
  simp only [Nat.zero_le, if_true, Nat.add_zero] at this
  rw [this, add_comm]
  exact Finset.sum_Ico_consecutive _ (by omega) h

theorem acc_block {N : ℕ} (f : ℕ → ℝ) (g : ℕ → EReal) (t n0 : ℕ) (h : n0 + N ≤ t) :
    acc f g t (n0 + N) + ∑ u : Fin N, ((wt f t (n0 + u.val) : ℝ) : EReal) * g (n0 + u.val) = acc f g t n0 := by
  unfold acc
  have := sum_from (N := N) (fun n => ((wt f t n : ℝ) : EReal) * g n) n0 0
  simp only [Nat.zero_le, if_true, Nat.add_zero] at this
  rw [this, add_comm]
  exact Finset.sum_Ico_consecutive _ (by omega) h

/-- Inside a block that lies before the query: the block's keys from `s` on and the later keys together are the keys from
    `s` up to the query. -/
theorem wt_block {N : ℕ} (f : ℕ → ℝ) (t n0 s : ℕ) (hs : s < N) (h : n0 + N ≤ t) :
    Real.exp (f (n0 + s) - (∑ u : Fin N, spl (f (n0 + u.val)) * (if s ≤ u.val then 1 else 0)) - run f t (n0 + N)) = wt f t (n0 + s) := by
  unfold wt run
  have := sum_from (N := N) (fun n => spl (f n)) n0 s
  simp only [mul_ite, mul_one, mul_zero]
  rw [this, sub_sub, Finset.sum_Ico_consecutive _ (by omega) h]

/-- Inside the query's own block, where the keys at or after the query count zero. -/
theorem wt_diag {N : ℕ} (f : ℕ → ℝ) (n0 s r : ℕ) (hr : r < N) :
    Real.exp (f (n0 + s) - (∑ u : Fin N, (if u.val < r then spl (f (n0 + u.val)) else 0) * (if s ≤ u.val then 1 else 0)) - 0) = wt f (n0 + r) (n0 + s) := by
  unfold wt
  have := sum_from_below (N := N) (fun n => spl (f n)) n0 s r hr.le
  rw [sub_zero, ← this]
  congr 2
  refine Finset.sum_congr rfl fun u _ => ?_
  by_cases h1 : s ≤ u.val <;> by_cases h2 : u.val < r <;> simp [h1, h2]

theorem run_diag {N : ℕ} (f : ℕ → ℝ) (n0 r : ℕ) (hr : r < N) :
    (∑ u : Fin N, (if u.val < r then spl (f (n0 + u.val)) else 0)) = run f (n0 + r) n0 := by
  unfold run
  have := sum_from_below (N := N) (fun n => spl (f n)) n0 0 r hr.le
  simp only [Nat.zero_le, true_and, Nat.add_zero] at this
  exact this

theorem acc_diag {N : ℕ} (f : ℕ → ℝ) (g : ℕ → EReal) (n0 r : ℕ) (hr : r < N) :
    (∑ u : Fin N, (if u.val < r then ((wt f (n0 + r) (n0 + u.val) : ℝ) : EReal) else 0) * g (n0 + u.val)) = acc f g (n0 + r) n0 := by
  unfold acc
  have := sum_from_below (N := N) (fun n => ((wt f (n0 + r) n : ℝ) : EReal) * g n) n0 0 r hr.le
  simp only [Nat.zero_le, true_and, Nat.add_zero] at this
  rw [← this]
  refine Finset.sum_congr rfl fun u _ => ?_
  by_cases h2 : u.val < r <;> simp [h2]

/-- The reference's exponent is the kernel's: with `C` the softplus values of the keys from `n` up to the query, the
    log-sigmoid of the score minus (`C` less the key's own softplus) is the score minus `C`. -/
theorem ref_exponent (x C : ℝ) : -spl (-x) - (C - spl x) = x - C := by
  have := spl_sub_neg x
  linarith

/-- The silu quotient is the product with the sigmoid: `1 + exp (-x)` is never zero. -/
theorem silu_eq (x : EReal) : Ideal.div x (1 + Ideal.exp (0 - x)) = x * Ideal.div 1 (1 + Ideal.exp (-x)) := by
  have hne : (1 : EReal) + Ideal.exp (-x) ≠ 0 := by
    have h0 : (0 : EReal) ≤ Ideal.exp (-x) := by
      induction (-x) using EReal.rec with
      | bot => simp
      | top => simp
      | coe r => rw [Ideal.exp_coe]; exact_mod_cast (Real.exp_pos r).le
    have : (0 : EReal) < 1 + Ideal.exp (-x) := lt_of_lt_of_le (by norm_num) (le_add_of_nonneg_right h0)
    exact this.ne'
  rw [zero_sub]
  unfold Ideal.div
  rw [if_neg hne, if_neg hne, one_mul]

end Cert.Stick

end
-- ==== Proof.Block.lean ====
/-
  What one block of the attention kernel computes, read at an index: the payloads of the diagonal block and of a block
  before it, over finite scores.
-/
module

public import proofs.«01_k».proof.Proof.Scalar
public import proofs.«01_k».proof.Proof.Gen.KernelIdeal.Frame
public import Idealize.ShloMosaic.Lib.MatmulPlain
public import Idealize.ShloMosaic.Lib.ValueLayout
public import Idealize.ShloMosaic.Lib.Pipeline.Value
public import Idealize.ShloMosaic.Lib.Pointwise.Elementwise

@[expose] public section

noncomputable section

namespace Cert.Attn

open Cert.KernelIdeal Cert.KernelIdeal.Gen Cert.Stick Idealize.ShloMosaic Idealize.ShloMosaic.ValueIdx Idealize.SL.Sem

/-- The scores: a product with the keys transposed. -/
theorem mm_qk (a : FVec Ideal S256x128 .bf16) (b : FVec Ideal S256x128 .bf16) (r s : Fin 256) :
    matmul dot_S256x128_S256x128_S256x256_1_1_0_0_n_n none a b (constant S256x256 .f32 0x00000000#32) (ix2 r s)
      = ∑ d : Fin 128, a (ix2 r d) * b (ix2 s d) := by
  refine (Ideal.matmul_transposedRhs_apply none a b _ r s).trans ?_
  rw [constant_apply, Ideal.ofBits_zero_f32, zero_add]

theorem mm_tri (a : FVec Ideal S256x256 .bf16) (b : FVec Ideal S256x256 .bf16) (r s : Fin 256) :
    matmul dot_S256x256_S256x256_S256x256_1_0_0_1_n_n none a b (constant S256x256 .f32 0x00000000#32) (ix2 r s)
      = 0 + ∑ u : Fin 256, a (ix2 r u) * b (ix2 u s) := by
  refine (Ideal.matmul_plain_apply none a b _ r s).trans ?_
  rw [constant_apply, Ideal.ofBits_zero_f32]

theorem mm_lanes (a : FVec Ideal S256x256 .bf16) (b : FVec Ideal S256x128 .bf16) (r : Fin 256) (l : Fin 128) :
    matmul dot_S256x256_S256x128_S256x128_1_0_0_1_n_n none a b (constant S256x128 .f32 0x00000000#32) (ix2 r l)
      = 0 + ∑ u : Fin 256, a (ix2 r u) * b (ix2 u l) := by
  refine (Ideal.matmul_plain_apply none a b _ r l).trans ?_
  rw [constant_apply, Ideal.ofBits_zero_f32]

/-- Two copies of a row whose lanes all hold one number, side by side, hold it everywhere. -/
theorem wide_apply (x : FVec Ideal S256x128 .f32) (c : EReal) (r s : Fin 256) (hx : ∀ l : Fin 128, x (ix2 r l) = c) :
    concatenate S256x256 1 [⟨S256x128, x⟩, ⟨S256x128, x⟩] concatenates_S256x128_S256x128_S256x256_d1 (ix2 r s) = c := by
  by_cases h : s.val < 128
  · refine (concatenate_pair_apply_left 1 x x _ (ix2 r s) rfl (ix2 r ⟨s.val, h⟩) ?_).trans (hx _)
    intro b; fin_cases b <;> rfl
  · refine (concatenate_pair_apply_right 1 x x _ (ix2 r s) rfl rfl (ix2 r ⟨s.val - 128, by omega⟩) ?_ ?_).trans (hx _)
    · intro b hb; fin_cases b
      · rfl
      · exact absurd rfl hb
    · show s.val - 128 + 128 = s.val
      omega

/-- The weight column of the triangular product. -/
def triW (s u : Fin 256) : ℝ := if s.val ≤ u.val then 1 else 0

variable (q : FVec Ideal S256x128 .bf16) (kb vb : Vec Ideal S1x256x128 .f32) (tri : FVec Ideal S256x256 .bf16)
  (ones : FVec Ideal S256x128 .bf16) (o run : FVec Ideal S256x128 .f32) (ζ : Fin 256 → Fin 256 → ℝ) (ρ : Fin 256 → ℝ)

theorem pay3_apply (r s : Fin 256) : k0_pay3 q kb (ix2 r s) = ∑ d : Fin 128, q (ix2 r d) * kb (ix3 (0 : Fin 1) s d) := by
  unfold k0_pay3
  rw [mm_qk]
  refine Finset.sum_congr rfl fun d _ => ?_
  rw [truncf_apply, shapeCast_1ab_ab_apply]

variable (hζ : ∀ r s : Fin 256, ∑ d : Fin 128, q (ix2 r d) * kb (ix3 (0 : Fin 1) s d) = ((ζ r s : ℝ) : EReal))
  (htri : ∀ u s : Fin 256, tri (ix2 u s) = ((triW s u : ℝ) : EReal))
  (hones : ∀ (u : Fin 256) (l : Fin 128), ones (ix2 u l) = ((1 : ℝ) : EReal))
  (hrun : ∀ (r : Fin 256) (l : Fin 128), run (ix2 r l) = ((ρ r : ℝ) : EReal))

include hζ in
theorem pay4_apply (r s : Fin 256) : k0_pay4 q kb (ix2 r s) = ((spl (ζ r s) : ℝ) : EReal) := by
  have hz := (pay3_apply q kb r s).trans (hζ r s)
  unfold k0_pay4
  rw [← kernel_softplus, ← hz]
  show max _ (Ideal.ofBits .f32 0x00000000#32) + Ideal.log (Ideal.ofBits .f32 0x3F800000#32 + Ideal.exp (Ideal.ofBits .f32 0x00000000#32 - max _ (- _))) = _
  rw [Ideal.ofBits_zero_f32, Ideal.ofBits_one_f32]

include hζ in
theorem pay5_apply (r s : Fin 256) : k0_pay5 q kb (ix2 r s) = ((spl (ζ r s) : ℝ) : EReal) := pay4_apply q kb ζ hζ r s

theorem pay6_apply (r s : Fin 256) : k0_pay6 q kb (ix2 r s) = k0_pay5 q kb (ix2 r s) - k0_pay5 q kb (ix2 r s) := rfl

include hζ htri hrun in
theorem pay7_apply (r : Fin 256) (d : Fin 128) :
    k0_pay7 q tri o run kb vb (ix2 r d) = o (ix2 r d)
      + ∑ s : Fin 256, ((Real.exp (ζ r s - (∑ u : Fin 256, spl (ζ r u) * triW s u) - ρ r) : ℝ) : EReal) * vb (ix3 (0 : Fin 1) s d) := by
  unfold k0_pay7
  rw [addf_apply, mm_lanes, zero_add]
  refine congrArg (o (ix2 r d) + ·) (Finset.sum_congr rfl fun s _ => ?_)
  have hv : (truncf .bf16 (shapeCast S256x128 vb shapeCasts_S1x256x128_S256x128 : FVec Ideal S256x128 .f32) bitsLt_bf16_f32 : FVec Ideal S256x128 .bf16) (ix2 s d)
      = vb (ix3 (0 : Fin 1) s d) := shapeCast_1ab_ab_apply _ _ _ _
  rw [hv]
  refine congrArg (· * vb (ix3 (0 : Fin 1) s d)) ?_
  show Ideal.exp (k0_pay3 q kb (ix2 r s) - (_ + _) - _) = _
  rw [wide_apply run _ r s (hrun r), mm_tri, mm_tri, (pay3_apply q kb r s).trans (hζ r s)]
  have := split_sum (fun u => spl (ζ r u)) (fun u => triW s u) (fun u => k0_pay5 q kb (ix2 r u)) (fun u => tri (ix2 u s))
    (fun u => pay5_apply q kb ζ hζ r u) (fun u => htri u s)
  simp only [pay6_apply]
  rw [this, ← EReal.coe_sub, ← EReal.coe_sub, Ideal.exp_coe]

include hζ hones in
theorem pay8_apply (r : Fin 256) (l : Fin 128) :
    k0_pay8 q ones run kb (ix2 r l) = run (ix2 r l) + ((∑ u : Fin 256, spl (ζ r u) : ℝ) : EReal) := by
  unfold k0_pay8
  rw [addf_apply, addf_apply, mm_lanes, mm_lanes]
  have := split_sum (fun u => spl (ζ r u)) (fun _ => 1) (fun u => k0_pay5 q kb (ix2 r u)) (fun u => ones (ix2 u l))
    (fun u => pay5_apply q kb ζ hζ r u) (fun u => hones u l)
  simp only [pay6_apply]
  simp only [mul_one] at this
  exact congrArg (run (ix2 r l) + ·) this

/-! ## The diagonal block -/

/-- The mask: a key strictly before the query. -/
theorem pay21_apply {α : Type} (r s : Fin 256) (x y : α) :
    Scalar.select (k0_pay21 (ix2 r s)) x y = if s.val < r.val then x else y := by
  have : k0_pay21 (ix2 r s) = BitVec.ofBool (decide (s.val < r.val)) := by
    unfold k0_pay21

    rw [cmpi_apply, iota_single_apply, iota_single_apply]
    show IntOp.cmpi .slt (BitVec.ofNat 32 s.val) (BitVec.ofNat 32 r.val) = _
    have hs := s.isLt; have hr := r.isLt
    show BitVec.ofBool (BitVec.slt _ _) = _
    congr 1
    rw [BitVec.slt_eq_decide]
    congr 1
    rw [BitVec.toInt_eq_toNat_of_lt (by simp; omega), BitVec.toInt_eq_toNat_of_lt (by simp; omega)]
    simp only [BitVec.toNat_ofNat, eq_iff_iff]
    omega
  rw [this]
  by_cases h : s.val < r.val <;> simp [h, Scalar.select]

variable (q0 : Vec Ideal S1x256x128 .bf16)

theorem pay16_apply (r : Fin 256) (d : Fin 128) : k0_pay16 q0 (ix2 r d) = q0 (ix3 (0 : Fin 1) r d) := shapeCast_1ab_ab_apply _ _ _ _

theorem pay19_apply (r : Fin 256) (d : Fin 128) : k0_pay19 vb (ix2 r d) = vb (ix3 (0 : Fin 1) r d) := by
  unfold k0_pay19
  exact shapeCast_1ab_ab_apply _ _ _ _

theorem pay20_apply (i : S256x128.Idx) : k0_pay20 (F := Ideal) i = 0 := Ideal.ofBits_zero_f32

theorem pay22_eq : k0_pay22 q0 kb = k0_pay3 (k0_pay16 q0) kb := rfl

variable (hζ0 : ∀ r s : Fin 256, ∑ d : Fin 128, k0_pay16 q0 (ix2 r d) * kb (ix3 (0 : Fin 1) s d) = ((ζ r s : ℝ) : EReal))

/-- The softplus values of the diagonal block: zero at the keys that are not before the query. -/
def splM (ζ : Fin 256 → Fin 256 → ℝ) (r u : Fin 256) : ℝ := if u.val < r.val then spl (ζ r u) else 0

include hζ0 in
theorem pay23_apply (r s : Fin 256) : k0_pay23 q0 kb (ix2 r s) = ((splM ζ r s : ℝ) : EReal) := by
  have h4 := pay4_apply (k0_pay16 q0) kb ζ hζ0 r s
  have : k0_pay23 q0 kb = select k0_pay21 (k0_pay4 (k0_pay16 q0) kb) (broadcast S256x256 (Scalar.ofBits .f32 0x00000000#32)) := rfl
  rw [this, select_apply, pay21_apply, h4]
  unfold splM
  split
  · rfl
  · exact Ideal.ofBits_zero_f32

include hζ0 in
theorem pay24_apply (r s : Fin 256) : k0_pay24 q0 kb (ix2 r s) = ((splM ζ r s : ℝ) : EReal) := pay23_apply kb ζ q0 hζ0 r s

theorem pay25_apply (r s : Fin 256) : k0_pay25 q0 kb (ix2 r s) = k0_pay24 q0 kb (ix2 r s) - k0_pay24 q0 kb (ix2 r s) := rfl

include hζ0 htri in
theorem pay1_apply (r : Fin 256) (d : Fin 128) (tri0 : Vec Ideal S256x256 .bf16) (ht : k0_pay17 tri0 = tri) :
    k0_pay1 tri (k0_pay19 vb) k0_pay20 k0_pay21 (k0_pay22 q0 kb) (k0_pay25 q0 kb) (k0_pay26 q0 tri0 kb) (ix2 r d)
      = ∑ s : Fin 256, (if s.val < r.val then ((Real.exp (ζ r s - (∑ u : Fin 256, splM ζ r u * triW s u) - 0) : ℝ) : EReal) else 0)
          * vb (ix3 (0 : Fin 1) s d) := by
  unfold k0_pay1
  rw [addf_apply, mm_lanes, pay20_apply]
  refine (zero_add _).trans ((zero_add _).trans ?_)
  refine Finset.sum_congr rfl fun s _ => ?_
  rw [pay19_apply]
  refine congrArg (· * vb (ix3 (0 : Fin 1) s d)) ?_
  show Scalar.select (k0_pay21 (ix2 r s)) _ _ = _
  rw [pay21_apply]
  by_cases h : s.val < r.val
  · rw [if_pos h, if_pos h]
    show Ideal.exp (k0_pay22 q0 kb (ix2 r s) - (_ + _) - _) = _
    rw [wide_apply k0_pay20 0 r s (fun l => pay20_apply _), mm_tri, pay22_eq, (pay3_apply _ kb r s).trans (hζ0 r s)]
    have h26 : k0_pay26 q0 tri0 kb (ix2 r s) = 0 + ∑ u : Fin 256, k0_pay24 q0 kb (ix2 r u) * tri (ix2 u s) := by
      unfold k0_pay26
      rw [mm_tri, ht]
    have := split_sum (fun u => splM ζ r u) (fun u => triW s u) (fun u => k0_pay24 q0 kb (ix2 r u)) (fun u => tri (ix2 u s))
      (fun u => pay24_apply kb ζ q0 hζ0 r u) (fun u => htri u s)
    simp only [pay25_apply]
    rw [h26, this, ← EReal.coe_sub, ← EReal.coe_zero, ← EReal.coe_sub, Ideal.exp_coe]
  · rw [if_neg h, if_neg h]
    exact Ideal.ofBits_zero_f32

include hζ0 hones in
theorem pay2_apply (r : Fin 256) (l : Fin 128) :
    k0_pay2 ones k0_pay20 (k0_pay24 q0 kb) (k0_pay25 q0 kb) (ix2 r l) = ((∑ u : Fin 256, splM ζ r u : ℝ) : EReal) := by
  unfold k0_pay2
  rw [addf_apply, addf_apply, mm_lanes, mm_lanes, pay20_apply]
  refine (zero_add _).trans ?_
  have := split_sum (fun u => splM ζ r u) (fun _ => 1) (fun u => k0_pay24 q0 kb (ix2 r u)) (fun u => ones (ix2 u l))
    (fun u => pay24_apply kb ζ q0 hζ0 r u) (fun u => hones u l)
  simp only [pay25_apply]
  simp only [mul_one] at this
  exact this

/-- The tile the kernel stores: the weighted values times the silu of the gate. -/
theorem pay15_apply (zg : Vec Ideal S1x256x128 .bf16) (u : Fin 1) (r : Fin 256) (d : Fin 128) :
    k0_pay15 o zg (ix3 u r d)
      = o (ix2 r d) * Ideal.div (zg (ix3 (0 : Fin 1) r d)) (1 + Ideal.exp (0 - zg (ix3 (0 : Fin 1) r d))) := by
  unfold k0_pay15
  rw [shapeCast_ab_1ab_apply]
  have h : shapeCast S256x128 zg shapeCasts_S1x256x128_S256x128 (ix2 r d) = zg (ix3 (0 : Fin 1) r d) := shapeCast_1ab_ab_apply _ _ _ _
  rw [← h, ← Ideal.ofBits_zero_f32, ← Ideal.ofBits_one_f32]
  rfl

end Cert.Attn

end
-- ==== Proof.Loop.lean ====
/-
  One launch point of the attention kernel: the loop over the blocks before the diagonal, from its invariant, and the tile
  the point stores.
-/
module

public import proofs.«01_k».proof.Proof.Block
public import Idealize.ShloMosaic.Lib.WholeRead
public import Idealize.ShloMosaic.Lib.Pipeline.ValueKit.Tiles

@[expose] public section

noncomputable section

namespace Cert.Attn

open Cert.KernelIdeal Cert.KernelIdeal.Gen Cert.Stick Idealize.ShloMosaic Idealize.ShloMosaic.ValueIdx Idealize.SL.Sem
open Idealize.ShloMosaic.TcCoe

theorem trips1 : ∀ i : grid0.Coords, (k0_t1_loop i).trips = (i 2).val := by decide +kernel

theorem trips2 (i : grid0.Coords) : (k0_t2_loop i).trips = 0 := Nat.le_zero.mp (k0_t2_abs i).2.1

theorem off2_eq : ∀ (i : grid0.Coords) (k : Fin (k0_t1_loop i).trips), k0_off2 i k = ![0, 256 * ((i 2).val - 1 - k.val), 0] := by
  decide +kernel

/-- A block of keys loaded from the whole row of keys. -/
theorem load_apply {e : EltTy} (m : Memref sig .tc .vmem S1x4096x128 e) (h : m.IsWhole) (X : Vec Ideal S1x4096x128 e) (off : Fin 3 → ℕ) (n : ℕ)
    (hoff : off = ![0, n, 0]) (inb : ∀ a, off a + S1x256x128.size a ≤ S1x4096x128.size a) (s : Fin 256) (d : Fin 128) (hn : n + s.val < 4096) :
    View.readAt (Elt Ideal) m.view (Rect.unit (s := S1x4096x128) off S1x256x128.size inb).toLoadRect (h.unread X) (ix3 (0 : Fin 1) s d)
      = X (ix3 (0 : Fin 1) ⟨n + s.val, hn⟩ d) := by
  rw [View.readAt_eq_ld, h.read_unread]
  subst hoff
  refine View.ld_unit_apply_of X _ _ _ _ _ ?_
  intro a
  fin_cases a
  · rfl
  · rfl
  · show d.val = 0 + d.val
    omega

section

variable (i : grid0.Coords)
  (x0 : Vec Ideal S1x256x128 .bf16) (x1 x2 : Vec Ideal S1x4096x128 .f32) (x4 : Vec Ideal S256x256 .bf16) (x5 : Vec Ideal S256x128 .bf16)
  (f : Fin 256 → ℕ → ℝ) (g : Fin 128 → ℕ → EReal)
  (hf : ∀ (r : Fin 256) (s : ℕ) (hs : s < 4096), ∑ d : Fin 128, x0 (ix3 (0 : Fin 1) r d) * x1 (ix3 (0 : Fin 1) ⟨s, hs⟩ d) = ((f r s : ℝ) : EReal))
  (hg : ∀ (d : Fin 128) (s : ℕ) (hs : s < 4096), x2 (ix3 (0 : Fin 1) ⟨s, hs⟩ d) = g d s)
  (htri : ∀ u s : Fin 256, x4 (ix2 u s) = ((triW s u : ℝ) : EReal))
  (hones : ∀ (u : Fin 256) (l : Fin 128), x5 (ix2 u l) = ((1 : ℝ) : EReal))

/-- What the loop carries before it takes the keys before position `n`. -/
def Inv (i : grid0.Coords) (f : Fin 256 → ℕ → ℝ) (g : Fin 128 → ℕ → EReal) (p : FVec Ideal S256x128 .f32 × FVec Ideal S256x128 .f32) (n : ℕ) : Prop :=
  ∀ (r : Fin 256) (l : Fin 128), p.1 (ix2 r l) = acc (f r) (g l) (256 * (i 2).val + r.val) n
    ∧ p.2 (ix2 r l) = ((run (f r) (256 * (i 2).val + r.val) n : ℝ) : EReal)

include hf hg htri hones in
/-- The diagonal block starts it. -/
theorem inv_init (kb vb : Vec Ideal S1x256x128 .f32) (hi : 256 * (i 2).val + 256 ≤ 4096)
    (hk : ∀ (s : Fin 256) (d : Fin 128) (hn : 256 * (i 2).val + s.val < 4096), kb (ix3 (0 : Fin 1) s d) = x1 (ix3 (0 : Fin 1) ⟨256 * (i 2).val + s.val, hn⟩ d))
    (hv : ∀ (s : Fin 256) (d : Fin 128) (hn : 256 * (i 2).val + s.val < 4096), vb (ix3 (0 : Fin 1) s d) = x2 (ix3 (0 : Fin 1) ⟨256 * (i 2).val + s.val, hn⟩ d)) :
    Inv i f g (k0_pay1 (k0_pay17 x4) (k0_pay19 vb) k0_pay20 k0_pay21 (k0_pay22 x0 kb) (k0_pay25 x0 kb) (k0_pay26 x0 x4 kb),
      k0_pay2 (k0_pay18 x5) k0_pay20 (k0_pay24 x0 kb) (k0_pay25 x0 kb)) (256 * (i 2).val) := by
  have e17 : k0_pay17 x4 = x4 := shapeCast_self _ _
  have e18 : k0_pay18 x5 = x5 := shapeCast_self _ _
  intro r l
  have hζ : ∀ r s : Fin 256, ∑ d : Fin 128, k0_pay16 x0 (ix2 r d) * kb (ix3 (0 : Fin 1) s d) = ((f r (256 * (i 2).val + s.val) : ℝ) : EReal) := by
    intro r s
    rw [← hf r _ (by omega)]
    refine Finset.sum_congr rfl fun d _ => ?_
    rw [pay16_apply, hk]
  constructor
  · refine (pay1_apply kb vb (k0_pay17 x4) (fun r s => f r (256 * (i 2).val + s.val)) (by rw [e17]; exact htri) x0 hζ r l x4 rfl).trans ?_
    rw [← acc_diag (N := 256) (f r) (g l) _ r.val r.isLt]
    refine Finset.sum_congr rfl fun s _ => ?_
    rw [hv s l (by omega), hg]
    congr 2
    rw [← wt_diag (N := 256) (f r) _ s.val r.val r.isLt]
    rfl
  · refine (pay2_apply kb (k0_pay18 x5) (fun r s => f r (256 * (i 2).val + s.val)) (by rw [e18]; exact hones) x0 hζ r l).trans ?_
    rw [← run_diag (N := 256) (f r) _ r.val r.isLt]
    rfl

include hf hg htri hones in
/-- A block before it is one step of it. -/
theorem inv_step (kb vb : Vec Ideal S1x256x128 .f32) (p : FVec Ideal S256x128 .f32 × FVec Ideal S256x128 .f32) (n : ℕ)
    (hi : n + 256 ≤ 256 * (i 2).val) (hi' : 256 * (i 2).val ≤ 4096)
    (hk : ∀ (s : Fin 256) (d : Fin 128) (hn : n + s.val < 4096), kb (ix3 (0 : Fin 1) s d) = x1 (ix3 (0 : Fin 1) ⟨n + s.val, hn⟩ d))
    (hv : ∀ (s : Fin 256) (d : Fin 128) (hn : n + s.val < 4096), vb (ix3 (0 : Fin 1) s d) = x2 (ix3 (0 : Fin 1) ⟨n + s.val, hn⟩ d))
    (hp : Inv i f g p (n + 256)) :
    Inv i f g (k0_pay7 (k0_pay16 x0) (k0_pay17 x4) p.1 p.2 kb vb, k0_pay8 (k0_pay16 x0) (k0_pay18 x5) p.2 kb) n := by
  have e17 : k0_pay17 x4 = x4 := shapeCast_self _ _
  have e18 : k0_pay18 x5 = x5 := shapeCast_self _ _
  intro r l
  have hζ : ∀ r s : Fin 256, ∑ d : Fin 128, k0_pay16 x0 (ix2 r d) * kb (ix3 (0 : Fin 1) s d) = ((f r (n + s.val) : ℝ) : EReal) := by
    intro r s
    rw [← hf r _ (by omega)]
    refine Finset.sum_congr rfl fun d _ => ?_
    rw [pay16_apply, hk]
  constructor
  · refine (pay7_apply (k0_pay16 x0) kb vb (k0_pay17 x4) p.1 p.2 (fun r s => f r (n + s.val))
      (fun r => run (f r) (256 * (i 2).val + r.val) (n + 256)) hζ (by rw [e17]; exact htri) (fun r l => (hp r l).2) r l).trans ?_
    rw [(hp r l).1, ← acc_block (N := 256) (f r) (g l) (256 * (i 2).val + r.val) n (by omega)]
    refine congrArg (_ + ·) (Finset.sum_congr rfl fun s _ => ?_)
    rw [hv s l (by omega), hg]
    congr 2
    exact wt_block (N := 256) (f r) (256 * (i 2).val + r.val) n s.val s.isLt (by omega)
  · refine (pay8_apply (k0_pay16 x0) kb (k0_pay18 x5) p.2 (fun r s => f r (n + s.val)) hζ (by rw [e18]; exact hones) r l).trans ?_
    rw [(hp r l).2, ← EReal.coe_add, ← run_block (N := 256) (f r) (256 * (i 2).val + r.val) n (by omega)]

variable (c : Dev nD) (arg3 : Memref sig .tc .vmem S1x256x128 .bf16) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x256x128 .bf16) (harg6 : arg6.IsWhole) (arg7 : Memref sig .tc .vmem S256x256 .bf16) (harg7 : arg7.IsWhole) (arg8 : Memref sig .tc .vmem S256x128 .bf16) (harg8 : arg8.IsWhole) (arg9 : Memref sig .tc .vmem S1x256x128 .bf16) (harg9 : arg9.IsWhole)

include hf hg htri hones in
/-- The loop's carried pair after `k` trips. -/
theorem inv_loop (init : FVec Ideal S256x128 .f32 × FVec Ideal S256x128 .f32) (h0 : Inv i f g init (256 * (i 2).val)) (k : ℕ) (hk : k ≤ (i 2).val) :
    Inv i f g (st_k0_t1 (F := Ideal) Variants.none c none i arg3 harg3 arg4 harg4 arg5 harg5 arg6 harg6 arg7 harg7 arg8 harg8 arg9 harg9
      (k0_pay16 x0) (k0_pay17 x4) (k0_pay18 x5) (harg4.unread x1) (harg5.unread x2) init k) (256 * ((i 2).val - k)) := by
  have hi : (i 2).val < 16 := (i 2).isLt
  induction k with
  | zero => exact h0
  | succ k ih =>
    have hlt : k < (k0_t1_loop i).trips := by rw [trips1]; omega
    have ih := ih (by omega)
    rw [st_k0_t1_succ Variants.none c none i arg3 harg3 arg4 harg4 arg5 harg5 arg6 harg6 arg7 harg7 arg8 harg8 arg9 harg9
      (k0_pay16 x0) (k0_pay17 x4) (k0_pay18 x5) (harg4.unread x1) (harg5.unread x2) init ⟨k, hlt⟩]
    have hn : 256 * ((i 2).val - k) = 256 * ((i 2).val - (k + 1)) + 256 := by omega
    rw [hn] at ih
    have hoff := off2_eq i ⟨k, hlt⟩
    have hoff' : k0_off2 i ⟨k, hlt⟩ = ![0, 256 * ((i 2).val - (k + 1)), 0] := by
      rw [hoff]; congr 3; show _ - 1 - k = _; omega
    unfold tripR_k0_t1 trip_k0_t1
    dsimp only
    exact inv_step i x0 x1 x2 x4 x5 f g hf hg htri hones _ _ _ _ (by omega) (by omega)
      (fun s d hs => load_apply arg4 harg4 x1 _ _ hoff' _ s d hs) (fun s d hs => load_apply arg5 harg5 x2 _ _ hoff' _ s d hs) ih

/-- A whole operand loaded whole. -/
theorem load_whole {S : Shape} {e : EltTy} (m : Memref sig .tc .vmem S e) (h : m.IsWhole) (X : Vec Ideal S e) (off : Fin S.rank → ℕ)
    (hoff : off = fun _ => 0) (inb : ∀ a, off a + S.size a ≤ S.size a) :
    View.readAt (Elt Ideal) m.view (Rect.unit (s := S) off S.size inb).toLoadRect (h.unread X) = X := by
  rw [View.readAt_eq_ld, h.read_unread, View.ld_unit_zero (S := S) hoff]

theorem hz3 : (![0, 0, 0] : Fin 3 → ℕ) = fun _ => 0 := by funext a; fin_cases a <;> rfl
theorem hz2 : (![0, 0] : Fin 2 → ℕ) = fun _ => 0 := by funext a; fin_cases a <;> rfl

/-- The block of keys (or values) on the diagonal. -/
def diagK (arg4 : Memref sig .tc .vmem S1x4096x128 .f32) (harg4 : arg4.IsWhole) (x1 : Vec Ideal S1x4096x128 .f32) : Vec Ideal S1x256x128 .f32 :=
  View.readAt (Elt Ideal) arg4.view (Rect.unit (s := S1x4096x128) (k0_off1 i) S1x256x128.size (k0_off1_inb i)).toLoadRect (harg4.unread x1)

/-- The pair the loop starts from. -/
def init0 (arg4 : Memref sig .tc .vmem S1x4096x128 .f32) (harg4 : arg4.IsWhole) (arg5 : Memref sig .tc .vmem S1x4096x128 .f32) (harg5 : arg5.IsWhole)
    (y0 : Vec Ideal S1x256x128 .bf16) (y4 : Vec Ideal S256x256 .bf16) (y5 : Vec Ideal S256x128 .bf16) : FVec Ideal S256x128 .f32 × FVec Ideal S256x128 .f32 :=
  (k0_pay1 (k0_pay17 y4) (k0_pay19 (diagK i arg5 harg5 x2)) k0_pay20 k0_pay21 (k0_pay22 y0 (diagK i arg4 harg4 x1)) (k0_pay25 y0 (diagK i arg4 harg4 x1)) (k0_pay26 y0 y4 (diagK i arg4 harg4 x1)),
    k0_pay2 (k0_pay18 y5) k0_pay20 (k0_pay24 y0 (diagK i arg4 harg4 x1)) (k0_pay25 y0 (diagK i arg4 harg4 x1)))

/-- The stored tile over the operands as loaded. -/
def tile (x3 : Vec Ideal S1x256x128 .bf16) (y0 : Vec Ideal S1x256x128 .bf16) (y4 : Vec Ideal S256x256 .bf16) (y5 : Vec Ideal S256x128 .bf16) (n1 n2 : ℕ) : Vec Ideal S1x256x128 .bf16 :=
  k0_pay15 (st_k0_t2 (F := Ideal) Variants.none c none i arg3 harg3 arg4 harg4 arg5 harg5 arg6 harg6 arg7 harg7 arg8 harg8 arg9 harg9
      (k0_pay16 y0) (k0_pay17 y4) (k0_pay18 y5) (harg4.unread x1) (harg5.unread x2)
      (st_k0_t1 (F := Ideal) Variants.none c none i arg3 harg3 arg4 harg4 arg5 harg5 arg6 harg6 arg7 harg7 arg8 harg8 arg9 harg9
        (k0_pay16 y0) (k0_pay17 y4) (k0_pay18 y5) (harg4.unread x1) (harg5.unread x2) (init0 i x1 x2 arg4 harg4 arg5 harg5 y0 y4 y5) n1) n2).1 x3

theorem out_tile (x3 : Vec Ideal S1x256x128 .bf16) :
    out0_A_6 c i arg3 harg3 arg4 harg4 arg5 harg5 arg6 harg6 arg7 harg7 arg8 harg8 arg9 harg9 x0 x1 x2 x3 x4 x5
      = tile i x1 x2 c arg3 harg3 arg4 harg4 arg5 harg5 arg6 harg6 arg7 harg7 arg8 harg8 arg9 harg9
          (View.readAt (Elt Ideal) arg6.view (Rect.unit (s := S1x256x128) ![0, 0, 0] S1x256x128.size inb_S1x256x128_S1x256x128_0_0_0).toLoadRect (harg6.unread x3))
          (View.readAt (Elt Ideal) arg3.view (Rect.unit (s := S1x256x128) ![0, 0, 0] S1x256x128.size inb_S1x256x128_S1x256x128_0_0_0).toLoadRect (harg3.unread x0))
          (View.readAt (Elt Ideal) arg7.view (Rect.unit (s := S256x256) ![0, 0] S256x256.size inb_S256x256_S256x256_0_0).toLoadRect (harg7.unread x4))
          (View.readAt (Elt Ideal) arg8.view (Rect.unit (s := S256x128) ![0, 0] S256x128.size inb_S256x128_S256x128_0_0).toLoadRect (harg8.unread x5))
          (k0_t1_loop i).trips (k0_t2_loop i).trips := by
  unfold out0_A_6
  rw [View.read_writes_eq_canon _ _ _ (cover0_A_6 c i arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  rfl

include hf hg htri hones in
/-- **The tile a point stores**: the keys before each query, weighted, times the silu of the gate. -/
theorem out_apply (x3 : Vec Ideal S1x256x128 .bf16) (u : Fin 1) (r : Fin 256) (d : Fin 128) :
    out0_A_6 c i arg3 harg3 arg4 harg4 arg5 harg5 arg6 harg6 arg7 harg7 arg8 harg8 arg9 harg9 x0 x1 x2 x3 x4 x5 (ix3 u r d)
      = acc (f r) (g d) (256 * (i 2).val + r.val) 0
        * Ideal.div (x3 (ix3 (0 : Fin 1) r d)) (1 + Ideal.exp (0 - x3 (ix3 (0 : Fin 1) r d))) := by
  have hi : (i 2).val < 16 := (i 2).isLt
  rw [out_tile, load_whole arg6 harg6 x3 _ hz3, load_whole arg3 harg3 x0 _ hz3, load_whole arg7 harg7 x4 _ hz2, load_whole arg8 harg8 x5 _ hz2, trips2 i, trips1 i]
  unfold tile
  rw [st_k0_t2_zero, pay15_apply]
  have hl := inv_loop i x0 x1 x2 x4 x5 f g hf hg htri hones c arg3 harg3 arg4 harg4 arg5 harg5 arg6 harg6 arg7 harg7 arg8 harg8 arg9 harg9 _
    (inv_init i x0 x1 x2 x4 x5 f g hf hg htri hones (diagK i arg4 harg4 x1) (diagK i arg5 harg5 x2) (by omega)
      (fun s d hs => load_apply arg4 harg4 x1 _ _ (k0_off1_eq i) (k0_off1_inb i) s d hs)
      (fun s d hs => load_apply arg5 harg5 x2 _ _ (k0_off1_eq i) (k0_off1_inb i) s d hs)) (i 2).val le_rfl
  rw [Nat.sub_self] at hl
  exact congrArg (· * _) (hl r d).1

end

end Cert.Attn

end
-- ==== Proof.Place.lean ====
/-
  Where the attention kernel's blocks lie in their arrays at each grid point.
-/
module

public import proofs.«01_k».proof.Proof.Gen.KernelIdeal.Value
public import Idealize.ShloMosaic.Lib.Pipeline.ValueKit.Geometry
public import Idealize.ShloMosaic.Lib.Pipeline.Covers

@[expose] public section

noncomputable section

namespace Cert.Attn

open Cert.KernelIdeal Cert.KernelIdeal.Gen Idealize.ShloMosaic Idealize.SL.Sem

theorem at0 : ∀ t : Fin cfg0.N, win0_0.index t = ![(grid0.coords t 0).val, (grid0.coords t 2).val, (grid0.coords t 1).val] :=
  (by decide +kernel : ∀ t : Fin grid0.N, _)
theorem at1 : ∀ t : Fin cfg0.N, win0_1.index t = ![(grid0.coords t 0).val, 0, (grid0.coords t 1).val] :=
  (by decide +kernel : ∀ t : Fin grid0.N, _)
theorem at2 : ∀ t : Fin cfg0.N, win0_2.index t = ![(grid0.coords t 0).val, 0, (grid0.coords t 1).val] :=
  (by decide +kernel : ∀ t : Fin grid0.N, _)
theorem at3 : ∀ t : Fin cfg0.N, win0_3.index t = ![(grid0.coords t 0).val, (grid0.coords t 2).val, (grid0.coords t 1).val] :=
  (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![(grid0.coords t 0).val, (grid0.coords t 2).val, (grid0.coords t 1).val] :=
  (by decide +kernel : ∀ t : Fin grid0.N, _)

/-- Every element of the result array lies in some point's block. -/
theorem covers6 : (cfg0.win 6).Covers := by decide +kernel

end Cert.Attn

end
-- ==== Proof.Score.lean ====
/-
  The attention's scores, its values and its result as plain functions of the four arrays, and the reverse running sum.
-/
module

public import proofs.«01_k».proof.Proof.Scalar
public import Idealize.ShloMosaic.Lib.ValueLayout

@[expose] public section

noncomputable section

namespace Cert.Stick

open Idealize.ShloMosaic Idealize.ShloMosaic.ValueIdx

/-- The shape of the four arrays and of the result. -/
abbrev SA : Shape := ⟨3, ![8, 4096, 2048]⟩

/-- Lane `d` of head `h`. -/
def col (h : Fin 16) (d : Fin 128) : Fin 2048 := ⟨128 * h.val + d.val, by omega⟩

/-- Every lane is some head's. -/
theorem exists_col (x : Fin 2048) : ∃ h d, x = col h d :=
  ⟨⟨x.val / 128, by omega⟩, ⟨x.val % 128, by omega⟩, Fin.ext (by show x.val = 128 * (x.val / 128) + x.val % 128; omega)⟩

/-- The score of the query at position `t` against the key at position `s`, in head `h` of sequence `b`. -/
def score (Q K : SA.Idx → EReal) (b : Fin 8) (h : Fin 16) (t : Fin 4096) (s : ℕ) : ℝ :=
  if hs : s < 4096 then ∑ d : Fin 128, (Q (ix3 b t (col h d))).toReal * (K (ix3 b ⟨s, hs⟩ (col h d))).toReal else 0

/-- Lane `d` of the value at position `s`. -/
def value (V : SA.Idx → EReal) (b : Fin 8) (h : Fin 16) (d : Fin 128) (s : ℕ) : EReal :=
  if hs : s < 4096 then V (ix3 b ⟨s, hs⟩ (col h d)) else 0

theorem score_spec (Q K : SA.Idx → EReal) (hQ : ∀ i, ((Q i).toReal : EReal) = Q i) (hK : ∀ i, ((K i).toReal : EReal) = K i)
    (b : Fin 8) (h : Fin 16) (t : Fin 4096) (s : ℕ) (hs : s < 4096) :
    ∑ d : Fin 128, Q (ix3 b t (col h d)) * K (ix3 b ⟨s, hs⟩ (col h d)) = ((score Q K b h t s : ℝ) : EReal) := by
  unfold score
  rw [dif_pos hs, ← coe_sum]
  refine Finset.sum_congr rfl fun d _ => ?_
  rw [EReal.coe_mul, hQ, hK]

theorem value_spec (V : SA.Idx → EReal) (b : Fin 8) (h : Fin 16) (d : Fin 128) (s : ℕ) (hs : s < 4096) :
    V (ix3 b ⟨s, hs⟩ (col h d)) = value V b h d s := by
  unfold value
  rw [dif_pos hs]

/-- The attention's result at lane `d` of head `h`. -/
def attn (Q K V Z : SA.Idx → EReal) (b : Fin 8) (t : Fin 4096) (h : Fin 16) (d : Fin 128) : EReal :=
  acc (score Q K b h t) (value V b h d) t.val 0 * Ideal.div (Z (ix3 b t (col h d))) (1 + Ideal.exp (0 - Z (ix3 b t (col h d))))

/-- Adding the terms one after another is adding their sum. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The index of a window that is one wide on the first three axes is its position on the last. -/
def windowEquiv (L : ℕ) : Fin L ≃ (⟨4, ![1, 1, 1, L]⟩ : Shape).Idx where
  toFun k := ix4 (0 : Fin 1) (0 : Fin 1) (0 : Fin 1) k
  invFun w := w 3
  left_inv _ := rfl
  right_inv w := by
    refine funext fun a => Fin.ext ?_
    match a with
    | ⟨0, _⟩ => exact (Nat.lt_one_iff.mp (w 0).isLt).symm
    | ⟨1, _⟩ => exact (Nat.lt_one_iff.mp (w 1).isLt).symm
    | ⟨2, _⟩ => exact (Nat.lt_one_iff.mp (w 2).isLt).symm
    | ⟨3, _⟩ => rfl

/-- jnp's `cumsum(axis=3, reverse=True)` as it prints (a window as wide as the axis, padded high by one less): entry `s` is
    the sum of the entries from `s` on. -/
theorem revcumsum_apply {A B C L L1 : ℕ} (hL : L1 + 1 = L) (x : (⟨4, ![A, B, C, L]⟩ : Shape).Idx → EReal) (init : (⟨0, ![]⟩ : Shape).Idx → EReal)
    (hinit : ∀ i, init i = 0)
    (hw : (⟨4, ![A, B, C, L]⟩ : Shape).ReduceWindows (![1, 1, 1, L] : Fin 4 → ℕ) ![1, 1, 1, 1] ![0, 0, 0, 0] ![0, 0, 0, L1] ⟨4, ![A, B, C, L]⟩)
    (hu : 0 < (⟨0, ![]⟩ : Shape).numel) (a : Fin A) (b : Fin B) (c : Fin C) (s : Fin L) (φ : ℕ → EReal)
    (hx : ∀ n : Fin L, x (ix4 a b c n) = φ n.val) :
    Host.reduceWindow (· + ·) ![1, 1, 1, L] ![1, 1, 1, 1] ![0, 0, 0, 0] ![0, 0, 0, L1] x init hw hu (ix4 a b c s) = ∑ n ∈ Finset.Ico s.val L, φ n := by
  have hterm : ∀ (k : Fin L) (w : (⟨4, ![1, 1, 1, L]⟩ : Shape).Idx)
      (inst : Decidable (∀ e : Fin 4, (![0, 0, 0, 0] : Fin 4 → ℕ) e ≤ (ix4 a b c s e).val * (![1, 1, 1, 1] : Fin 4 → ℕ) e + (w e).val
            ∧ (ix4 a b c s e).val * (![1, 1, 1, 1] : Fin 4 → ℕ) e + (w e).val - (![0, 0, 0, 0] : Fin 4 → ℕ) e < (![A, B, C, L] : Fin 4 → ℕ) e)), w = ix4 (0 : Fin 1) (0 : Fin 1) (0 : Fin 1) k →
      @dite EReal (∀ e : Fin 4, (![0, 0, 0, 0] : Fin 4 → ℕ) e ≤ (ix4 a b c s e).val * (![1, 1, 1, 1] : Fin 4 → ℕ) e + (w e).val
            ∧ (ix4 a b c s e).val * (![1, 1, 1, 1] : Fin 4 → ℕ) e + (w e).val - (![0, 0, 0, 0] : Fin 4 → ℕ) e < (![A, B, C, L] : Fin 4 → ℕ) e) inst
        (fun hin => x (fun e => ⟨(ix4 a b c s e).val * (![1, 1, 1, 1] : Fin 4 → ℕ) e + (w e).val - (![0, 0, 0, 0] : Fin 4 → ℕ) e, (hin e).2⟩)) (fun _ => 0)
      = if s.val + k.val < L then φ (s.val + k.val) else 0 := by
    rintro k w inst rfl
    have ha := a.isLt; have hb := b.isLt; have hc := c.isLt; have hs := s.isLt
    by_cases h : s.val + k.val < L
    · have hin : ∀ e : Fin 4, (![0, 0, 0, 0] : Fin 4 → ℕ) e ≤ (ix4 a b c s e).val * (![1, 1, 1, 1] : Fin 4 → ℕ) e + (ix4 (0 : Fin 1) (0 : Fin 1) (0 : Fin 1) k e).val
            ∧ (ix4 a b c s e).val * (![1, 1, 1, 1] : Fin 4 → ℕ) e + (ix4 (0 : Fin 1) (0 : Fin 1) (0 : Fin 1) k e).val - (![0, 0, 0, 0] : Fin 4 → ℕ) e < (![A, B, C, L] : Fin 4 → ℕ) e := by
        intro e
        match e with
        | ⟨0, _⟩ => exact ⟨Nat.zero_le _, by show a.val * 1 + 0 - 0 < A; omega⟩
        | ⟨1, _⟩ => exact ⟨Nat.zero_le _, by show b.val * 1 + 0 - 0 < B; omega⟩
        | ⟨2, _⟩ => exact ⟨Nat.zero_le _, by show c.val * 1 + 0 - 0 < C; omega⟩
        | ⟨3, _⟩ => exact ⟨Nat.zero_le _, by show s.val * 1 + k.val - 0 < L; omega⟩
      rw [dif_pos hin, if_pos h, ← hx ⟨s.val + k.val, h⟩]
      refine congrArg x (funext fun e => Fin.ext ?_)
      match e with
      | ⟨0, _⟩ => show a.val * 1 + 0 - 0 = a.val; omega
      | ⟨1, _⟩ => show b.val * 1 + 0 - 0 = b.val; omega
      | ⟨2, _⟩ => show c.val * 1 + 0 - 0 = c.val; omega
      | ⟨3, _⟩ => show s.val * 1 + k.val - 0 = s.val + k.val; omega
    · rw [if_neg h, dif_neg]
      intro hin
      have := (hin 3).2
      change s.val * 1 + k.val - 0 < L at this
      omega
  unfold Host.reduceWindow
  dsimp only
  rw [foldl_add, hinit, zero_add, ← Fin.sum_univ_def]
  refine (Finset.sum_congr rfl fun i _ => hterm (((⟨4, ![1, 1, 1, L]⟩ : Shape).rowMajor.symm i) 3) _ _ ((windowEquiv L).right_inv _).symm).trans ?_
  rw [Equiv.sum_comp (⟨4, ![1, 1, 1, L]⟩ : Shape).rowMajor.symm (fun w => if s.val + (w 3).val < L then φ (s.val + (w 3).val) else 0),
    ← Equiv.sum_comp (windowEquiv L)]
  show ∑ k : Fin L, (if s.val + k.val < L then φ (s.val + k.val) else 0) = _
  rw [Fin.sum_univ_eq_sum_range (fun k => if s.val + k < L then φ (s.val + k) else 0) L, ← Finset.sum_filter]
  refine Finset.sum_bij (fun u _ => s.val + u) ?_ ?_ ?_ ?_
  · intro u hu
    simp only [Finset.mem_filter, Finset.mem_range] at hu
    simp only [Finset.mem_Ico]; omega
  · intro a _ b _ h; omega
  · intro n hn
    simp only [Finset.mem_Ico] at hn
    exact ⟨n - s.val, by simp only [Finset.mem_filter, Finset.mem_range]; omega, by omega⟩
  · intro u _; rfl

/-- The same of the host's float window sum over the reals, whose start is the initial value's one element, zero. -/
theorem revcumsumAdd_apply {A B C L L1 : ℕ} (hL : L1 + 1 = L) (x : FVec Ideal ⟨4, ![A, B, C, L]⟩ .f32) (init : FVec Ideal ⟨0, ![]⟩ .f32)
    (hw : (⟨4, ![A, B, C, L]⟩ : Shape).ReduceWindows (![1, 1, 1, L] : Fin 4 → ℕ) ![1, 1, 1, 1] ![0, 0, 0, 0] ![0, 0, 0, L1] ⟨4, ![A, B, C, L]⟩)
    (hu : 0 < (⟨0, ![]⟩ : Shape).numel) (hinit : ∀ i, init i = (0 : EReal)) (a : Fin A) (b : Fin B) (c : Fin C) (s : Fin L) (φ : ℕ → EReal)
    (hx : ∀ n : Fin L, x (ix4 a b c n) = φ n.val) :
    Host.reduceWindowAdd ![1, 1, 1, L] ![1, 1, 1, 1] ![0, 0, 0, 0] ![0, 0, 0, L1] x init hw hu (ix4 a b c s) = ∑ n ∈ Finset.Ico s.val L, φ n :=
  (show _ = Host.reduceWindow (fun p q : EReal => p + q) ![1, 1, 1, L] ![1, 1, 1, 1] ![0, 0, 0, 0] ![0, 0, 0, L1] (x : _ → EReal) (init : _ → EReal) hw hu (ix4 a b c s) from rfl).trans
    (revcumsum_apply hL x init hinit hw hu a b c s φ hx)

end Cert.Stick

end
-- ==== Proof.Final.lean ====
/-
  The attention kernel's result array after the launch, as one function of the four argument arrays.
-/
module

public import proofs.«01_k».proof.Proof.Loop
public import proofs.«01_k».proof.Proof.Place
public import proofs.«01_k».proof.Proof.Score
public import proofs.«01_k».proof.Proof.Gen.KernelIdeal.Value
public import Idealize.ShloMosaic.Lib.Pipeline.ValueKit.Geometry
public import Idealize.ShloMosaic.Lib.WordCmp

@[expose] public section

noncomputable section

namespace Cert.Attn

open Cert.KernelIdeal Cert.KernelIdeal.Gen Cert.Stick Idealize.ShloMosaic Idealize.ShloMosaic.ValueIdx Idealize.SL.Sem
open Idealize.ShloMosaic.TcCoe

/-- The result as an array: position by position, head by head, lane by lane. -/
def attnOut (Q K V Z : SA.Idx → EReal) : SA.Idx → EReal := fun i =>
  attn Q K V Z (i 0) (i 1) ⟨(i 2).val / 128, by have : (i 2).val < 2048 := (i 2).isLt; omega⟩ ⟨(i 2).val % 128, by omega⟩

theorem attnOut_apply (Q K V Z : SA.Idx → EReal) (b : Fin 8) (t : Fin 4096) (h : Fin 16) (d : Fin 128) :
    attnOut Q K V Z (ix3 b t (col h d)) = attn Q K V Z b t h d := by
  have hd := d.isLt
  have e1 : (⟨(col h d).val / 128, by have := (col h d).isLt; omega⟩ : Fin 16) = h := Fin.ext (by show (128 * h.val + d.val) / 128 = h.val; omega)
  have e2 : (⟨(col h d).val % 128, by omega⟩ : Fin 128) = d := Fin.ext (by show (128 * h.val + d.val) % 128 = d.val; omega)
  show attn Q K V Z b t ⟨(col h d).val / 128, _⟩ ⟨(col h d).val % 128, _⟩ = _
  rw [e1, e2]

section

variable (m : (ℓ : Loc nD τ sig) → Buf (Elt Ideal) ℓ) (c : Dev nD) (t : Fin cfg0.N)

/-- The sequence, the head and the tile of a grid point. -/
def seqOf : Fin 8 := ⟨(grid0.coords t 0).val, (grid0.coords t 0).isLt⟩
def headOf : Fin 16 := ⟨(grid0.coords t 1).val, (grid0.coords t 1).isLt⟩
def tileOf : Fin 16 := ⟨(grid0.coords t 2).val, (grid0.coords t 2).isLt⟩
/-- The position of a tile's row. -/
def pos (r : Fin 256) : Fin 4096 := ⟨256 * (tileOf t).val + r.val, by have := (tileOf t).isLt; omega⟩

/-- The block of queries. -/
theorem q_block (r : Fin 256) (d : Fin 128) :
    iblk m c 0 t (ix3 (0 : Fin 1) r d) = m ((c : Thread nD τ).loc main_arg0) (ix3 (seqOf t) (pos t r) (col (headOf t) d)) := by
  blk_simp [iblk]
  rw [show V m c main_arg0 = _ from V_main_arg0 m c]
  refine congrArg (m ((c : Thread nD τ).loc main_arg0)) ?_
  funext a
  refine Fin.ext ?_
  match a with
  | ⟨0, _⟩ => blk_simp [at0]; rfl
  | ⟨1, _⟩ => blk_simp [at0]; show (grid0.coords t 2).val * 256 + r.val = 256 * (grid0.coords t 2).val + r.val; omega
  | ⟨2, _⟩ => blk_simp [at0]; show (grid0.coords t 1).val * 128 + d.val = 128 * (grid0.coords t 1).val + d.val; omega

/-- The row of keys. -/
theorem k_block (s : Fin 4096) (d : Fin 128) :
    iblk m c 1 t (ix3 (0 : Fin 1) s d) = m ((c : Thread nD τ).loc main_arg1) (ix3 (seqOf t) s (col (headOf t) d)) := by
  blk_simp [iblk]
  rw [show V m c main_arg1 = _ from V_main_arg1 m c]
  refine congrArg (m ((c : Thread nD τ).loc main_arg1)) ?_
  funext a
  refine Fin.ext ?_
  match a with
  | ⟨0, _⟩ => blk_simp [at1]; rfl
  | ⟨1, _⟩ => blk_simp [at1]
  | ⟨2, _⟩ => blk_simp [at1]; show (grid0.coords t 1).val * 128 + d.val = 128 * (grid0.coords t 1).val + d.val; omega

/-- The row of values. -/
theorem v_block (s : Fin 4096) (d : Fin 128) :
    iblk m c 2 t (ix3 (0 : Fin 1) s d) = m ((c : Thread nD τ).loc main_arg2) (ix3 (seqOf t) s (col (headOf t) d)) := by
  blk_simp [iblk]
  rw [show V m c main_arg2 = _ from V_main_arg2 m c]
  refine congrArg (m ((c : Thread nD τ).loc main_arg2)) ?_
  funext a
  refine Fin.ext ?_
  match a with
  | ⟨0, _⟩ => blk_simp [at2]; rfl
  | ⟨1, _⟩ => blk_simp [at2]
  | ⟨2, _⟩ => blk_simp [at2]; show (grid0.coords t 1).val * 128 + d.val = 128 * (grid0.coords t 1).val + d.val; omega

/-- The block of gates. -/
theorem z_block (r : Fin 256) (d : Fin 128) :
    iblk m c 3 t (ix3 (0 : Fin 1) r d) = m ((c : Thread nD τ).loc main_arg3) (ix3 (seqOf t) (pos t r) (col (headOf t) d)) := by
  blk_simp [iblk]
  rw [show V m c main_arg3 = _ from V_main_arg3 m c]
  refine congrArg (m ((c : Thread nD τ).loc main_arg3)) ?_
  funext a
  refine Fin.ext ?_
  match a with
  | ⟨0, _⟩ => blk_simp [at3]; rfl
  | ⟨1, _⟩ => blk_simp [at3]; show (grid0.coords t 2).val * 256 + r.val = 256 * (grid0.coords t 2).val + r.val; omega
  | ⟨2, _⟩ => blk_simp [at3]; show (grid0.coords t 1).val * 128 + d.val = 128 * (grid0.coords t 1).val + d.val; omega

/-- The lower triangle of ones. -/
theorem tri_block (u s : Fin 256) : iblk m c 4 t (ix2 u s) = ((triW s u : ℝ) : EReal) := by
  have e : V m c main_v3 = (uitofp .bf16 (cmpi .sge (iotaInDim S256x256 32 0) (iotaInDim S256x256 32 1)) : FVec Ideal S256x256 .bf16) := by
    dsimp only [V, hostOps0]
    after_results
  have i : (win0_4.blk t).view.emb (ix2 u s) = ix2 u s := by
    funext a
    refine Fin.ext ?_
    match a with
    | ⟨0, _⟩ => blk_simp [at4]
    | ⟨1, _⟩ => blk_simp [at4]
  blk_simp [iblk]
  rw [show V m c main_v3 = _ from e, i]
  have hu := u.isLt
  have hs := s.isLt
  show (((IntOp.cmpi .sge (BitVec.ofNat 32 u.val) (BitVec.ofNat 32 s.val)).toNat : ℝ) : EReal) = _
  unfold triW
  rw [WordCmp.cmpi_sge_ofNat (by norm_num; omega) (by norm_num; omega)]
  by_cases h : s.val ≤ u.val
  · rw [if_pos h, decide_eq_true h]
    norm_num
    rfl
  · rw [if_neg h, decide_eq_false h]
    norm_num

/-- The block of ones. -/
theorem ones_block (u : Fin 256) (l : Fin 128) : iblk m c 5 t (ix2 u l) = ((1 : ℝ) : EReal) := by
  have e : V m c main_v4 = (broadcastInDim S256x128 ![] bcast_S_S256x128 (constant S_ .bf16 0x3F80#16) : FVec Ideal S256x128 .bf16) := by
    dsimp only [V, hostOps0]
    after_results
  blk_simp [iblk]
  rw [show V m c main_v4 = _ from e]
  exact Ideal.ofBits_one_bf16

/-- The result array after the launch: the attention of the arguments, the queries and keys finite. -/
theorem result_eq (hQ : ∀ i, ((m ((c : Thread nD τ).loc main_arg0) i : EReal).toReal : EReal) = m ((c : Thread nD τ).loc main_arg0) i)
    (hK : ∀ i, ((m ((c : Thread nD τ).loc main_arg1) i : EReal).toReal : EReal) = m ((c : Thread nD τ).loc main_arg1) i) :
    (dats m 0 c).arrAt 6 cfg0.N = attnOut (m ((c : Thread nD τ).loc main_arg0)) (m ((c : Thread nD τ).loc main_arg1))
      (m ((c : Thread nD τ).loc main_arg2)) (m ((c : Thread nD τ).loc main_arg3)) := by
  refine (dats m 0 c).arrAt_eq_of_covers 6 _ covers6 fun t hf y => ?_
  blk_simp
  rw [after0_6]
  simp only [outsAt0]
  obtain ⟨u, r, d, rfl⟩ : ∃ (u : Fin 1) (r : Fin 256) (d : Fin 128), y = ix3 u r d := ⟨_, _, _, eq_ix3 y⟩
  refine (out_apply (grid0.coords t) _ _ _ _ _
    (fun r => score (m ((c : Thread nD τ).loc main_arg0)) (m ((c : Thread nD τ).loc main_arg1)) (seqOf t) (headOf t) (pos t r))
    (fun d => value (m ((c : Thread nD τ).loc main_arg2)) (seqOf t) (headOf t) d)
    (fun r s hs => ?_) (fun d s hs => ?_) (tri_block m c t) (ones_block m c t) c _ _ _ _ _ _ _ _ _ _ _ _ _ _ _ u r d).trans ?_
  · refine (Finset.sum_congr rfl fun d _ => ?_).trans (score_spec _ _ hQ hK (seqOf t) (headOf t) (pos t r) s hs)
    rw [q_block, k_block]
  · exact (v_block m c t ⟨s, hs⟩ d).trans (value_spec _ _ _ _ s hs)
  · rw [z_block]
    refine Eq.trans ?_ (congrArg (attnOut _ _ _ _) (?_ : ix3 (seqOf t) (pos t r) (col (headOf t) d) = (win0_6.blk t).view.emb (ix3 u r d)))
    · rw [attnOut_apply]
      rfl
    · funext a
      refine Fin.ext ?_
      have hu : u.val = 0 := by omega
      match a with
      | ⟨0, _⟩ => blk_simp [at6]; rfl
      | ⟨1, _⟩ => blk_simp [at6]; show 256 * (grid0.coords t 2).val + r.val = (grid0.coords t 2).val * 256 + r.val; omega
      | ⟨2, _⟩ => blk_simp [at6]; show 128 * (grid0.coords t 1).val + d.val = (grid0.coords t 1).val * 128 + d.val; omega

end

end Cert.Attn

end
-- ==== Proof.Ref.lean ====
/-
  The reference attention read at an index: over finite queries and keys it is the function `attn` of the four arrays.
-/
module

public import proofs.«01_k».proof.Proof.Score
public import proofs.«01_k».proof.Proof.Gen.ReferenceIdeal.Read
public import Idealize.ShloMosaic.Lib.Pointwise.Elementwise

@[expose] public section

noncomputable section

namespace Cert.AttnRef

open Cert.ReferenceIdeal Cert.ReferenceIdeal.Gen Cert.ReferenceIdeal.Read Cert.Stick Idealize.ShloMosaic Idealize.ShloMosaic.ValueIdx

/-- A signed comparison of two small positions selects by their order. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  have : IntOp.cmpi .slt (BitVec.ofNat 32 a) (BitVec.ofNat 32 b) = BitVec.ofBool (decide (a < b)) := by
    show BitVec.ofBool (BitVec.slt _ _) = _
    congr 1
    rw [BitVec.slt_eq_decide]
    congr 1
    rw [BitVec.toInt_eq_toNat_of_lt (by simp; omega), BitVec.toInt_eq_toNat_of_lt (by simp; omega)]
    simp only [BitVec.toNat_ofNat, eq_iff_iff]
    omega
  rw [this]
  by_cases h : a < b <;> simp [h, Scalar.select]

/-- A score is a number, so the softplus's test for one that is not fails. -/
theorem select_une {α : Type} (z : EReal) (x y : α) : Scalar.select (FloatOps.cmpf (F := Ideal) (φ := .f32) .une z z) x y = y := by
  simp [Ideal.cmpf_def, Ideal.cmp, Scalar.select]

variable (X0 X3 : (⟨S8x4096x2048, .bf16⟩ : BufTy).Contents (Elt Ideal)) (X1 X2 : (⟨S8x4096x2048, .f32⟩ : BufTy).Contents (Elt Ideal))
  (b : Fin 8) (h : Fin 16) (t s : Fin 4096) (d : Fin 128)

theorem v1_apply : val_main_v1 (F := Ideal) X0 (ix4 b t h d) = X0 (ix3 b t (col h d)) := by
  have hb := b.isLt; have ht := t.isLt; have hh := h.isLt; have hd := d.isLt
  rw [val_main_v1_apply]
  show X0 _ = _
  refine congrArg X0 (funext fun a => Fin.ext ?_)
  match a with
  | ⟨0, _⟩ => show (((b.val * 4096 + t.val) * 16 + h.val) * 128 + d.val) / 8388608 = b.val; omega
  | ⟨1, _⟩ => show (((b.val * 4096 + t.val) * 16 + h.val) * 128 + d.val) / 2048 % 4096 = t.val; omega
  | ⟨2, _⟩ => show (((b.val * 4096 + t.val) * 16 + h.val) * 128 + d.val) % 2048 = 128 * h.val + d.val; omega

theorem v2_apply : val_main_v2 (F := Ideal) X1 (ix4 b t h d) = X1 (ix3 b t (col h d)) := by
  have hb := b.isLt; have ht := t.isLt; have hh := h.isLt; have hd := d.isLt
  rw [val_main_v2_apply]
  refine congrArg X1 (funext fun a => Fin.ext ?_)
  match a with
  | ⟨0, _⟩ => show (((b.val * 4096 + t.val) * 16 + h.val) * 128 + d.val) / 8388608 = b.val; omega
  | ⟨1, _⟩ => show (((b.val * 4096 + t.val) * 16 + h.val) * 128 + d.val) / 2048 % 4096 = t.val; omega
  | ⟨2, _⟩ => show (((b.val * 4096 + t.val) * 16 + h.val) * 128 + d.val) % 2048 = 128 * h.val + d.val; omega

theorem v3_apply : val_main_v3 (F := Ideal) X2 (ix4 b t h d) = X2 (ix3 b t (col h d)) := v2_apply X2 b h t d

/-- The scores. -/
theorem v5_apply (hQ : ∀ i, ((X0 i : EReal).toReal : EReal) = X0 i) (hK : ∀ i, ((X1 i : EReal).toReal : EReal) = X1 i) :
    val_main_v5 (F := Ideal) X0 X1 (ix4 b h t s) = ((score X0 X1 b h t s.val : ℝ) : EReal) := by
  rw [val_main_v5_apply, ← score_spec X0 X1 hQ hK b h t s.val s.isLt]
  refine Finset.sum_congr rfl fun d _ => ?_
  have e1 : lidx_main_v5 (ix4 b h t s) d = ix4 b t h d := by
    funext a; match a with | ⟨0, _⟩ => rfl | ⟨1, _⟩ => rfl | ⟨2, _⟩ => rfl | ⟨3, _⟩ => rfl
  have e2 : ridx_main_v5 (ix4 b h t s) d = ix4 b s h d := by
    funext a; match a with | ⟨0, _⟩ => rfl | ⟨1, _⟩ => rfl | ⟨2, _⟩ => rfl | ⟨3, _⟩ => rfl
  rw [e1, e2, v1_apply, v2_apply]

/-- The mask: a key strictly before the query. -/
theorem mask_apply {α : Type} (x y : α) :
    Scalar.select (val_main_v10 (F := Ideal) (ix2 t s)) x y = if s.val < t.val then x else y := by
  have hs := s.isLt; have ht := t.isLt
  rw [← select_slt s.val t.val (by omega) (by omega)]
  rw [val_main_v10_apply, val_main_v8_apply, val_main_v9_apply, val_main_v6_apply, val_main_v7_apply]
  rfl

variable (z : ℝ)

/-- The softplus of a real score. -/
theorem v11_apply (i : S8x16x4096x4096.Idx) (hz : val_main_v5 (F := Ideal) X0 X1 i = ((z : ℝ) : EReal)) :
    val_main_v11 (F := Ideal) X0 X1 i = ((spl z : ℝ) : EReal) := by
  rw [val_main_v11_apply, val_main_call0_v11_apply, val_main_call0_v4_apply, select_une, val_main_call0_v10_apply, val_main_call0_v1_apply,
    val_main_call0_v9_apply, val_main_call0_v8_apply, val_main_call0_v7_apply, val_main_call0_v3_apply, val_main_call0_v0_apply, val_main_call0_v2_apply,
    val_main_call0_cst_apply, hz, ← host_softplus, ← Ideal.ofBits_zero_f32]
  rfl

/-- The softplus of its negative, as the log-sigmoid takes it. -/
theorem v15_apply (i : S8x16x4096x4096.Idx) (hz : val_main_v5 (F := Ideal) X0 X1 i = ((z : ℝ) : EReal)) :
    val_main_v15 (F := Ideal) X0 X1 i = ((-spl (-z) : ℝ) : EReal) := by
  have h0 : val_main_call3_v0 (F := Ideal) X0 X1 i = ((-z : ℝ) : EReal) := by
    rw [val_main_call3_v0_apply, hz, EReal.coe_neg]; rfl
  have h1 : val_main_call3_v1 (F := Ideal) X0 X1 i = ((spl (-z) : ℝ) : EReal) := by
    rw [val_main_call3_v1_apply, val_main_call3_call0_v4_apply, select_une, val_main_call3_call0_v11_apply, val_main_call3_call0_v10_apply, val_main_call3_call0_v1_apply,
      val_main_call3_call0_v9_apply, val_main_call3_call0_v8_apply, val_main_call3_call0_v7_apply, val_main_call3_call0_v3_apply, val_main_call3_call0_v0_apply, val_main_call3_call0_v2_apply,
      val_main_call3_call0_cst_apply, h0, ← host_softplus, ← Ideal.ofBits_zero_f32]
    rfl
  rw [val_main_v15_apply, h1, EReal.coe_neg]
  rfl

/-- An exponential of a difference of a difference, over the extended reals. -/
theorem exp_sub_sub (x y w : EReal) :
    FloatOps.hostUnary (F := Ideal) (φ := .f32) .exp (FloatOps.subf (F := Ideal) (φ := .f32) x (FloatOps.subf (F := Ideal) (φ := .f32) y w)) = Ideal.exp (x - (y - w)) := rfl

section

variable (hQ : ∀ i, ((X0 i : EReal).toReal : EReal) = X0 i) (hK : ∀ i, ((X1 i : EReal).toReal : EReal) = X1 i)

include hQ hK

/-- The softplus values before the query, zero elsewhere. -/
theorem v12_apply : val_main_v12 (F := Ideal) X0 X1 (ix4 b h t s) = if s.val < t.val then ((spl (score X0 X1 b h t s.val) : ℝ) : EReal) else 0 := by
  rw [val_main_v12_apply, val_main_call1_v1_apply]
  have e : idx_main_call1_v1 (ix4 b h t s) = ix2 t s := by
    funext a; match a with | ⟨0, _⟩ => rfl | ⟨1, _⟩ => rfl
  rw [e, mask_apply, v11_apply X0 X1 _ _ (v5_apply X0 X1 b h t s hQ hK), val_main_call1_v2_apply]
  refine if_congr Iff.rfl rfl ?_
  exact Ideal.ofBits_zero_f32

/-- Their reverse running sum. -/
theorem v13_apply (hst : s.val < t.val) : val_main_v13 (F := Ideal) X0 X1 (ix4 b h t s) = ((run (score X0 X1 b h t) t.val s.val : ℝ) : EReal) := by
  have ht := t.isLt
  have hinit : ∀ i, val_main_call2_v0 (F := Ideal) i = (0 : EReal) := fun i => by
    rw [val_main_call2_v0_apply]
    exact Ideal.ofBits_zero_f32
  unfold val_main_v13
  refine (revcumsumAdd_apply (L1 := 4095) (by norm_num) (val_main_v12 (F := Ideal) X0 X1) _ _ _ hinit b h t s
    (fun n => if n < t.val then ((spl (score X0 X1 b h t n) : ℝ) : EReal) else 0) (fun n => v12_apply X0 X1 b h t n hQ hK)).trans ?_
  unfold run
  rw [← coe_sum, ← Finset.sum_filter]
  refine Finset.sum_congr ?_ fun _ _ => rfl
  ext n
  simp only [Finset.mem_filter, Finset.mem_Ico]
  omega

/-- The weights. -/
theorem v18_apply : val_main_v18 (F := Ideal) X0 X1 (ix4 b h t s) = if s.val < t.val then ((wt (score X0 X1 b h t) t.val s.val : ℝ) : EReal) else 0 := by
  rw [val_main_v18_apply, val_main_call4_v1_apply]
  have e : idx_main_call4_v1 (ix4 b h t s) = ix2 t s := by
    funext a; match a with | ⟨0, _⟩ => rfl | ⟨1, _⟩ => rfl
  rw [e, mask_apply]
  by_cases hst : s.val < t.val
  · rw [if_pos hst, if_pos hst, val_main_v17_apply, val_main_v16_apply, val_main_v14_apply, v15_apply X0 X1 _ _ (v5_apply X0 X1 b h t s hQ hK),
      v13_apply X0 X1 b h t s hQ hK hst, v12_apply X0 X1 b h t s hQ hK, if_pos hst]
    refine (exp_sub_sub _ _ _).trans ?_
    rw [← EReal.coe_sub, ← EReal.coe_sub, ref_exponent, Ideal.exp_coe]
    rfl
  · rw [if_neg hst, if_neg hst, val_main_call4_v2_apply]
    exact Ideal.ofBits_zero_f32

/-- The weighted values. -/
theorem v19_apply : val_main_v19 (F := Ideal) X0 X1 X2 (ix4 b h d t) = acc (score X0 X1 b h t) (value X2 b h d) t.val 0 := by
  have ht := t.isLt
  rw [val_main_v19_apply]
  have e1 : ∀ k : Fin 4096, lidx_main_v19 (ix4 b h d t) k = ix4 b k h d := fun k => by
    funext a; match a with | ⟨0, _⟩ => rfl | ⟨1, _⟩ => rfl | ⟨2, _⟩ => rfl | ⟨3, _⟩ => rfl
  have e2 : ∀ k : Fin 4096, ridx_main_v19 (ix4 b h d t) k = ix4 b h t k := fun k => by
    funext a; match a with | ⟨0, _⟩ => rfl | ⟨1, _⟩ => rfl | ⟨2, _⟩ => rfl | ⟨3, _⟩ => rfl
  have hterm : ∀ k : Fin 4096, val_main_v3 (F := Ideal) X2 (lidx_main_v19 (ix4 b h d t) k) * val_main_v18 (F := Ideal) X0 X1 (ridx_main_v19 (ix4 b h d t) k)
      = if 0 ≤ k.val ∧ k.val < t.val then ((wt (score X0 X1 b h t) t.val (0 + k.val) : ℝ) : EReal) * value X2 b h d (0 + k.val) else 0 := by
    intro k
    rw [e1, e2, v3_apply, v18_apply X0 X1 b h t k hQ hK, value_spec X2 b h d k.val k.isLt, Nat.zero_add]
    by_cases hk : k.val < t.val
    · rw [if_pos hk, if_pos ⟨Nat.zero_le _, hk⟩, mul_comm]
    · rw [if_neg hk, if_neg (fun hc => hk hc.2), mul_zero]
  rw [Finset.sum_congr rfl fun k _ => hterm k,
    sum_from_below (N := 4096) (fun n => ((wt (score X0 X1 b h t) t.val n : ℝ) : EReal) * value X2 b h d n) 0 0 t.val ht.le, Nat.zero_add, Nat.zero_add]
  rfl

/-- **The reference at an index.** -/
theorem ref_apply : val_main_v25 (F := Ideal) X0 X1 X2 X3 (ix3 b t (col h d)) = attn X0 X1 X2 X3 b t h d := by
  have hb := b.isLt; have ht := t.isLt; have hh := h.isLt; have hd := d.isLt
  rw [val_main_v25_apply, val_main_v24_apply, val_main_v21_apply, val_main_v20_apply]
  have e : idx_main_v20 (idx_main_v21 (ix3 b t (col h d))) = ix4 b h d t := by
    funext a
    refine Fin.ext ?_
    match a with
    | ⟨0, _⟩ => show ((b.val * 4096 + t.val) * 2048 + (128 * h.val + d.val)) / 8388608 = b.val; omega
    | ⟨1, _⟩ => show ((b.val * 4096 + t.val) * 2048 + (128 * h.val + d.val)) / 128 % 16 = h.val; omega
    | ⟨2, _⟩ => show ((b.val * 4096 + t.val) * 2048 + (128 * h.val + d.val)) % 128 = d.val; omega
    | ⟨3, _⟩ => show ((b.val * 4096 + t.val) * 2048 + (128 * h.val + d.val)) / 2048 % 4096 = t.val; omega
  rw [e, v19_apply X0 X1 X2 b h t d hQ hK]
  unfold attn
  rw [silu_eq, ← Ideal.ofBits_one_f32]
  rw [val_main_v23_apply, val_main_v22_apply, val_main_call5_v5_apply, val_main_call5_v4_apply, val_main_call5_v3_apply, val_main_call5_v2_apply,
    val_main_call5_v1_apply, val_main_call5_v0_apply]
  rfl

end

end Cert.AttnRef

end
-- ==== Proof.Finite.lean ====
/-
  The precondition read: every query and every key is a real number.
-/
module

public import proofs.«01_k».proof.Pre_finite_qk
public import Idealize.ShloMosaic.Lib.ReduceAll
public import Idealize.ShloMosaic.PureOps.Ideal

@[expose] public section

noncomputable section

namespace Cert.FiniteQK

open Cert.Pre_finite_qk Idealize.ShloMosaic

/-- The shape relations the precondition states. -/
theorem facts : Cert.Pre_finite_qk.Facts where
  bitsLt_bf16_f32 := by decide
  bcast_S_S8x4096x2048 := by decide
  reducesTo_S8x4096x2048_S_d0_1_2 := by decide
  h_S_ := by decide

/-- An extended real whose absolute value is below something is a real number. -/
theorem real_of_abs_lt {x y : EReal} (h : max x (-x) < y) : ((x.toReal : ℝ) : EReal) = x := by
  refine EReal.coe_toReal ?_ ?_
  · rintro rfl
    exact absurd (lt_of_le_of_lt (le_max_left _ _) h) not_top_lt
  · rintro rfl
    exact absurd (lt_of_le_of_lt (le_max_right _ _) h) (by rw [EReal.neg_bot]; exact not_top_lt)

theorem lt_of_cmp {x y : EReal} (h : Ideal.cmp .olt x y = 1#1) : x < y := by
  unfold Ideal.cmp at h
  by_contra hn
  simp [hn] at h

theorem and_eq_one : ∀ a b : BitVec 1, IntOp.andi a b = 1#1 → a = 1#1 ∧ b = 1#1 := by decide

instance : Subsingleton S_.Idx := ⟨fun a b => funext fun e => e.elim0⟩

/-- The precondition's two conjuncts, at each index. -/
theorem finite [Facts] (q : FVec Ideal S8x4096x2048 .bf16) (k v : FVec Ideal S8x4096x2048 .f32) (z : FVec Ideal S8x4096x2048 .bf16)
    (i0 : S_.Idx) (h : fn (F := Ideal) q k v z i0 = 1#1) :
    (∀ i, ((q i : EReal).toReal : EReal) = q i) ∧ (∀ i, ((k i : EReal).toReal : EReal) = k i) := by
  obtain ⟨h1, h2⟩ := and_eq_one _ _ h
  exact ⟨fun i => real_of_abs_lt (lt_of_cmp (Host.reduce_andi_all _ _ _ _ _ h1 i)), fun i => real_of_abs_lt (lt_of_cmp (Host.reduce_andi_all _ _ _ _ _ h2 i))⟩

end Cert.FiniteQK

end
-- ==== Proof.AttnClaim.lean ====
/-
  The attention: the kernel's result and the reference's are equal, element by element, as extended reals.
-/
module

public import proofs.«01_k».proof.Defs
public import proofs.«01_k».proof.Proof.Final
public import proofs.«01_k».proof.Proof.Ref
public import proofs.«01_k».proof.Proof.Finite
public import proofs.«01_k».proof.Proof.Gen.ReferenceIdeal.Run

@[expose] public section

noncomputable section

namespace Cert.Attn

open Cert.Stick Idealize.ShloMosaic Idealize.ShloMosaic.ValueIdx Idealize.SL.Sem

/-- The reference's result array is the same function of its arguments. -/
theorem ref_eq (q : SA.Idx → EReal) (k v z : SA.Idx → EReal) (hQ : ∀ i, ((q i).toReal : EReal) = q i) (hK : ∀ i, ((k i).toReal : EReal) = k i) :
    Cert.ReferenceIdeal.Read.val_main_v25 (F := Ideal) q k v z = attnOut q k v z := by
  funext i
  obtain ⟨b, t, x, rfl⟩ : ∃ (b : Fin 8) (t : Fin 4096) (x : Fin 2048), i = ix3 b t x := ⟨_, _, _, eq_ix3 i⟩
  obtain ⟨h, d, rfl⟩ := exists_col x
  rw [attnOut_apply]
  exact Cert.AttnRef.ref_apply q z k v b h t d hQ hK

/-- Both programs run, end with equal results and leave their arguments as they were. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.FiniteQK.facts) := by
  intro m g m' g' hpre hagree
  have hfin := fun c : Dev Cert.KernelIdeal.nD => @Cert.FiniteQK.finite Cert.FiniteQK.facts _ _ _ _ ix0 (congrFun (hpre c) ix0)
  refine ⟨fun c => attnOut (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (θ_run _ _ _).mono (fun r h c => ⟨(h c).1.trans (result_eq m c (hfin c).1 (hfin c).2), (h c).2⟩) (Cert.KernelIdeal.Value.run_blocks m g)
  · refine (θ_run _ _ _).mono (fun r h c => ⟨(h c).1.trans ?_, (h c).2⟩) (Cert.ReferenceIdeal.Value.run m' g')
    obtain ⟨h0, h1, h2, h3⟩ := hagree c
    rw [Cert.ReferenceIdeal.Read.val_main_v25_eq, h0, h1, h2, h3]
    exact ref_eq _ _ _ _ (hfin c).1 (hfin c).2

end Cert.Attn

end
-- ==== Proof.InTile2.lean ====
/-
  The stick-breaking layer's input projection, one tile of rows: the loop over groups of 16 rows fills the scratch buffer
  with the normalized rows, and the contents of the buffer after it in closed form.
-/
module

public import proofs.«01_k».proof.Proof.Gen.Kernel2Ideal.Frame
public import proofs.«01_k».proof.Proof.Gen.Kernel2Ideal.Loops
public import Idealize.ShloMosaic.Lib.WholeRead
public import Idealize.ShloMosaic.Lib.Pointwise
public import Idealize.ShloMosaic.Lib.Pipeline.ValueKit.Tiles

@[expose] public section

noncomputable section

namespace Cert.Kernel2Ideal.In

open Cert.Kernel2Ideal Cert.Kernel2Ideal.Gen Idealize.ShloMosaic Idealize.SL.Sem
open Idealize.ShloMosaic.TcCoe Idealize.ShloMosaic.Tactic

variable {F : FTy → Type} [FloatOps F] [Named F]

/-- The normalized rows of a tile: each group of 16 rows is the group's payload at the tile's rows. -/
def hTile (x : Vec F S1x1024x2048 .f32) (sc sh : Vec F S1x1x2048 .f32) (g : Vec F S1x2048 .f32) : Vec F S1024x2048 .bf16 := fun y =>
  k0_pay1 (fun z => x (ix3 (0 : Fin 1) ⟨16 * ((y 0).val / 16) + (z 1).val, by have h0 : (y 0).val < 1024 := (y 0).isLt; have h1 : (z 1).val < 16 := (z 1).isLt; omega⟩ (z 2)))
    g sc sh (ix2 ⟨(y 0).val % 16, Nat.mod_lt _ (by decide)⟩ (y 1))

theorem trips_eq : k0_t1_loop.trips = 64 := by decide +kernel

theorem off1_eq : ∀ k : Fin k0_t1_loop.trips, k0_off1 k = ![0, 16 * k.val, 0] := by decide +kernel
theorem off2_eq : ∀ k : Fin k0_t1_loop.trips, k0_off2 k = ![16 * k.val, 0] := by decide +kernel

theorem hz3 : (![0, 0, 0] : Fin 3 → ℕ) = fun _ => 0 := by funext a; fin_cases a <;> rfl
theorem hz2 : (![0, 0] : Fin 2 → ℕ) = fun _ => 0 := by funext a; fin_cases a <;> rfl

/-- A whole operand loaded whole. -/
theorem load_whole {S : Shape} {e : EltTy} (m : Memref sig .tc .vmem S e) (h : m.IsWhole) (X : Vec F S e) (off : Fin S.rank → ℕ)
    (hoff : off = fun _ => 0) (inb : ∀ a, off a + S.size a ≤ S.size a) :
    View.readAt (Elt F) m.view (Rect.unit (s := S) off S.size inb).toLoadRect (h.unread X) = X := by
  rw [View.readAt_eq_ld, h.read_unread, View.ld_unit_zero (S := S) hoff]

section

variable (c : Dev nD) (i : grid0.Coords)
  (arg3 : Memref sig .tc .vmem S1x1024x2048 .f32) (harg3 : arg3.IsWhole) (arg4 : Memref sig .tc .vmem S1x1x2048 .f32) (harg4 : arg4.IsWhole)
  (arg5 : Memref sig .tc .vmem S1x1x2048 .f32) (harg5 : arg5.IsWhole) (arg6 : Memref sig .tc .vmem S1x2048 .f32) (harg6 : arg6.IsWhole)
  (arg7 : Memref sig .tc .vmem S2048x512 .bf16) (harg7 : arg7.IsWhole) (arg8 : Memref sig .tc .vmem S1x1024x512 .bf16) (harg8 : arg8.IsWhole)
  (arg9 : Memref sig .tc .vmem S1x1024x512 .f32) (harg9 : arg9.IsWhole) (arg10 : Memref sig .tc .vmem S1x1024x512 .f32) (harg10 : arg10.IsWhole)
  (arg11 : Memref sig .tc .vmem S1x1024x512 .bf16) (harg11 : arg11.IsWhole) (arg12 : Memref sig .tc .vmem S1024x2048 .bf16) (harg12 : arg12.IsWhole)
  (h1 : k0_cond1 i = 1#1)
  (x : Vec F S1x1024x2048 .f32) (sc sh : Vec F S1x1x2048 .f32) (g : Vec F S1x2048 .f32)

/-- What the first `k` groups leave in the scratch buffer, as pieces. -/
abbrev pieces (k : ℕ) : List (View.Piece (Elt F) S1024x2048 .bf16) :=
  pb_k0_t1 (F := F) Variants.none c none i arg3 harg3 arg4 harg4 arg5 harg5 arg6 harg6 arg7 harg7 arg8 harg8 arg9 harg9 arg10 harg10 arg11 harg11 arg12 harg12 h1
    (harg3.unread x) (harg4.unread sc) (harg5.unread sh) (harg6.unread g) k

/-- The rows of group `k`. -/
def group (k : Fin k0_t1_loop.trips) : Vec F S16x2048 .bf16 :=
  k0_pay1 (View.readAt (Elt F) arg3.view (Rect.unit (s := S1x1024x2048) (k0_off1 k) S1x16x2048.size (k0_off1_inb i k h1)).toLoadRect (harg3.unread x)) g sc sh

theorem pieces_succ (k : Fin k0_t1_loop.trips) :
    pieces c i arg3 harg3 arg4 harg4 arg5 harg5 arg6 harg6 arg7 harg7 arg8 harg8 arg9 harg9 arg10 harg10 arg11 harg11 arg12 harg12 h1 x sc sh g (k.val + 1)
      = ⟨Rect.unit (s := S1024x2048) (k0_off2 k) S16x2048.size (k0_off2_inb i k h1), group i arg3 harg3 h1 x sc sh g k⟩
        :: pieces c i arg3 harg3 arg4 harg4 arg5 harg5 arg6 harg6 arg7 harg7 arg8 harg8 arg9 harg9 arg10 harg10 arg11 harg11 arg12 harg12 h1 x sc sh g k.val := by
  unfold pieces
  rw [pb_k0_t1_succ]
  unfold group tripL_k0_t1 trip_k0_t1
  dsimp only
  rw [load_whole arg6 harg6 g _ hz2, load_whole arg4 harg4 sc _ hz3, load_whole arg5 harg5 sh _ hz3]
  rfl

theorem group_apply (k : Fin k0_t1_loop.trips) (y : S1024x2048.Idx) (r : Fin 16) (hy : (y 0).val = 16 * k.val + r.val) :
    group i arg3 harg3 h1 x sc sh g k (ix2 r (y 1)) = hTile x sc sh g y := by
  have hd : (y 0).val / 16 = k.val := by omega
  have hm : (⟨(y 0).val % 16, Nat.mod_lt _ (by decide)⟩ : Fin 16) = r := Fin.ext (by show _ % 16 = _; omega)
  unfold group hTile
  rw [hm]
  congr 1
  funext z
  rw [View.readAt_eq_ld, harg3.read_unread]
  refine View.ld_unit_apply_of x _ _ _ _ _ ?_
  intro a
  have ho := congrFun (off1_eq k) a
  refine Eq.trans ?_ (congrArg (· + (z a).val) ho.symm)
  have hz0 : (z 0).val = 0 := Nat.lt_one_iff.mp (z 0).isLt
  fin_cases a
  · show 0 = 0 + (z 0).val
    omega
  · show 16 * ((y 0).val / 16) + (z 1).val = 16 * k.val + (z 1).val
    rw [hd]
  · show (z 2).val = 0 + (z 2).val
    omega

/-- After `k` groups the first `16 k` rows are written, each with its normalized row. -/
theorem pieces_apply (k : ℕ) (hk : k ≤ 64) (y : S1024x2048.Idx) (hy : (y 0).val < 16 * k) :
    (∃ p ∈ pieces c i arg3 harg3 arg4 harg4 arg5 harg5 arg6 harg6 arg7 harg7 arg8 harg8 arg9 harg9 arg10 harg10 arg11 harg11 arg12 harg12 h1 x sc sh g k, y ∈ p.1.set)
    ∧ View.canon (pieces c i arg3 harg3 arg4 harg4 arg5 harg5 arg6 harg6 arg7 harg7 arg8 harg8 arg9 harg9 arg10 harg10 arg11 harg11 arg12 harg12 h1 x sc sh g k) y
      = hTile x sc sh g y := by
  induction k with
  | zero => exact absurd hy (by omega)
  | succ k ih =>
    have hlt : k < k0_t1_loop.trips := by rw [trips_eq]; omega
    rw [pieces_succ c i arg3 harg3 arg4 harg4 arg5 harg5 arg6 harg6 arg7 harg7 arg8 harg8 arg9 harg9 arg10 harg10 arg11 harg11 arg12 harg12 h1 x sc sh g ⟨k, hlt⟩]
    have hoff := off2_eq ⟨k, hlt⟩
    by_cases hlow : (y 0).val < 16 * k
    · obtain ⟨⟨p, hp, hyp⟩, hc⟩ := ih (by omega) hlow
      refine ⟨⟨p, List.mem_cons_of_mem _ hp, hyp⟩, ?_⟩
      rw [View.canon_cons_of_not_mem _ _ (fun hm => ?_)]
      · exact hc
      · have := (Rect.mem_set_unit (inb := k0_off2_inb i ⟨k, hlt⟩ h1).mp hm (0 : Fin 2)).1
        rw [hoff] at this
        have h' : 16 * k ≤ (y 0).val := this
        omega
    · have hr : (y 0).val - 16 * k < 16 := by omega
      have he : (Rect.unit (s := S1024x2048) (k0_off2 ⟨k, hlt⟩) S16x2048.size (k0_off2_inb i ⟨k, hlt⟩ h1)).emb (ix2 (⟨(y 0).val - 16 * k, hr⟩ : Fin 16) (y 1)) = y := by
        funext a
        apply Fin.ext
        rw [Rect.emb_apply]
        refine (congrArg (· + 1 * ((ix2 (⟨(y 0).val - 16 * k, hr⟩ : Fin 16) (y 1)) a).val) (congrFun hoff a)).trans ?_
        fin_cases a
        · show 16 * k + 1 * ((y 0).val - 16 * k) = (y 0).val
          omega
        · show 0 + 1 * (y 1).val = (y 1).val
          omega
      refine ⟨⟨_, List.mem_cons_self, ?_⟩, ?_⟩
      · show y ∈ (Rect.unit (s := S1024x2048) (k0_off2 ⟨k, hlt⟩) S16x2048.size (k0_off2_inb i ⟨k, hlt⟩ h1)).set
        refine Rect.mem_set_unit.mpr fun a => ?_
        rw [hoff]
        fin_cases a
        · show 16 * k ≤ (y 0).val ∧ (y 0).val < 16 * k + 16
          omega
        · show 0 ≤ (y 1).val ∧ (y 1).val < 0 + 2048
          have : (y 1).val < 2048 := (y 1).isLt
          omega
      · refine (congrArg _ he.symm).trans ((View.canon_cons_emb _ _ _ _).trans ?_)
        exact group_apply i arg3 harg3 h1 x sc sh g ⟨k, hlt⟩ y ⟨(y 0).val - 16 * k, hr⟩ (by show _ = 16 * k + ((y 0).val - 16 * k); omega)

/-- The scratch buffer after the loop, read: the tile's normalized rows. -/
theorem read_pieces (f : arg12.view.ty.Contents (Elt F)) :
    arg12.view.read (Elt F) (arg12.view.writes (Elt F) f
      (pieces c i arg3 harg3 arg4 harg4 arg5 harg5 arg6 harg6 arg7 harg7 arg8 harg8 arg9 harg9 arg10 harg10 arg11 harg11 arg12 harg12 h1 x sc sh g k0_t1_loop.trips))
      = hTile x sc sh g := by
  rw [trips_eq]
  have h := fun y : S1024x2048.Idx => pieces_apply c i arg3 harg3 arg4 harg4 arg5 harg5 arg6 harg6 arg7 harg7 arg8 harg8 arg9 harg9 arg10 harg10 arg11 harg11 arg12 harg12 h1
    x sc sh g 64 le_rfl y (by have : (y 0).val < 1024 := (y 0).isLt; omega)
  rw [View.read_writes_eq_canon _ _ _ fun y => (h y).1]
  exact funext fun y => (h y).2

end

end Cert.Kernel2Ideal.In

end
-- ==== Proof.InRun2.lean ====
/-
  The stick-breaking layer's input projection at one point of the grid: what the body leaves in the buffers, in the five
  cases of its conditions. The first step of a tile of rows normalizes the tile into the scratch buffer; every step
  multiplies the scratch buffer by the step's columns of the weights and stores the product into the output of the step.
-/
module

public import proofs.«01_k».proof.Proof.InTile2

@[expose] public section

set_option maxRecDepth 16384

noncomputable section

namespace Cert.Kernel2Ideal.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A store of a whole buffer, read back. -/
theorem read_store_whole {S : Shape} {e : EltTy} (m : Memref sig .tc .vmem S e) (f : m.view.ty.Contents (Elt F)) (off : Fin S.rank → ℕ)
    (hoff : off = fun _ => 0) (inb : ∀ a, off a + S.size a ≤ S.size a) (X : Vec F S e) :
    m.view.read (Elt F) (m.view.writes (Elt F) f [⟨Rect.unit (s := S) off S.size inb, X⟩]) = X := by
  rw [View.read_writes_eq_canon _ _ _ fun y => ⟨_, List.mem_singleton_self _, by subst hoff; exact (Rect.mem_set_unit (s := S) (inb := inb)).mpr fun a => ⟨Nat.zero_le _, (Nat.zero_add (S.size a)).symm ▸ (y a).isLt⟩⟩]
  exact View.canon_unit_zero hoff inb X

variable (c : Dev nD) (i : grid0.Coords)
  (arg3 : Memref sig .tc .vmem S1x1024x2048 .f32) (harg3 : arg3.IsWhole) (arg4 : Memref sig .tc .vmem S1x1x2048 .f32) (harg4 : arg4.IsWhole)
  (arg5 : Memref sig .tc .vmem S1x1x2048 .f32) (harg5 : arg5.IsWhole) (arg6 : Memref sig .tc .vmem S1x2048 .f32) (harg6 : arg6.IsWhole)
  (arg7 : Memref sig .tc .vmem S2048x512 .bf16) (harg7 : arg7.IsWhole) (arg8 : Memref sig .tc .vmem S1x1024x512 .bf16) (harg8 : arg8.IsWhole)
  (arg9 : Memref sig .tc .vmem S1x1024x512 .f32) (harg9 : arg9.IsWhole) (arg10 : Memref sig .tc .vmem S1x1024x512 .f32) (harg10 : arg10.IsWhole)
  (arg11 : Memref sig .tc .vmem S1x1024x512 .bf16) (harg11 : arg11.IsWhole) (arg12 : Memref sig .tc .vmem S1024x2048 .bf16) (harg12 : arg12.IsWhole)
  (x : Vec F S1x1024x2048 .f32) (sc sh : Vec F S1x1x2048 .f32) (g : Vec F S1x2048 .f32) (w : Vec F S2048x512 .bf16)

set_option maxHeartbeats 1000000 in
/-- The first step of a tile: the scratch buffer takes the normalized rows, the first output their product. -/
theorem run_A (hc1 : k0_cond1 i = 1#1) (hc2 : k0_cond2 i = 1#1) (hc3 : ¬k0_cond3 i = 1#1) (hc4 : ¬k0_cond4 i = 1#1) (hc5 : ¬k0_cond5 i = 1#1) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ (∃ d, owns (c : Thread nD τ) arg12 fullShare d) ∗ (∃ d, owns (c : Thread nD τ) arg8 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare (hTile x sc sh g) ∗ owns (c : Thread nD τ) arg8 fullShare (k0_pay3 (hTile x sc sh g) w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  have hs := read_pieces c i arg3 harg3 arg4 harg4 arg5 harg5 arg6 harg6 arg7 harg7 arg8 harg8 arg9 harg9 arg10 harg10 arg11 harg11 arg12 harg12 hc1 x sc sh g f5
  isplitl [H5]
  · iexists _; isplitr
    swap; · iexact H5
    ipureintro; exact hs
  iexists _; isplitr
  swap; · iexact H6
  ipureintro
  refine (read_store_whole arg8 _ _ hz3 _ _).trans ?_
  rw [load_whole arg7 harg7 w _ hz2]
  refine congrArg (k0_pay3 · w) ?_
  sl_unfold_words
  rw [View.readAt_eq_ld, View.ld_unit_zero (S := S1024x2048) hz2]
  exact hs

set_option maxHeartbeats 1000000 in
/-- A later step of the first output: the product of the scratch buffer. -/
theorem run_B (hc1 : ¬k0_cond1 i = 1#1) (hc2 : k0_cond2 i = 1#1) (hc3 : ¬k0_cond3 i = 1#1) (hc4 : ¬k0_cond4 i = 1#1) (hc5 : ¬k0_cond5 i = 1#1) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg8 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg8 fullShare (k0_pay3 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg8 _ _ hz3 _ _).trans ?_
  rw [load_whole arg7 harg7 w _ hz2]
  rw [load_whole arg12 harg12 H _ hz2]

set_option maxHeartbeats 1000000 in
/-- A step of the second output. -/
theorem run_C (hc1 : ¬k0_cond1 i = 1#1) (hc2 : ¬k0_cond2 i = 1#1) (hc3 : k0_cond3 i = 1#1) (hc4 : ¬k0_cond4 i = 1#1) (hc5 : ¬k0_cond5 i = 1#1) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg9 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg9 fullShare (k0_pay4 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg9 _ _ hz3 _ _).trans ?_
  rw [load_whole arg7 harg7 w _ hz2]
  rw [load_whole arg12 harg12 H _ hz2]

set_option maxHeartbeats 1000000 in
/-- A step of the third output. -/
theorem run_D (hc1 : ¬k0_cond1 i = 1#1) (hc2 : ¬k0_cond2 i = 1#1) (hc3 : ¬k0_cond3 i = 1#1) (hc4 : k0_cond4 i = 1#1) (hc5 : ¬k0_cond5 i = 1#1) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg10 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg10 fullShare (k0_pay5 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg10 _ _ hz3 _ _).trans ?_
  rw [load_whole arg7 harg7 w _ hz2]
  rw [load_whole arg12 harg12 H _ hz2]

set_option maxHeartbeats 1000000 in
/-- A step of the fourth output. -/
theorem run_E (hc1 : ¬k0_cond1 i = 1#1) (hc2 : ¬k0_cond2 i = 1#1) (hc3 : ¬k0_cond3 i = 1#1) (hc4 : ¬k0_cond4 i = 1#1) (hc5 : k0_cond5 i = 1#1) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg11 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg11 fullShare (k0_pay6 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg11 _ _ hz3 _ _).trans ?_
  rw [load_whole arg7 harg7 w _ hz2]
  rw [load_whole arg12 harg12 H _ hz2]

end Cert.Kernel2Ideal.In

end
-- ==== Proof.InFrame2.lean ====
/-
  The stick-breaking layer's input projection on its grid: what each buffer holds point by point, the body at every point
  of the grid, the run of the whole call, and that it changes no argument.

  A tile of rows takes 16 steps. The first four store the blocks of the first output, the next four those of the second,
  and so on. An output's buffer is written back when its block changes and after the tile's last step; the last step is
  no step of the first three outputs, and what is written back then is what the output's own last step left.
-/
module

public import proofs.«01_k».proof.Proof.InRun2
public import Idealize.ShloMosaic.Lib.Pipeline.TableIdle
public import Idealize.ShloMosaic.Lib.Claim

@[expose] public section

set_option maxRecDepth 16384

noncomputable section

namespace Cert.Kernel2Ideal.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The schedule -/

theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
theorem cond2_iff : ∀ t : Fin cfg0.N, k0_cond2 (grid0.coords t) = 1#1 ↔ t.val % 16 < 4 :=
  (by decide +kernel : ∀ t : Fin grid0.N, k0_cond2 (grid0.coords t) = 1#1 ↔ t.val % 16 < 4)
theorem cond3_iff : ∀ t : Fin cfg0.N, k0_cond3 (grid0.coords t) = 1#1 ↔ 4 ≤ t.val % 16 ∧ t.val % 16 < 8 :=
  (by decide +kernel : ∀ t : Fin grid0.N, k0_cond3 (grid0.coords t) = 1#1 ↔ 4 ≤ t.val % 16 ∧ t.val % 16 < 8)
theorem cond4_iff : ∀ t : Fin cfg0.N, k0_cond4 (grid0.coords t) = 1#1 ↔ 8 ≤ t.val % 16 ∧ t.val % 16 < 12 :=
  (by decide +kernel : ∀ t : Fin grid0.N, k0_cond4 (grid0.coords t) = 1#1 ↔ 8 ≤ t.val % 16 ∧ t.val % 16 < 12)
theorem cond5_iff : ∀ t : Fin cfg0.N, k0_cond5 (grid0.coords t) = 1#1 ↔ 12 ≤ t.val % 16 :=
  (by decide +kernel : ∀ t : Fin grid0.N, k0_cond5 (grid0.coords t) = 1#1 ↔ 12 ≤ t.val % 16)

theorem idle5 : ∀ t : Fin cfg0.N, cfg0.idle 5 (cfg0.grid.coords t) = !decide (t.val % 16 < 4) :=
  (by decide +kernel : ∀ t : Fin grid0.N, idle0 5 (grid0.coords t) = !decide (t.val % 16 < 4))
theorem idle6 : ∀ t : Fin cfg0.N, cfg0.idle 6 (cfg0.grid.coords t) = !decide (4 ≤ t.val % 16 ∧ t.val % 16 < 8) :=
  (by decide +kernel : ∀ t : Fin grid0.N, idle0 6 (grid0.coords t) = !decide (4 ≤ t.val % 16 ∧ t.val % 16 < 8))
theorem idle7 : ∀ t : Fin cfg0.N, cfg0.idle 7 (cfg0.grid.coords t) = !decide (8 ≤ t.val % 16 ∧ t.val % 16 < 12) :=
  (by decide +kernel : ∀ t : Fin grid0.N, idle0 7 (grid0.coords t) = !decide (8 ≤ t.val % 16 ∧ t.val % 16 < 12))
theorem idle8 : ∀ t : Fin cfg0.N, cfg0.idle 8 (cfg0.grid.coords t) = !decide (12 ≤ t.val % 16) :=
  (by decide +kernel : ∀ t : Fin grid0.N, idle0 8 (grid0.coords t) = !decide (12 ≤ t.val % 16))

theorem flush5 : ∀ t : Fin cfg0.N, (cfg0.win 5).flush t = decide (t.val % 16 < 3 ∨ t.val % 16 = 15) :=
  (by decide +kernel : ∀ t : Fin grid0.N, win0_5.flush t = decide (t.val % 16 < 3 ∨ t.val % 16 = 15))
theorem flush6 : ∀ t : Fin cfg0.N, (cfg0.win 6).flush t = decide ((4 ≤ t.val % 16 ∧ t.val % 16 < 7) ∨ t.val % 16 = 15) :=
  (by decide +kernel : ∀ t : Fin grid0.N, win0_6.flush t = decide ((4 ≤ t.val % 16 ∧ t.val % 16 < 7) ∨ t.val % 16 = 15))
theorem flush7 : ∀ t : Fin cfg0.N, (cfg0.win 7).flush t = decide ((8 ≤ t.val % 16 ∧ t.val % 16 < 11) ∨ t.val % 16 = 15) :=
  (by decide +kernel : ∀ t : Fin grid0.N, win0_7.flush t = decide ((8 ≤ t.val % 16 ∧ t.val % 16 < 11) ∨ t.val % 16 = 15))
theorem flush8 : ∀ t : Fin cfg0.N, (cfg0.win 8).flush t = decide (12 ≤ t.val % 16) :=
  (by decide +kernel : ∀ t : Fin grid0.N, win0_8.flush t = decide (12 ≤ t.val % 16))

theorem lt512 (t : Fin cfg0.N) : t.val < 512 := N_0 ▸ t.isLt

/-- The first point of a point's tile. -/
def base (t : Fin cfg0.N) : Fin cfg0.N := ⟨16 * (t.val / 16), by have := t.isLt; omega⟩

/-- The point of the tile nearest to `t` among the four steps from step `f`. -/
def near (f : Fin 13) (t : Fin cfg0.N) : Fin cfg0.N :=
  ⟨16 * (t.val / 16) + min (max (t.val % 16) f.val) (f.val + 3), by have h := lt512 t; have := f.isLt; have e : cfg0.N = 512 := N_0; omega⟩

theorem near_of_live (f : Fin 13) (t : Fin cfg0.N) (h : f.val ≤ t.val % 16) (h' : t.val % 16 ≤ f.val + 3) : near f t = t :=
  Fin.ext (by show 16 * (t.val / 16) + min (max (t.val % 16) f.val) (f.val + 3) = t.val; omega)

theorem near_prev (f : Fin 13) (t : Fin cfg0.N) (h : f.val + 4 ≤ t.val % 16) : near f t = near f ⟨t.val - 1, by omega⟩ :=
  Fin.ext (by
    show 16 * (t.val / 16) + min (max (t.val % 16) f.val) (f.val + 3) = 16 * ((t.val - 1) / 16) + min (max ((t.val - 1) % 16) f.val) (f.val + 3)
    omega)

theorem base_of_first (t : Fin cfg0.N) (h : t.val % 16 = 0) : base t = t := Fin.ext (by show 16 * (t.val / 16) = t.val; omega)

theorem base_prev (t : Fin cfg0.N) (h : t.val % 16 ≠ 0) : base ⟨t.val - 1, by omega⟩ = base t :=
  Fin.ext (by show 16 * ((t.val - 1) / 16) = 16 * (t.val / 16); omega)

/-! ## The buffers point by point -/

/-- The scratch buffer during a point's tile: the tile's normalized rows. -/
def rows (c : Dev nD) (t : Fin cfg0.N) : Vec F S1024x2048 .bf16 :=
  hTile (iblk m c 0 (base t)) (iblk m c 1 (base t)) (iblk m c 2 (base t)) (iblk m c 3 (base t))

def out5 (c : Dev nD) (t : Fin cfg0.N) : Vec F S1x1024x512 .bf16 := k0_pay3 (rows m c t) (iblk m c 4 t)
def out6 (c : Dev nD) (t : Fin cfg0.N) : Vec F S1x1024x512 .f32 := k0_pay4 (rows m c t) (iblk m c 4 t)
def out7 (c : Dev nD) (t : Fin cfg0.N) : Vec F S1x1024x512 .f32 := k0_pay5 (rows m c t) (iblk m c 4 t)
def out8 (c : Dev nD) (t : Fin cfg0.N) : Vec F S1x1024x512 .bf16 := k0_pay6 (rows m c t) (iblk m c 4 t)

/-- What holds before point `n`: between tiles the scratch buffer at anything, inside one at the tile's rows. -/
def inv (c : Dev nD) (n : Fin (cfg0.N + 1)) : sProp (MT nD τ sig Unit (Elt F) ℕ (UR sig nD τ) ℕ) :=
  if h : n.val % 16 = 0 then Pipeline.ΦA spec0 c
  else iprop(owns (c : Thread nD τ) (Memref.whole cc0_scratch0) fullShare (rows m c ⟨n.val - 1, by have := n.isLt; omega⟩) ∗ ∃ r, prngReg c r)

/-- The data of the call: the arrays as it finds them, the buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c (near 0 t)
    | ⟨6, _⟩ => out6 m c (near 4 t)
    | ⟨7, _⟩ => out7 m c (near 8 t)
    | ⟨8, _⟩ => out8 m c (near 12 t)
  Φ n := inv m c n
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c (near 0 t) := by dsimp only [dats]
theorem after0_6 (c : Dev nD) (t : Fin cfg0.N) : (dats m 0 c).after 6 t = out6 m c (near 4 t) := by dsimp only [dats]
theorem after0_7 (c : Dev nD) (t : Fin cfg0.N) : (dats m 0 c).after 7 t = out7 m c (near 8 t) := by dsimp only [dats]
theorem after0_8 (c : Dev nD) (t : Fin cfg0.N) : (dats m 0 c).after 8 t = out8 m c (near 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## An output's buffer at its own steps and at the others' -/

theorem fresh5 (n : ℕ) (hn : n ≤ cfg0.N) : cfg0.fresh 5 n = decide (n % 16 ≤ 3) :=
  cfg0.fresh_tab 5 (fun n => decide (n % 16 ≤ 3)) rfl (fun t => by
    rw [flush5, idle5, Bool.eq_iff_iff]; simp only [Bool.or_eq_true, Bool.and_eq_true, Bool.not_eq_true', decide_eq_true_eq, decide_eq_false_iff_not]; omega) n hn
theorem fresh6 (n : ℕ) (hn : n ≤ cfg0.N) : cfg0.fresh 6 n = decide (n % 16 ≤ 7) :=
  cfg0.fresh_tab 6 (fun n => decide (n % 16 ≤ 7)) rfl (fun t => by
    rw [flush6, idle6, Bool.eq_iff_iff]; simp only [Bool.or_eq_true, Bool.and_eq_true, Bool.not_eq_true', decide_eq_true_eq, decide_eq_false_iff_not]; omega) n hn
theorem fresh7 (n : ℕ) (hn : n ≤ cfg0.N) : cfg0.fresh 7 n = decide (n % 16 ≤ 11) :=
  cfg0.fresh_tab 7 (fun n => decide (n % 16 ≤ 11)) rfl (fun t => by
    rw [flush7, idle7, Bool.eq_iff_iff]; simp only [Bool.or_eq_true, Bool.and_eq_true, Bool.not_eq_true', decide_eq_true_eq, decide_eq_false_iff_not]; omega) n hn

theorem carry5 (c : Dev nD) (t : Fin cfg0.N) (h : 4 ≤ t.val % 16) (d) : (dats m 0 c).before 5 t d = (dats m 0 c).after 5 t := by
  have hc : ∀ (t : Fin cfg0.N), 4 ≤ t.val % 16 → (dats m 0 c).after 5 t = (dats m 0 c).after 5 ⟨t.val - 1, by omega⟩ := fun t h => by
    rw [after0_5, after0_5, near_prev 0 t h]
  rw [(dats m 0 c).before_out_traj 5 rfl (fun _ _ => rfl) (fun t _ _ hf => hc t (by
    rw [fresh5 _ t.isLt.le, decide_eq_false_iff_not] at hf; omega)) t.val t rfl d, fresh5 _ t.isLt.le, if_neg (by simp only [decide_eq_true_eq]; omega)]
  exact (hc t h).symm
theorem carry6 (c : Dev nD) (t : Fin cfg0.N) (h : 8 ≤ t.val % 16) (d) : (dats m 0 c).before 6 t d = (dats m 0 c).after 6 t := by
  have hc : ∀ (t : Fin cfg0.N), 8 ≤ t.val % 16 → (dats m 0 c).after 6 t = (dats m 0 c).after 6 ⟨t.val - 1, by omega⟩ := fun t h => by
    rw [after0_6, after0_6, near_prev 4 t h]
  rw [(dats m 0 c).before_out_traj 6 rfl (fun _ _ => rfl) (fun t _ _ hf => hc t (by
    rw [fresh6 _ t.isLt.le, decide_eq_false_iff_not] at hf; omega)) t.val t rfl d, fresh6 _ t.isLt.le, if_neg (by simp only [decide_eq_true_eq]; omega)]
  exact (hc t h).symm
theorem carry7 (c : Dev nD) (t : Fin cfg0.N) (h : 12 ≤ t.val % 16) (d) : (dats m 0 c).before 7 t d = (dats m 0 c).after 7 t := by
  have hc : ∀ (t : Fin cfg0.N), 12 ≤ t.val % 16 → (dats m 0 c).after 7 t = (dats m 0 c).after 7 ⟨t.val - 1, by omega⟩ := fun t h => by
    rw [after0_7, after0_7, near_prev 8 t h]
  rw [(dats m 0 c).before_out_traj 7 rfl (fun _ _ => rfl) (fun t _ _ hf => hc t (by
    rw [fresh7 _ t.isLt.le, decide_eq_false_iff_not] at hf; omega)) t.val t rfl d, fresh7 _ t.isLt.le, if_neg (by simp only [decide_eq_true_eq]; omega)]
  exact (hc t h).symm

/-- At another output's step the buffer is handed back: at anything, or, where it is written back, at what it was left at. -/
theorem leaves_idle (c : Dev nD) (w : Fin cfg0.W) (t : Fin cfg0.N) (hi : cfg0.idle w (cfg0.grid.coords t) = true)
    (hb : (cfg0.win w).flush t = true → ∀ d, (dats m 0 c).before w t d = (dats m 0 c).after w t) :
    iprop(∃ d, owns (c : Thread nD τ) ((cfg0.win w).stage (cfg0.slots t w)) fullShare ((dats m 0 c).before w t d)) ⊢ ((dats m 0 c).leavesExact w t : sProp (MT nD τ sig Unit (Elt F) ℕ (UR sig nD τ) ℕ)) := by
  cases hf : (cfg0.win w).flush t with
  | false => rw [(dats m 0 c).leavesExact_idle w t hi hf]
  | true =>
    unfold Dat.leavesExact
    rw [hi, hf]
    iintro ⟨%d, H⟩
    rw [hb hf d]
    iexact H

/-- At the output's own step: at what the step stores. -/
theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ ((dats m 0 c).leavesExact w t : sProp (MT nD τ sig Unit (Elt F) ℕ (UR sig nD τ) ℕ)) := by
  unfold Dat.leavesExact
  rw [hi]

theorem skip5 (c : Dev nD) (t : Fin cfg0.N) (h : ¬ t.val % 16 < 4) :
    iprop(∃ d, owns (c : Thread nD τ) (st0_5 t) fullShare ((dats m 0 c).before 5 t d)) ⊢ ((dats m 0 c).leavesExact 5 t : sProp (MT nD τ sig Unit (Elt F) ℕ (UR sig nD τ) ℕ)) :=
  leaves_idle m c 5 t (by rw [idle5]; simp [h]) fun _ d => carry5 m c t (by omega) d
theorem skip6 (c : Dev nD) (t : Fin cfg0.N) (h : ¬ (4 ≤ t.val % 16 ∧ t.val % 16 < 8)) :
    iprop(∃ d, owns (c : Thread nD τ) (st0_6 t) fullShare ((dats m 0 c).before 6 t d)) ⊢ ((dats m 0 c).leavesExact 6 t : sProp (MT nD τ sig Unit (Elt F) ℕ (UR sig nD τ) ℕ)) :=
  leaves_idle m c 6 t (by rw [idle6, decide_eq_false h]; rfl) fun hf d => carry6 m c t (by rw [flush6, decide_eq_true_eq] at hf; omega) d
theorem skip7 (c : Dev nD) (t : Fin cfg0.N) (h : ¬ (8 ≤ t.val % 16 ∧ t.val % 16 < 12)) :
    iprop(∃ d, owns (c : Thread nD τ) (st0_7 t) fullShare ((dats m 0 c).before 7 t d)) ⊢ ((dats m 0 c).leavesExact 7 t : sProp (MT nD τ sig Unit (Elt F) ℕ (UR sig nD τ) ℕ)) :=
  leaves_idle m c 7 t (by rw [idle7, decide_eq_false h]; rfl) fun hf d => carry7 m c t (by rw [flush7, decide_eq_true_eq] at hf; omega) d
theorem skip8 (c : Dev nD) (t : Fin cfg0.N) (h : ¬ 12 ≤ t.val % 16) :
    iprop(∃ d, owns (c : Thread nD τ) (st0_8 t) fullShare ((dats m 0 c).before 8 t d)) ⊢ ((dats m 0 c).leavesExact 8 t : sProp (MT nD τ sig Unit (Elt F) ℕ (UR sig nD τ) ℕ)) :=
  leaves_idle m c 8 t (by rw [idle8, decide_eq_false h]; rfl) fun hf d => absurd (by rw [flush8, decide_eq_true_eq] at hf; exact hf) h

/-! ## What holds between points -/

theorem inv_first (c : Dev nD) (n : Fin (cfg0.N + 1)) (h : n.val % 16 = 0) : (inv m c n : sProp (MT nD τ sig Unit (Elt F) ℕ (UR sig nD τ) ℕ)) = Pipeline.ΦA spec0 c := by
  unfold inv; rw [dif_pos h]

theorem inv_inner (c : Dev nD) (n : Fin (cfg0.N + 1)) (t : Fin cfg0.N) (h : n.val % 16 ≠ 0) (ht : base ⟨n.val - 1, by have := n.isLt; omega⟩ = base t) :
    (inv m c n : sProp (MT nD τ sig Unit (Elt F) ℕ (UR sig nD τ) ℕ)) = iprop(owns (c : Thread nD τ) (Memref.whole cc0_scratch0) fullShare (rows m c t) ∗ ∃ r, prngReg c r) := by
  unfold inv; rw [dif_neg h]
  unfold rows
  rw [ht]

theorem open_first (c : Dev nD) : (Pipeline.ΦA spec0 c : sProp (MT nD τ sig Unit (Elt F) ℕ (UR sig nD τ) ℕ)) = iprop((∃ d, owns (c : Thread nD τ) (Memref.whole cc0_scratch0) fullShare d) ∗ ∃ r, prngReg c r) := by
  unfold Pipeline.ΦA
  rw [scopedRest0_eq c]
  rw [(Memref.isWhole_whole cc0_scratch0).exists_owns_eq]

end Cert.Kernel2Ideal.In

end
-- ==== Proof.InBody2.lean ====
/-
  The stick-breaking layer's input projection: the body at every point of the grid, the run of the whole call, and that it
  changes no argument.
-/
module

public import proofs.«01_k».proof.Proof.InFrame2

@[expose] public section

set_option maxRecDepth 16384

noncomputable section

namespace Cert.Kernel2Ideal.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The invariant at a point -/

theorem rows_first (c : Dev nD) (t : Fin cfg0.N) (h : t.val % 16 = 0) :
    hTile (iblk m c 0 t) (iblk m c 1 t) (iblk m c 2 t) (iblk m c 3 t) = rows m c t := by
  unfold rows; rw [base_of_first t h]

/-- Inside a tile the body finds the scratch buffer at the tile's rows. -/
theorem inv_open (c : Dev nD) (t : Fin cfg0.N) (h : t.val % 16 ≠ 0) :
    (inv m c t.castSucc : sProp (MT nD τ sig Unit (Elt F) ℕ (UR sig nD τ) ℕ)) = iprop(owns (c : Thread nD τ) (Memref.whole cc0_scratch0) fullShare (rows m c t) ∗ ∃ r, prngReg c r) :=
  inv_inner m c t.castSucc t h (base_prev t h)

/-- And leaves it there, or, after the tile's last step, at anything. -/
theorem inv_close (c : Dev nD) (t : Fin cfg0.N) :
    iprop(owns (c : Thread nD τ) (Memref.whole cc0_scratch0) fullShare (rows m c t) ∗ ∃ r, prngReg c r) ⊢ (inv m c t.succ : sProp (MT nD τ sig Unit (Elt F) ℕ (UR sig nD τ) ℕ)) := by
  by_cases h : t.succ.val % 16 = 0
  · rw [inv_first m c t.succ h, open_first c]
    iintro ⟨H, Hr⟩
    isplitl [H]
    · iexists _; iexact H
    iexact Hr
  · rw [inv_inner m c t.succ t h rfl]

/-! ## The body -/

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t
    ∗ (dats m 0 c).leavesExact 8 t)

/-- The body at the first step of a tile. -/
theorem sound_A (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_first m c t.castSucc h, open_first c]
  iintro ⟨⟨Hs, Hr⟩, Ho, ⟨%d0, H0⟩, ⟨%d1, H1⟩, ⟨%d2, H2⟩, ⟨%d3, H3⟩, ⟨%d4, H4⟩, ⟨%d5, H5⟩, H6, H7, H8⟩
  iapply (run_A c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) Set.univ _)
  isplitl [H0]; · iexact H0
  isplitl [H1]; · iexact H1
  isplitl [H2]; · iexact H2
  isplitl [H3]; · iexact H3
  isplitl [H4]; · iexact H4
  isplitl [Hs]; · iexact Hs
  isplitl [H5]; · iexists _; iexact H5
  iintro ⟨H0, H1, H2, H3, H4, Hs, H5⟩
  rw [rows_first m c t h]
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_live m c 5 t (by rw [idle5, decide_eq_true (by omega)]; rfl))
    rw [after0_5, near_of_live 0 t (by show 0 ≤ _; omega) (by show _ ≤ 0 + 3; omega)]
    iexact H5
  isplitl [H6]
  · iapply (skip6 m c t (by omega))
    iexact H6
  isplitl [H7]
  · iapply (skip7 m c t (by omega))
    iexact H7
  iapply (skip8 m c t (by omega))
  iexact H8

/-- The body at the steps of the first output. -/
theorem sound_B (c : Dev nD) (t : Fin cfg0.N) (h : t.val % 16 ≠ 0) (h' : t.val % 16 < 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, ⟨%d5, H5⟩, H6, H7, H8⟩
  iapply (run_B c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H5]; · iexists _; iexact H5
  iintro ⟨H0, H1, H2, H3, H4, Hs, H5⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_live m c 5 t (by rw [idle5, decide_eq_true (by omega)]; rfl))
    rw [after0_5, near_of_live 0 t (by show 0 ≤ _; omega) (by show _ ≤ 0 + 3; omega)]
    iexact H5
  isplitl [H6]
  · iapply (skip6 m c t (by omega))
    iexact H6
  isplitl [H7]
  · iapply (skip7 m c t (by omega))
    iexact H7
  iapply (skip8 m c t (by omega))
  iexact H8

/-- The body at the steps of the second output. -/
theorem sound_C (c : Dev nD) (t : Fin cfg0.N) (h : 4 ≤ t.val % 16) (h' : t.val % 16 < 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, H5, ⟨%d6, H6⟩, H7, H8⟩
  iapply (run_C c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H6]; · iexists _; iexact H6
  iintro ⟨H0, H1, H2, H3, H4, Hs, H6⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (skip5 m c t (by omega))
    iexact H5
  isplitl [H6]
  · iapply (leaves_live m c 6 t (by rw [idle6, decide_eq_true (by omega)]; rfl))
    rw [after0_6, near_of_live 4 t (by show 4 ≤ _; omega) (by show _ ≤ 4 + 3; omega)]
    iexact H6
  isplitl [H7]
  · iapply (skip7 m c t (by omega))
    iexact H7
  iapply (skip8 m c t (by omega))
  iexact H8

/-- The body at the steps of the third output. -/
theorem sound_D (c : Dev nD) (t : Fin cfg0.N) (h : 8 ≤ t.val % 16) (h' : t.val % 16 < 12) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, H5, H6, ⟨%d7, H7⟩, H8⟩
  iapply (run_D c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H7]; · iexists _; iexact H7
  iintro ⟨H0, H1, H2, H3, H4, Hs, H7⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (skip5 m c t (by omega))
    iexact H5
  isplitl [H6]
  · iapply (skip6 m c t (by omega))
    iexact H6
  isplitl [H7]
  · iapply (leaves_live m c 7 t (by rw [idle7, decide_eq_true (by omega)]; rfl))
    rw [after0_7, near_of_live 8 t (by show 8 ≤ _; omega) (by show _ ≤ 8 + 3; omega)]
    iexact H7
  iapply (skip8 m c t (by omega))
  iexact H8

/-- The body at the steps of the fourth output. -/
theorem sound_E (c : Dev nD) (t : Fin cfg0.N) (h : 12 ≤ t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, H5, H6, H7, ⟨%d8, H8⟩⟩
  iapply (run_E c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H8]; · iexists _; iexact H8
  iintro ⟨H0, H1, H2, H3, H4, Hs, H8⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (skip5 m c t (by omega))
    iexact H5
  isplitl [H6]
  · iapply (skip6 m c t (by omega))
    iexact H6
  isplitl [H7]
  · iapply (skip7 m c t (by omega))
    iexact H7
  iapply (leaves_live m c 8 t (by rw [idle8, decide_eq_true (by omega)]; rfl))
  rw [after0_8, near_of_live 12 t (by show 12 ≤ _; omega) (by show _ ≤ 12 + 3; omega)]
  iexact H8

theorem sound_body (c : Dev nD) (t : Fin cfg0.N) :
    bodyPre m c t ⊢ wp frame (wpE (defs₀ (F := F)) Variants.none c none) Set.univ (bodyAt0 t) (fun _ => bodyPost m c t) := by
  by_cases h : t.val % 16 = 0
  · exact sound_A m c t h
  by_cases h4 : t.val % 16 < 4
  · exact sound_B m c t h h4
  by_cases h8 : t.val % 16 < 8
  · exact sound_C m c t (by omega) h8
  by_cases h12 : t.val % 16 < 12
  · exact sound_D m c t (by omega) h12
  exact sound_E m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : (Pipeline.ΦA spec0 c : sProp (MT nD τ sig Unit (Elt F) ℕ (UR sig nD τ) ℕ)) ⊢ (dats m 0 c).Φ 0 := by
  rw [show (dats m 0 c).Φ 0 = inv m c 0 from rfl, inv_first m c 0 rfl]

theorem inv_out (c : Dev nD) : ((dats m 0 c).Φ (Fin.last cfg0.N) : sProp (MT nD τ sig Unit (Elt F) ℕ (UR sig nD τ) ℕ)) ⊢ Pipeline.ΦA spec0 c := by
  rw [show (dats m 0 c).Φ (Fin.last cfg0.N) = inv m c (Fin.last cfg0.N) from rfl,
    inv_first m c (Fin.last cfg0.N) (by show cfg0.N % 16 = 0; rw [show cfg0.N = 512 from N_0])]

set_option backward.isDefEq.respectTransparency.types false in
/-- The call runs to the end from any memory: its arrays end at what the points wrote, the other buffers as they were,
    every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The call ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.In

end
-- ==== Proof.InValue2.lean ====
/-
  The stick-breaking layer's input projection: the four result arrays, entry by entry, and the claim that they are the
  reference's.
-/
module

public import proofs.«01_k».proof.Defs
public import proofs.«01_k».proof.Proof.InBody2
public import proofs.«01_k».proof.Proof.Gen.Reference2Ideal.Run
public import Idealize.ShloMosaic.Lib.Pipeline.ValueKit.Geometry
public import Idealize.ShloMosaic.Lib.Pipeline.Covers
public import Idealize.ShloMosaic.Lib.Pointwise

@[expose] public section

noncomputable section

namespace Cert.In2

open Cert.Kernel2Ideal Cert.Kernel2Ideal.Gen Cert.Kernel2Ideal.In Idealize.ShloMosaic Idealize.SL.Sem
open Idealize.ShloMosaic.TcCoe

/-! ## The results -/

/-- A normalized entry of the layer's input, scaled and shifted. -/
def hid (X : S8x4096x2048.Idx → EReal) (sc sh : S8x2048.Idx → EReal) (g : S2048.Idx → EReal) (b : Fin 8) (t : Fin 4096) (k : Fin 2048) : EReal :=
  X (ix3 b t k) * Ideal.rsqrt (Ideal.div (∑ j : Fin 2048, X (ix3 b t j) * X (ix3 b t j)) (Ideal.ofBits .f32 0x45000000#32) + Ideal.ofBits .f32 0x358637BD#32)
    * g (ix1 k) * (Ideal.ofBits .f32 0x3F800000#32 + sc (ix2 b k)) + sh (ix2 b k)

/-- One entry of the product with the weights. -/
def proj (X : S8x4096x2048.Idx → EReal) (sc sh : S8x2048.Idx → EReal) (g : S2048.Idx → EReal) (W : S2048x8192.Idx → EReal)
    (b : Fin 8) (t : Fin 4096) (n : Fin 8192) : EReal :=
  ∑ k : Fin 2048, hid X sc sh g b t k * W (ix2 k n)

/-- A quarter of the product's columns. -/
def quarter (f : Fin 4) (X : S8x4096x2048.Idx → EReal) (sc sh : S8x2048.Idx → EReal) (g : S2048.Idx → EReal) (W : S2048x8192.Idx → EReal) :
    S8x4096x2048.Idx → EReal := fun i =>
  proj X sc sh g W (i 0) (i 1) ⟨2048 * f.val + (i 2).val, by have h : (i 2).val < 2048 := (i 2).isLt; have := f.isLt; omega⟩

/-- The first quarter over the root of a head's width. -/
def scaled (X : S8x4096x2048.Idx → EReal) (sc sh : S8x2048.Idx → EReal) (g : S2048.Idx → EReal) (W : S2048x8192.Idx → EReal) :
    S8x4096x2048.Idx → EReal := fun i => quarter 0 X sc sh g W i * (((Real.sqrt 128)⁻¹ : ℝ) : EReal)

/-! ## The payloads -/

set_option maxRecDepth 16384 in
theorem pay1_apply (x : Vec Ideal S1x16x2048 .f32) (g : Vec Ideal S1x2048 .f32) (sc sh : Vec Ideal S1x1x2048 .f32) (r : Fin 16) (k : Fin 2048) :
    k0_pay1 x g sc sh (ix2 r k)
      = x (ix3 (0 : Fin 1) r k) * Ideal.rsqrt (Ideal.div (∑ j : Fin 2048, x (ix3 (0 : Fin 1) r j) * x (ix3 (0 : Fin 1) r j)) (Ideal.ofBits .f32 0x45000000#32) + Ideal.ofBits .f32 0x358637BD#32)
          * g (ix2 (0 : Fin 1) k) * (Ideal.ofBits .f32 0x3F800000#32 + sc (ix3 (0 : Fin 1) (0 : Fin 1) k)) + sh (ix3 (0 : Fin 1) (0 : Fin 1) k) := by
  unfold k0_pay1
  pointwise

theorem pay3_apply (H : Vec Ideal S1024x2048 .bf16) (w : Vec Ideal S2048x512 .bf16) (r : Fin 1024) (j : Fin 512) :
    k0_pay3 H w (ix3 (0 : Fin 1) r j) = (∑ k : Fin 2048, H (ix2 r k) * w (ix2 k j)) * (((Real.sqrt 128)⁻¹ : ℝ) : EReal) := by
  unfold k0_pay3 k0_pay2
  rw [show Named.named (F := Ideal) κ "s" (φ := .f32) 0x3DB504F3#32 = (((Real.sqrt 128)⁻¹ : ℝ) : EReal) from IdealRules.named_const.ideal_named_scalar _ _ _ _ rfl]
  pointwise

theorem pay4_apply (H : Vec Ideal S1024x2048 .bf16) (w : Vec Ideal S2048x512 .bf16) (r : Fin 1024) (j : Fin 512) :
    k0_pay4 H w (ix3 (0 : Fin 1) r j) = ∑ k : Fin 2048, H (ix2 r k) * w (ix2 k j) := by
  unfold k0_pay4 k0_pay2
  pointwise

theorem pay5_apply (H : Vec Ideal S1024x2048 .bf16) (w : Vec Ideal S2048x512 .bf16) (r : Fin 1024) (j : Fin 512) :
    k0_pay5 H w (ix3 (0 : Fin 1) r j) = ∑ k : Fin 2048, H (ix2 r k) * w (ix2 k j) := by
  unfold k0_pay5 k0_pay2
  pointwise

theorem pay6_apply (H : Vec Ideal S1024x2048 .bf16) (w : Vec Ideal S2048x512 .bf16) (r : Fin 1024) (j : Fin 512) :
    k0_pay6 H w (ix3 (0 : Fin 1) r j) = ∑ k : Fin 2048, H (ix2 r k) * w (ix2 k j) := by
  unfold k0_pay6 k0_pay2
  pointwise

/-- A tile's normalized entry, from the tile's own row. -/
theorem hTile_apply (x : Vec Ideal S1x1024x2048 .f32) (sc sh : Vec Ideal S1x1x2048 .f32) (g : Vec Ideal S1x2048 .f32) (r : Fin 1024) (k : Fin 2048) :
    hTile x sc sh g (ix2 r k)
      = x (ix3 (0 : Fin 1) r k) * Ideal.rsqrt (Ideal.div (∑ j : Fin 2048, x (ix3 (0 : Fin 1) r j) * x (ix3 (0 : Fin 1) r j)) (Ideal.ofBits .f32 0x45000000#32) + Ideal.ofBits .f32 0x358637BD#32)
          * g (ix2 (0 : Fin 1) k) * (Ideal.ofBits .f32 0x3F800000#32 + sc (ix3 (0 : Fin 1) (0 : Fin 1) k)) + sh (ix3 (0 : Fin 1) (0 : Fin 1) k) := by
  have e : ∀ j : Fin 2048, (ix3 (0 : Fin 1) (⟨16 * (r.val / 16) + r.val % 16, by have := r.isLt; omega⟩ : Fin 1024) j : S1x1024x2048.Idx) = ix3 (0 : Fin 1) r j := fun j =>
    congrArg (fun s : Fin 1024 => (ix3 (0 : Fin 1) s j : S1x1024x2048.Idx)) (Fin.ext (by show 16 * (r.val / 16) + r.val % 16 = r.val; omega))
  refine (pay1_apply _ g sc sh ⟨r.val % 16, Nat.mod_lt _ (by decide)⟩ k).trans ?_
  have hx : ∀ j : Fin 2048, (fun z : S1x16x2048.Idx => x (ix3 (0 : Fin 1) (⟨16 * (r.val / 16) + (z 1).val, by have := r.isLt; have h1 : (z 1).val < 16 := (z 1).isLt; omega⟩ : Fin 1024) (z 2)))
      (ix3 (0 : Fin 1) (⟨r.val % 16, Nat.mod_lt _ (by decide)⟩ : Fin 16) j) = x (ix3 (0 : Fin 1) r j) := fun j => congrArg x (e j)
  have hs := Finset.sum_congr (rfl : (Finset.univ : Finset (Fin 2048)) = Finset.univ) fun j _ => congrArg₂ (· * ·) (hx j) (hx j)
  exact congrArg₂ (fun a s => a * Ideal.rsqrt (Ideal.div s (Ideal.ofBits .f32 0x45000000#32) + Ideal.ofBits .f32 0x358637BD#32)
          * g (ix2 (0 : Fin 1) k) * (Ideal.ofBits .f32 0x3F800000#32 + sc (ix3 (0 : Fin 1) (0 : Fin 1) k)) + sh (ix3 (0 : Fin 1) (0 : Fin 1) k)) (hx k) hs

/-! ## The blocks -/

theorem at0 : ∀ t : Fin cfg0.N, win0_0.index t = ![t.val / 64, t.val / 16 % 4, 0] := (by decide +kernel : ∀ t : Fin grid0.N, _)
theorem at1 : ∀ t : Fin cfg0.N, win0_1.index t = ![t.val / 64, 0, 0] := (by decide +kernel : ∀ t : Fin grid0.N, _)
theorem at2 : ∀ t : Fin cfg0.N, win0_2.index t = ![t.val / 64, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, t.val % 16] := (by decide +kernel : ∀ t : Fin grid0.N, _)
theorem at5 : ∀ t : Fin cfg0.N, win0_5.index t = ![t.val / 64, t.val / 16 % 4, min (max (t.val % 16) 0) 3] := (by decide +kernel : ∀ t : Fin grid0.N, _)
theorem at6 : ∀ t : Fin cfg0.N, win0_6.index t = ![t.val / 64, t.val / 16 % 4, min (max (t.val % 16) 4) 7 - 4] := (by decide +kernel : ∀ t : Fin grid0.N, _)
theorem at7 : ∀ t : Fin cfg0.N, win0_7.index t = ![t.val / 64, t.val / 16 % 4, min (max (t.val % 16) 8) 11 - 8] := (by decide +kernel : ∀ t : Fin grid0.N, _)
theorem at8 : ∀ t : Fin cfg0.N, win0_8.index t = ![t.val / 64, t.val / 16 % 4, min (max (t.val % 16) 12) 15 - 12] := (by decide +kernel : ∀ t : Fin grid0.N, _)
theorem covers5 : (cfg0.win 5).Covers := by decide +kernel
theorem covers6 : (cfg0.win 6).Covers := by decide +kernel
theorem covers7 : (cfg0.win 7).Covers := by decide +kernel
theorem covers8 : (cfg0.win 8).Covers := by decide +kernel

/-- The sequence and the position of a tile's row, and the column of a step's column. -/
def seqOf (t : Fin cfg0.N) : Fin 8 := ⟨t.val / 64, by have := lt512 t; omega⟩
def pos (t : Fin cfg0.N) (r : Fin 1024) : Fin 4096 := ⟨1024 * (t.val / 16 % 4) + r.val, by have := r.isLt; omega⟩
def col (t : Fin cfg0.N) (j : Fin 512) : Fin 8192 := ⟨512 * (t.val % 16) + j.val, by have := j.isLt; omega⟩

section

variable (m : (ℓ : Loc nD τ sig) → Buf (Elt Ideal) ℓ) (c : Dev nD) (t : Fin cfg0.N)

theorem x_block (r : Fin 1024) (k : Fin 2048) :
    iblk m c 0 t (ix3 (0 : Fin 1) r k) = m ((c : Thread nD τ).loc main_arg0) (ix3 (seqOf t) (pos t r) k) := by
  blk_simp [iblk]
  rw [show V m c main_arg0 = _ from V_main_arg0 m c]
  refine congrArg (m ((c : Thread nD τ).loc main_arg0)) ?_
  funext a
  refine Fin.ext ?_
  match a with
  | ⟨0, _⟩ => blk_simp [at0]; rfl
  | ⟨1, _⟩ => blk_simp [at0]; show (t.val / 16 % 4) * 1024 + r.val = 1024 * (t.val / 16 % 4) + r.val; omega
  | ⟨2, _⟩ => blk_simp [at0]

theorem sc_block (k : Fin 2048) : iblk m c 1 t (ix3 (0 : Fin 1) (0 : Fin 1) k) = m ((c : Thread nD τ).loc main_arg1) (ix2 (seqOf t) k) := by
  have e : V m c main_v0 = (broadcastInDim S8x1x2048 ![0, 2] bcast_S8x2048_S8x1x2048_0_2 (m ((c : Thread nD τ).loc main_arg1)) : FVec Ideal S8x1x2048 .f32) := by
    dsimp only [V, hostOps0]
    after_results
  have i : (win0_1.blk t).view.emb (ix3 (0 : Fin 1) (0 : Fin 1) k) = ix3 (seqOf t) (0 : Fin 1) k := by
    funext a
    refine Fin.ext ?_
    match a with
    | ⟨0, _⟩ => blk_simp [at1]; rfl
    | ⟨1, _⟩ => blk_simp [at1]
    | ⟨2, _⟩ => blk_simp [at1]
  blk_simp [iblk]
  rw [show V m c main_v0 = _ from e, i]
  pointwise

theorem sh_block (k : Fin 2048) : iblk m c 2 t (ix3 (0 : Fin 1) (0 : Fin 1) k) = m ((c : Thread nD τ).loc main_arg2) (ix2 (seqOf t) k) := by
  have e : V m c main_v1 = (broadcastInDim S8x1x2048 ![0, 2] bcast_S8x2048_S8x1x2048_0_2 (m ((c : Thread nD τ).loc main_arg2)) : FVec Ideal S8x1x2048 .f32) := by
    dsimp only [V, hostOps0]
    after_results
  have i : (win0_2.blk t).view.emb (ix3 (0 : Fin 1) (0 : Fin 1) k) = ix3 (seqOf t) (0 : Fin 1) k := by
    funext a
    refine Fin.ext ?_
    match a with
    | ⟨0, _⟩ => blk_simp [at2]; rfl
    | ⟨1, _⟩ => blk_simp [at2]
    | ⟨2, _⟩ => blk_simp [at2]
  blk_simp [iblk]
  rw [show V m c main_v1 = _ from e, i]
  pointwise

set_option maxRecDepth 16384 in
theorem g_block (k : Fin 2048) : iblk m c 3 t (ix2 (0 : Fin 1) k) = m ((c : Thread nD τ).loc main_arg3) (ix1 k) := by
  have e : V m c main_v3 = (shapeCast S1x2048 (m ((c : Thread nD τ).loc main_arg3)) shapeCasts_S2048_S1x2048 : FVec Ideal S1x2048 .f32) := by
    dsimp only [V, hostOps0]
    after_results
    rfl
  have i : (win0_3.blk t).view.emb (ix2 (0 : Fin 1) k) = ix2 (0 : Fin 1) k := by
    funext a
    refine Fin.ext ?_
    match a with
    | ⟨0, _⟩ => blk_simp [at3]
    | ⟨1, _⟩ => blk_simp [at3]
  blk_simp [iblk]
  rw [show V m c main_v3 = _ from e, i]
  pointwise

theorem w_block (k : Fin 2048) (j : Fin 512) : iblk m c 4 t (ix2 k j) = m ((c : Thread nD τ).loc main_arg4) (ix2 k (col t j)) := by
  have e : V m c main_v2 = (truncf .bf16 (m ((c : Thread nD τ).loc main_arg4)) bitsLt_bf16_f32 : FVec Ideal S2048x8192 .bf16) := by
    dsimp only [V, hostOps0]
    after_results
  have i : (win0_4.blk t).view.emb (ix2 k j) = ix2 k (col t j) := by
    funext a
    refine Fin.ext ?_
    match a with
    | ⟨0, _⟩ => blk_simp [at4]
    | ⟨1, _⟩ => blk_simp [at4]; show (t.val % 16) * 512 + j.val = 512 * (t.val % 16) + j.val; omega
  blk_simp [iblk]
  rw [show V m c main_v2 = _ from e, i]
  rfl

theorem seqOf_base : seqOf (base t) = seqOf t := Fin.ext (by show 16 * (t.val / 16) / 64 = t.val / 64; omega)
theorem pos_base (r : Fin 1024) : pos (base t) r = pos t r :=
  Fin.ext (by show 1024 * (16 * (t.val / 16) / 16 % 4) + r.val = 1024 * (t.val / 16 % 4) + r.val; omega)

/-- The scratch buffer's rows are the reference's normalized rows. -/
theorem rows_apply (r : Fin 1024) (k : Fin 2048) :
    rows m c t (ix2 r k) = hid (m ((c : Thread nD τ).loc main_arg0)) (m ((c : Thread nD τ).loc main_arg1)) (m ((c : Thread nD τ).loc main_arg2))
      (m ((c : Thread nD τ).loc main_arg3)) (seqOf t) (pos t r) k := by
  refine (hTile_apply _ _ _ _ r k).trans ?_
  have hx : ∀ j : Fin 2048, iblk m c 0 (base t) (ix3 (0 : Fin 1) r j) = m ((c : Thread nD τ).loc main_arg0) (ix3 (seqOf t) (pos t r) j) := fun j => by
    rw [x_block, seqOf_base, pos_base]
  have hsc := (sc_block m c (base t) k).trans (congrArg (fun b => m ((c : Thread nD τ).loc main_arg1) (ix2 b k)) (seqOf_base t))
  have hsh := (sh_block m c (base t) k).trans (congrArg (fun b => m ((c : Thread nD τ).loc main_arg2) (ix2 b k)) (seqOf_base t))
  have hg := g_block m c (base t) k
  have hs := Finset.sum_congr (rfl : (Finset.univ : Finset (Fin 2048)) = Finset.univ) fun j _ => congrArg₂ (fun a b : EReal => a * b) (hx j) (hx j)
  unfold hid
  exact congr (congrArg HAdd.hAdd (congr (congrArg HMul.hMul (congr (congrArg HMul.hMul (congr (congrArg HMul.hMul (hx k))
    (congrArg (fun s => Ideal.rsqrt (Ideal.div s (Ideal.ofBits .f32 0x45000000#32) + Ideal.ofBits .f32 0x358637BD#32)) hs))) hg)) (congrArg (fun s : EReal => Ideal.ofBits .f32 0x3F800000#32 + s) hsc))) hsh

theorem proj_block (r : Fin 1024) (j : Fin 512) :
    ∑ k : Fin 2048, rows m c t (ix2 r k) * iblk m c 4 t (ix2 k j)
      = proj (m ((c : Thread nD τ).loc main_arg0)) (m ((c : Thread nD τ).loc main_arg1)) (m ((c : Thread nD τ).loc main_arg2))
          (m ((c : Thread nD τ).loc main_arg3)) (m ((c : Thread nD τ).loc main_arg4)) (seqOf t) (pos t r) (col t j) :=
  Finset.sum_congr rfl fun k _ => congrArg₂ (fun a b : EReal => a * b) (rows_apply m c t r k) (w_block m c t k j)

end

/-- Where a product's block lands in its quarter. -/
theorem quarter_at (f : Fin 4) (X : S8x4096x2048.Idx → EReal) (sc sh : S8x2048.Idx → EReal) (g : S2048.Idx → EReal) (W : S2048x8192.Idx → EReal)
    (s t : Fin cfg0.N) (r : Fin 1024) (j : Fin 512) (q : Fin 2048) (hs : s.val / 16 = t.val / 16) (hq : 2048 * f.val + q.val = 512 * (s.val % 16) + j.val) :
    proj X sc sh g W (seqOf s) (pos s r) (col s j) = quarter f X sc sh g W (ix3 (seqOf t) (pos t r) q) := by
  have h0 : seqOf s = seqOf t := Fin.ext (by show s.val / 64 = t.val / 64; omega)
  have h1 : pos s r = pos t r := Fin.ext (by show 1024 * (s.val / 16 % 4) + r.val = 1024 * (t.val / 16 % 4) + r.val; rw [hs])
  have h2 : col s j = ⟨2048 * f.val + q.val, by have := q.isLt; have := f.isLt; omega⟩ := Fin.ext hq.symm
  rw [h0, h1, h2]
  rfl

section

variable (m : (ℓ : Loc nD τ sig) → Buf (Elt Ideal) ℓ) (c : Dev nD)

theorem result5 :
    (dats m 0 c).arrAt 5 cfg0.N = scaled (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ covers5 fun t _ y => ?_
  blk_simp
  rw [after0_5]
  obtain ⟨u, r, j, rfl⟩ : ∃ (u : Fin 1) (r : Fin 1024) (j : Fin 512), y = ix3 u r j := ⟨_, _, _, eq_ix3 y⟩
  obtain rfl : u = 0 := Subsingleton.elim _ _
  have e : (win0_5.blk t).view.emb (ix3 (0 : Fin 1) r j) = ix3 (seqOf t) (pos t r) (⟨512 * (min (max (t.val % 16) 0) 3) + j.val, by have := j.isLt; omega⟩ : Fin 2048) := by
    funext a
    refine Fin.ext ?_
    match a with
    | ⟨0, _⟩ => blk_simp [at5]; rfl
    | ⟨1, _⟩ => blk_simp [at5]; show (t.val / 16 % 4) * 1024 + r.val = 1024 * (t.val / 16 % 4) + r.val; omega
    | ⟨2, _⟩ => blk_simp [at5]; show (min (max (t.val % 16) 0) 3) * 512 + j.val = 512 * (min (max (t.val % 16) 0) 3) + j.val; omega
  refine Eq.trans ?_ (congrArg (scaled (m ((c : Thread nD τ).loc main_arg0)) (m ((c : Thread nD τ).loc main_arg1)) (m ((c : Thread nD τ).loc main_arg2))
      (m ((c : Thread nD τ).loc main_arg3)) (m ((c : Thread nD τ).loc main_arg4))) e.symm)
  refine (pay3_apply _ _ r j).trans ?_
  exact congrArg (fun a : EReal => a * (((Real.sqrt 128)⁻¹ : ℝ) : EReal))
    ((proj_block m c (near 0 t) r j).trans (quarter_at 0 _ _ _ _ _ (near 0 t) t r j _
    (by show (16 * (t.val / 16) + min (max (t.val % 16) 0) (0 + 3)) / 16 = t.val / 16; omega)
    (by show 2048 * 0 + (512 * (min (max (t.val % 16) 0) 3) + j.val) = 512 * ((16 * (t.val / 16) + min (max (t.val % 16) 0) (0 + 3)) % 16) + j.val; omega)))

theorem result6 :
    (dats m 0 c).arrAt 6 cfg0.N = quarter 1 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ covers6 fun t _ y => ?_
  blk_simp
  rw [after0_6]
  obtain ⟨u, r, j, rfl⟩ : ∃ (u : Fin 1) (r : Fin 1024) (j : Fin 512), y = ix3 u r j := ⟨_, _, _, eq_ix3 y⟩
  obtain rfl : u = 0 := Subsingleton.elim _ _
  have e : (win0_6.blk t).view.emb (ix3 (0 : Fin 1) r j) = ix3 (seqOf t) (pos t r) (⟨512 * (min (max (t.val % 16) 4) 7 - 4) + j.val, by have := j.isLt; omega⟩ : Fin 2048) := by
    funext a
    refine Fin.ext ?_
    match a with
    | ⟨0, _⟩ => blk_simp [at6]; rfl
    | ⟨1, _⟩ => blk_simp [at6]; show (t.val / 16 % 4) * 1024 + r.val = 1024 * (t.val / 16 % 4) + r.val; omega
    | ⟨2, _⟩ => blk_simp [at6]; show (min (max (t.val % 16) 4) 7 - 4) * 512 + j.val = 512 * (min (max (t.val % 16) 4) 7 - 4) + j.val; omega
  refine Eq.trans ?_ (congrArg (quarter 1 (m ((c : Thread nD τ).loc main_arg0)) (m ((c : Thread nD τ).loc main_arg1)) (m ((c : Thread nD τ).loc main_arg2))
      (m ((c : Thread nD τ).loc main_arg3)) (m ((c : Thread nD τ).loc main_arg4))) e.symm)
  refine (pay4_apply _ _ r j).trans ?_
  exact ((proj_block m c (near 4 t) r j).trans (quarter_at 1 _ _ _ _ _ (near 4 t) t r j _
    (by show (16 * (t.val / 16) + min (max (t.val % 16) 4) (4 + 3)) / 16 = t.val / 16; omega)
    (by show 2048 * 1 + (512 * (min (max (t.val % 16) 4) 7 - 4) + j.val) = 512 * ((16 * (t.val / 16) + min (max (t.val % 16) 4) (4 + 3)) % 16) + j.val; omega)))

theorem result7 :
    (dats m 0 c).arrAt 7 cfg0.N = quarter 2 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ covers7 fun t _ y => ?_
  blk_simp
  rw [after0_7]
  obtain ⟨u, r, j, rfl⟩ : ∃ (u : Fin 1) (r : Fin 1024) (j : Fin 512), y = ix3 u r j := ⟨_, _, _, eq_ix3 y⟩
  obtain rfl : u = 0 := Subsingleton.elim _ _
  have e : (win0_7.blk t).view.emb (ix3 (0 : Fin 1) r j) = ix3 (seqOf t) (pos t r) (⟨512 * (min (max (t.val % 16) 8) 11 - 8) + j.val, by have := j.isLt; omega⟩ : Fin 2048) := by
    funext a
    refine Fin.ext ?_
    match a with
    | ⟨0, _⟩ => blk_simp [at7]; rfl
    | ⟨1, _⟩ => blk_simp [at7]; show (t.val / 16 % 4) * 1024 + r.val = 1024 * (t.val / 16 % 4) + r.val; omega
    | ⟨2, _⟩ => blk_simp [at7]; show (min (max (t.val % 16) 8) 11 - 8) * 512 + j.val = 512 * (min (max (t.val % 16) 8) 11 - 8) + j.val; omega
  refine Eq.trans ?_ (congrArg (quarter 2 (m ((c : Thread nD τ).loc main_arg0)) (m ((c : Thread nD τ).loc main_arg1)) (m ((c : Thread nD τ).loc main_arg2))
      (m ((c : Thread nD τ).loc main_arg3)) (m ((c : Thread nD τ).loc main_arg4))) e.symm)
  refine (pay5_apply _ _ r j).trans ?_
  exact ((proj_block m c (near 8 t) r j).trans (quarter_at 2 _ _ _ _ _ (near 8 t) t r j _
    (by show (16 * (t.val / 16) + min (max (t.val % 16) 8) (8 + 3)) / 16 = t.val / 16; omega)
    (by show 2048 * 2 + (512 * (min (max (t.val % 16) 8) 11 - 8) + j.val) = 512 * ((16 * (t.val / 16) + min (max (t.val % 16) 8) (8 + 3)) % 16) + j.val; omega)))

theorem result8 :
    (dats m 0 c).arrAt 8 cfg0.N = quarter 3 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ covers8 fun t _ y => ?_
  blk_simp
  rw [after0_8]
  obtain ⟨u, r, j, rfl⟩ : ∃ (u : Fin 1) (r : Fin 1024) (j : Fin 512), y = ix3 u r j := ⟨_, _, _, eq_ix3 y⟩
  obtain rfl : u = 0 := Subsingleton.elim _ _
  have e : (win0_8.blk t).view.emb (ix3 (0 : Fin 1) r j) = ix3 (seqOf t) (pos t r) (⟨512 * (min (max (t.val % 16) 12) 15 - 12) + j.val, by have := j.isLt; omega⟩ : Fin 2048) := by
    funext a
    refine Fin.ext ?_
    match a with
    | ⟨0, _⟩ => blk_simp [at8]; rfl
    | ⟨1, _⟩ => blk_simp [at8]; show (t.val / 16 % 4) * 1024 + r.val = 1024 * (t.val / 16 % 4) + r.val; omega
    | ⟨2, _⟩ => blk_simp [at8]; show (min (max (t.val % 16) 12) 15 - 12) * 512 + j.val = 512 * (min (max (t.val % 16) 12) 15 - 12) + j.val; omega
  refine Eq.trans ?_ (congrArg (quarter 3 (m ((c : Thread nD τ).loc main_arg0)) (m ((c : Thread nD τ).loc main_arg1)) (m ((c : Thread nD τ).loc main_arg2))
      (m ((c : Thread nD τ).loc main_arg3)) (m ((c : Thread nD τ).loc main_arg4))) e.symm)
  refine (pay6_apply _ _ r j).trans ?_
  exact ((proj_block m c (near 12 t) r j).trans (quarter_at 3 _ _ _ _ _ (near 12 t) t r j _
    (by show (16 * (t.val / 16) + min (max (t.val % 16) 12) (12 + 3)) / 16 = t.val / 16; omega)
    (by show 2048 * 3 + (512 * (min (max (t.val % 16) 12) 15 - 12) + j.val) = 512 * ((16 * (t.val / 16) + min (max (t.val % 16) 12) (12 + 3)) % 16) + j.val; omega)))

end

/-! ## The claim -/

/-- Dividing by the root of a head's width is multiplying by its inverse. -/
theorem div_root (a : EReal) : Ideal.div a (Ideal.sqrt (Ideal.ofBits .f32 0x43000000#32)) = a * (((Real.sqrt 128)⁻¹ : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num), Ideal.div_coe (Real.sqrt_pos.mpr (by norm_num)).ne', one_div]

theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => scaled (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => quarter 1 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => quarter 2 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => quarter 3 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), ?_, ?_⟩
  · exact (θ_run _ _ _).mono (fun r h c => ⟨((h.1.1 c).1 5).trans (result5 m c), ((h.1.1 c).1 6).trans (result6 m c), ((h.1.1 c).1 7).trans (result7 m c),
      ((h.1.1 c).1 8).trans (result8 m c), h.2.1 c⟩) (θ_run_and (In.run_main_quiescent m g) (In.frame m g))
  · refine (θ_run _ _ _).mono (fun r h c => ⟨(h c).1.trans ?_, (h c).2.1.trans ?_, (h c).2.2.1.trans ?_, (h c).2.2.2.1.trans ?_, (h c).2.2.2.2⟩) (Cert.Reference2Ideal.Value.run m' g')
    all_goals
      obtain ⟨h0, h1, h2, h3, h4⟩ := hagree c
      rw [h0, h1, h2, h3, h4]
      funext i
      obtain ⟨b, t, j, rfl⟩ : ∃ (b : Fin 8) (t : Fin 4096) (j : Fin 2048), i = ix3 b t j := ⟨_, _, _, eq_ix3 i⟩
    · refine Eq.trans ?_ (div_root _)
      unfold quarter proj hid
      pointwise
    all_goals
      unfold quarter proj hid
      pointwise

end Cert.In2

end
-- ==== Proof.InTile5.lean ====
/-
  The GLA layer's input projection, one tile of rows: the loop over groups of 16 rows fills the scratch buffer
  with the normalized rows, and the contents of the buffer after it in closed form.
-/
module

public import proofs.«01_k».proof.Proof.Gen.Kernel5Ideal.Frame
public import proofs.«01_k».proof.Proof.Gen.Kernel5Ideal.Loops
public import Idealize.ShloMosaic.Lib.WholeRead
public import Idealize.ShloMosaic.Lib.Pointwise
public import Idealize.ShloMosaic.Lib.Pipeline.ValueKit.Tiles

@[expose] public section

noncomputable section

namespace Cert.Kernel5Ideal.In

open Cert.Kernel5Ideal Cert.Kernel5Ideal.Gen Idealize.ShloMosaic Idealize.SL.Sem
open Idealize.ShloMosaic.TcCoe Idealize.ShloMosaic.Tactic

variable {F : FTy → Type} [FloatOps F]

/-- The normalized rows of a tile: each group of 16 rows is the group's payload at the tile's rows. -/
def hTile (x : Vec F S1x1024x2048 .f32) (sc sh : Vec F S1x1x2048 .f32) (g : Vec F S1x2048 .f32) : Vec F S1024x2048 .bf16 := fun y =>
  k0_pay1 (fun z => x (ix3 (0 : Fin 1) ⟨16 * ((y 0).val / 16) + (z 1).val, by have h0 : (y 0).val < 1024 := (y 0).isLt; have h1 : (z 1).val < 16 := (z 1).isLt; omega⟩ (z 2)))
    g sc sh (ix2 ⟨(y 0).val % 16, Nat.mod_lt _ (by decide)⟩ (y 1))

theorem trips_eq : k0_t1_loop.trips = 64 := by decide +kernel

theorem off1_eq : ∀ k : Fin k0_t1_loop.trips, k0_off1 k = ![0, 16 * k.val, 0] := by decide +kernel
theorem off2_eq : ∀ k : Fin k0_t1_loop.trips, k0_off2 k = ![16 * k.val, 0] := by decide +kernel

theorem hz3 : (![0, 0, 0] : Fin 3 → ℕ) = fun _ => 0 := by funext a; fin_cases a <;> rfl
theorem hz2 : (![0, 0] : Fin 2 → ℕ) = fun _ => 0 := by funext a; fin_cases a <;> rfl

/-- A whole operand loaded whole. -/
theorem load_whole {S : Shape} {e : EltTy} (m : Memref sig .tc .vmem S e) (h : m.IsWhole) (X : Vec F S e) (off : Fin S.rank → ℕ)
    (hoff : off = fun _ => 0) (inb : ∀ a, off a + S.size a ≤ S.size a) :
    View.readAt (Elt F) m.view (Rect.unit (s := S) off S.size inb).toLoadRect (h.unread X) = X := by
  rw [View.readAt_eq_ld, h.read_unread, View.ld_unit_zero (S := S) hoff]

section

variable (c : Dev nD) (i : grid0.Coords)
  (arg3 : Memref sig .tc .vmem S1x1024x2048 .f32) (harg3 : arg3.IsWhole) (arg4 : Memref sig .tc .vmem S1x1x2048 .f32) (harg4 : arg4.IsWhole)
  (arg5 : Memref sig .tc .vmem S1x1x2048 .f32) (harg5 : arg5.IsWhole) (arg6 : Memref sig .tc .vmem S1x2048 .f32) (harg6 : arg6.IsWhole)
  (arg7 : Memref sig .tc .vmem S2048x512 .bf16) (harg7 : arg7.IsWhole) (arg8 : Memref sig .tc .vmem S2048x128 .bf16) (harg8 : arg8.IsWhole)
  (arg9 : Memref sig .tc .vmem S128x1024 .bf16) (harg9 : arg9.IsWhole) (arg10 : Memref sig .tc .vmem S1x1024 .f32) (harg10 : arg10.IsWhole)
  (arg11 : Memref sig .tc .vmem S1x1024x512 .f32) (harg11 : arg11.IsWhole) (arg12 : Memref sig .tc .vmem S1x1024x512 .bf16) (harg12 : arg12.IsWhole)
  (arg13 : Memref sig .tc .vmem S1x1024x512 .bf16) (harg13 : arg13.IsWhole) (arg14 : Memref sig .tc .vmem S1x1024x1024 .f32) (harg14 : arg14.IsWhole)
  (arg15 : Memref sig .tc .vmem S1024x2048 .bf16) (harg15 : arg15.IsWhole)
  (h1 : k0_cond1 i = 1#1)
  (x : Vec F S1x1024x2048 .f32) (sc sh : Vec F S1x1x2048 .f32) (g : Vec F S1x2048 .f32)

/-- What the first `k` groups leave in the scratch buffer, as pieces. -/
abbrev pieces (k : ℕ) : List (View.Piece (Elt F) S1024x2048 .bf16) :=
  pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 h1
    (harg3.unread x) (harg4.unread sc) (harg5.unread sh) (harg6.unread g) k

/-- The rows of group `k`. -/
def group (k : Fin k0_t1_loop.trips) : Vec F S16x2048 .bf16 :=
  k0_pay1 (View.readAt (Elt F) arg3.view (Rect.unit (s := S1x1024x2048) (k0_off1 k) S1x16x2048.size (k0_off1_inb i k h1)).toLoadRect (harg3.unread x)) g sc sh

theorem pieces_succ (k : Fin k0_t1_loop.trips) :
    pieces c i arg3 harg3 arg4 harg4 arg5 harg5 arg6 harg6 arg7 harg7 arg8 harg8 arg9 harg9 arg10 harg10 arg11 harg11 arg12 harg12 arg13 harg13 arg14 harg14 arg15 harg15 h1 x sc sh g (k.val + 1)
      = ⟨Rect.unit (s := S1024x2048) (k0_off2 k) S16x2048.size (k0_off2_inb i k h1), group i arg3 harg3 h1 x sc sh g k⟩
        :: pieces c i arg3 harg3 arg4 harg4 arg5 harg5 arg6 harg6 arg7 harg7 arg8 harg8 arg9 harg9 arg10 harg10 arg11 harg11 arg12 harg12 arg13 harg13 arg14 harg14 arg15 harg15 h1 x sc sh g k.val := by
  unfold pieces
  rw [pb_k0_t1_succ]
  unfold group tripL_k0_t1 trip_k0_t1
  dsimp only
  rw [load_whole arg6 harg6 g _ hz2, load_whole arg4 harg4 sc _ hz3, load_whole arg5 harg5 sh _ hz3]
  rfl

theorem group_apply (k : Fin k0_t1_loop.trips) (y : S1024x2048.Idx) (r : Fin 16) (hy : (y 0).val = 16 * k.val + r.val) :
    group i arg3 harg3 h1 x sc sh g k (ix2 r (y 1)) = hTile x sc sh g y := by
  have hd : (y 0).val / 16 = k.val := by omega
  have hm : (⟨(y 0).val % 16, Nat.mod_lt _ (by decide)⟩ : Fin 16) = r := Fin.ext (by show _ % 16 = _; omega)
  unfold group hTile
  rw [hm]
  congr 1
  funext z
  rw [View.readAt_eq_ld, harg3.read_unread]
  refine View.ld_unit_apply_of x _ _ _ _ _ ?_
  intro a
  have ho := congrFun (off1_eq k) a
  refine Eq.trans ?_ (congrArg (· + (z a).val) ho.symm)
  have hz0 : (z 0).val = 0 := Nat.lt_one_iff.mp (z 0).isLt
  fin_cases a
  · show 0 = 0 + (z 0).val
    omega
  · show 16 * ((y 0).val / 16) + (z 1).val = 16 * k.val + (z 1).val
    rw [hd]
  · show (z 2).val = 0 + (z 2).val
    omega

/-- After `k` groups the first `16 k` rows are written, each with its normalized row. -/
theorem pieces_apply (k : ℕ) (hk : k ≤ 64) (y : S1024x2048.Idx) (hy : (y 0).val < 16 * k) :
    (∃ p ∈ pieces c i arg3 harg3 arg4 harg4 arg5 harg5 arg6 harg6 arg7 harg7 arg8 harg8 arg9 harg9 arg10 harg10 arg11 harg11 arg12 harg12 arg13 harg13 arg14 harg14 arg15 harg15 h1 x sc sh g k, y ∈ p.1.set)
    ∧ View.canon (pieces c i arg3 harg3 arg4 harg4 arg5 harg5 arg6 harg6 arg7 harg7 arg8 harg8 arg9 harg9 arg10 harg10 arg11 harg11 arg12 harg12 arg13 harg13 arg14 harg14 arg15 harg15 h1 x sc sh g k) y
      = hTile x sc sh g y := by
  induction k with
  | zero => exact absurd hy (by omega)
  | succ k ih =>
    have hlt : k < k0_t1_loop.trips := by rw [trips_eq]; omega
    rw [pieces_succ c i arg3 harg3 arg4 harg4 arg5 harg5 arg6 harg6 arg7 harg7 arg8 harg8 arg9 harg9 arg10 harg10 arg11 harg11 arg12 harg12 arg13 harg13 arg14 harg14 arg15 harg15 h1 x sc sh g ⟨k, hlt⟩]
    have hoff := off2_eq ⟨k, hlt⟩
    by_cases hlow : (y 0).val < 16 * k
    · obtain ⟨⟨p, hp, hyp⟩, hc⟩ := ih (by omega) hlow
      refine ⟨⟨p, List.mem_cons_of_mem _ hp, hyp⟩, ?_⟩
      rw [View.canon_cons_of_not_mem _ _ (fun hm => ?_)]
      · exact hc
      · have := (Rect.mem_set_unit (inb := k0_off2_inb i ⟨k, hlt⟩ h1).mp hm (0 : Fin 2)).1
        rw [hoff] at this
        have h' : 16 * k ≤ (y 0).val := this
        omega
    · have hr : (y 0).val - 16 * k < 16 := by omega
      have he : (Rect.unit (s := S1024x2048) (k0_off2 ⟨k, hlt⟩) S16x2048.size (k0_off2_inb i ⟨k, hlt⟩ h1)).emb (ix2 (⟨(y 0).val - 16 * k, hr⟩ : Fin 16) (y 1)) = y := by
        funext a
        apply Fin.ext
        rw [Rect.emb_apply]
        refine (congrArg (· + 1 * ((ix2 (⟨(y 0).val - 16 * k, hr⟩ : Fin 16) (y 1)) a).val) (congrFun hoff a)).trans ?_
        fin_cases a
        · show 16 * k + 1 * ((y 0).val - 16 * k) = (y 0).val
          omega
        · show 0 + 1 * (y 1).val = (y 1).val
          omega
      refine ⟨⟨_, List.mem_cons_self, ?_⟩, ?_⟩
      · show y ∈ (Rect.unit (s := S1024x2048) (k0_off2 ⟨k, hlt⟩) S16x2048.size (k0_off2_inb i ⟨k, hlt⟩ h1)).set
        refine Rect.mem_set_unit.mpr fun a => ?_
        rw [hoff]
        fin_cases a
        · show 16 * k ≤ (y 0).val ∧ (y 0).val < 16 * k + 16
          omega
        · show 0 ≤ (y 1).val ∧ (y 1).val < 0 + 2048
          have : (y 1).val < 2048 := (y 1).isLt
          omega
      · refine (congrArg _ he.symm).trans ((View.canon_cons_emb _ _ _ _).trans ?_)
        exact group_apply i arg3 harg3 h1 x sc sh g ⟨k, hlt⟩ y ⟨(y 0).val - 16 * k, hr⟩ (by show _ = 16 * k + ((y 0).val - 16 * k); omega)

/-- The scratch buffer after the loop, read: the tile's normalized rows. -/
theorem read_pieces (f : arg15.view.ty.Contents (Elt F)) :
    arg15.view.read (Elt F) (arg15.view.writes (Elt F) f
      (pieces c i arg3 harg3 arg4 harg4 arg5 harg5 arg6 harg6 arg7 harg7 arg8 harg8 arg9 harg9 arg10 harg10 arg11 harg11 arg12 harg12 arg13 harg13 arg14 harg14 arg15 harg15 h1 x sc sh g k0_t1_loop.trips))
      = hTile x sc sh g := by
  rw [trips_eq]
  have h := fun y : S1024x2048.Idx => pieces_apply c i arg3 harg3 arg4 harg4 arg5 harg5 arg6 harg6 arg7 harg7 arg8 harg8 arg9 harg9 arg10 harg10 arg11 harg11 arg12 harg12 arg13 harg13 arg14 harg14 arg15 harg15 h1
    x sc sh g 64 le_rfl y (by have : (y 0).val < 1024 := (y 0).isLt; omega)
  rw [View.read_writes_eq_canon _ _ _ fun y => (h y).1]
  exact funext fun y => (h y).2

end

end Cert.Kernel5Ideal.In

end
-- ==== Proof.InRun5.lean ====
/-
  The GLA layer's input projection at one point of the grid: what the body leaves in the buffers, in the five cases of its
  conditions. The first step of a tile of rows normalizes the tile into the scratch buffer; every step multiplies the
  scratch buffer by the step's columns of the weights and stores the product into the output of the step; the last step
  computes the decay too.
-/
module

public import proofs.«01_k».proof.Proof.InTile5

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A store of a whole buffer, read back. -/
theorem read_store_whole {S : Shape} {e : EltTy} (m : Memref sig .tc .vmem S e) (f : m.view.ty.Contents (Elt F)) (off : Fin S.rank → ℕ)
    (hoff : off = fun _ => 0) (inb : ∀ a, off a + S.size a ≤ S.size a) (X : Vec F S e) :
    m.view.read (Elt F) (m.view.writes (Elt F) f [⟨Rect.unit (s := S) off S.size inb, X⟩]) = X := by
  rw [View.read_writes_eq_canon _ _ _ fun y => ⟨_, List.mem_singleton_self _, by subst hoff; exact (Rect.mem_set_unit (s := S) (inb := inb)).mpr fun a => ⟨Nat.zero_le _, (Nat.zero_add (S.size a)).symm ▸ (y a).isLt⟩⟩]
  exact View.canon_unit_zero hoff inb X

variable (c : Dev nD) (i : grid0.Coords)
  (arg3 : Memref sig .tc .vmem S1x1024x2048 .f32) (harg3 : arg3.IsWhole) (arg4 : Memref sig .tc .vmem S1x1x2048 .f32) (harg4 : arg4.IsWhole)
  (arg5 : Memref sig .tc .vmem S1x1x2048 .f32) (harg5 : arg5.IsWhole) (arg6 : Memref sig .tc .vmem S1x2048 .f32) (harg6 : arg6.IsWhole)
  (arg7 : Memref sig .tc .vmem S2048x512 .bf16) (harg7 : arg7.IsWhole) (arg8 : Memref sig .tc .vmem S2048x128 .bf16) (harg8 : arg8.IsWhole)
  (arg9 : Memref sig .tc .vmem S128x1024 .bf16) (harg9 : arg9.IsWhole) (arg10 : Memref sig .tc .vmem S1x1024 .f32) (harg10 : arg10.IsWhole)
  (arg11 : Memref sig .tc .vmem S1x1024x512 .f32) (harg11 : arg11.IsWhole) (arg12 : Memref sig .tc .vmem S1x1024x512 .bf16) (harg12 : arg12.IsWhole)
  (arg13 : Memref sig .tc .vmem S1x1024x512 .bf16) (harg13 : arg13.IsWhole) (arg14 : Memref sig .tc .vmem S1x1024x1024 .f32) (harg14 : arg14.IsWhole)
  (arg15 : Memref sig .tc .vmem S1024x2048 .bf16) (harg15 : arg15.IsWhole)
  (x : Vec F S1x1024x2048 .f32) (sc sh : Vec F S1x1x2048 .f32) (g : Vec F S1x2048 .f32) (w : Vec F S2048x512 .bf16)

set_option maxHeartbeats 2000000 in
/-- The first step of a tile: the scratch buffer takes the normalized rows, the first output their product. -/
theorem run_A (hc1 : k0_cond1 i = 1#1) (hc2 : k0_cond2 i = 1#1) (hc3 : ¬k0_cond3 i = 1#1) (hc4 : ¬k0_cond4 i = 1#1) (hc5 : ¬k0_cond5 i = 1#1) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ (∃ d, owns (c : Thread nD τ) arg15 fullShare d) ∗ (∃ d, owns (c : Thread nD τ) arg11 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg15 fullShare (hTile x sc sh g) ∗ owns (c : Thread nD τ) arg11 fullShare (k0_pay3 (hTile x sc sh g) w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, Hs⟩, ⟨%d11, %f11, -, O11⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  have hs := read_pieces c i arg3 harg3 arg4 harg4 arg5 harg5 arg6 harg6 arg7 harg7 arg8 harg8 arg9 harg9 arg10 harg10 arg11 harg11 arg12 harg12 arg13 harg13 arg14 harg14 arg15 harg15 hc1 x sc sh g fs
  isplitl [Hs]
  · iexists _; isplitr
    swap; · iexact Hs
    ipureintro; exact hs
  iexists _; isplitr
  swap; · iexact O11
  ipureintro
  refine (read_store_whole arg11 _ _ hz3 _ _).trans ?_
  rw [load_whole arg7 harg7 w _ hz2]
  refine congrArg (k0_pay3 · w) ?_
  sl_unfold_words
  rw [View.readAt_eq_ld, View.ld_unit_zero (S := S1024x2048) hz2]
  exact hs

set_option maxHeartbeats 2000000 in
/-- A later step of the first output: the product of the scratch buffer. -/
theorem run_B (hc1 : ¬k0_cond1 i = 1#1) (hc2 : k0_cond2 i = 1#1) (hc3 : ¬k0_cond3 i = 1#1) (hc4 : ¬k0_cond4 i = 1#1) (hc5 : ¬k0_cond5 i = 1#1) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg15 fullShare H ∗ (∃ d, owns (c : Thread nD τ) arg11 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg15 fullShare H ∗ owns (c : Thread nD τ) arg11 fullShare (k0_pay3 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, Hs⟩, ⟨%d11, %f11, -, O11⟩, Hk⟩
  obtain rfl := harg3.eq_unread hf0; obtain rfl := harg4.eq_unread hf1; obtain rfl := harg5.eq_unread hf2; obtain rfl := harg6.eq_unread hf3; obtain rfl := harg7.eq_unread hf4; obtain rfl := harg15.eq_unread hfs
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Hs]
  · iexists _; isplitr; · ipureintro; exact harg15.read_unread _
    iexact Hs
  iexists _; isplitr
  swap; · iexact O11
  ipureintro
  refine (read_store_whole arg11 _ _ hz3 _ _).trans ?_
  rw [load_whole arg7 harg7 w _ hz2]
  rw [load_whole arg15 harg15 H _ hz2]

set_option maxHeartbeats 2000000 in
/-- A step of the second output. -/
theorem run_C (hc1 : ¬k0_cond1 i = 1#1) (hc2 : ¬k0_cond2 i = 1#1) (hc3 : k0_cond3 i = 1#1) (hc4 : ¬k0_cond4 i = 1#1) (hc5 : ¬k0_cond5 i = 1#1) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg15 fullShare H ∗ (∃ d, owns (c : Thread nD τ) arg12 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg15 fullShare H ∗ owns (c : Thread nD τ) arg12 fullShare (k0_pay4 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, Hs⟩, ⟨%d12, %f12, -, O12⟩, Hk⟩
  obtain rfl := harg3.eq_unread hf0; obtain rfl := harg4.eq_unread hf1; obtain rfl := harg5.eq_unread hf2; obtain rfl := harg6.eq_unread hf3; obtain rfl := harg7.eq_unread hf4; obtain rfl := harg15.eq_unread hfs
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Hs]
  · iexists _; isplitr; · ipureintro; exact harg15.read_unread _
    iexact Hs
  iexists _; isplitr
  swap; · iexact O12
  ipureintro
  refine (read_store_whole arg12 _ _ hz3 _ _).trans ?_
  rw [load_whole arg7 harg7 w _ hz2]
  rw [load_whole arg15 harg15 H _ hz2]

set_option maxHeartbeats 2000000 in
/-- A step of the third output but its last. -/
theorem run_D (hc1 : ¬k0_cond1 i = 1#1) (hc2 : ¬k0_cond2 i = 1#1) (hc3 : ¬k0_cond3 i = 1#1) (hc4 : k0_cond4 i = 1#1) (hc5 : ¬k0_cond5 i = 1#1) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg15 fullShare H ∗ (∃ d, owns (c : Thread nD τ) arg13 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg15 fullShare H ∗ owns (c : Thread nD τ) arg13 fullShare (k0_pay5 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, Hs⟩, ⟨%d13, %f13, -, O13⟩, Hk⟩
  obtain rfl := harg3.eq_unread hf0; obtain rfl := harg4.eq_unread hf1; obtain rfl := harg5.eq_unread hf2; obtain rfl := harg6.eq_unread hf3; obtain rfl := harg7.eq_unread hf4; obtain rfl := harg15.eq_unread hfs
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [Hs]
  · iexists _; isplitr; · ipureintro; exact harg15.read_unread _
    iexact Hs
  iexists _; isplitr
  swap; · iexact O13
  ipureintro
  refine (read_store_whole arg13 _ _ hz3 _ _).trans ?_
  rw [load_whole arg7 harg7 w _ hz2]
  rw [load_whole arg15 harg15 H _ hz2]

set_option maxHeartbeats 2000000 in
/-- The last step: the third output and the decay. -/
theorem run_E (hc1 : ¬k0_cond1 i = 1#1) (hc2 : ¬k0_cond2 i = 1#1) (hc3 : ¬k0_cond3 i = 1#1) (hc4 : k0_cond4 i = 1#1) (hc5 : k0_cond5 i = 1#1) (wa : Vec F S2048x128 .bf16) (wa2 : Vec F S128x1024 .bf16) (ba : Vec F S1x1024 .f32) (H : Vec F S1024x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w ∗ owns (c : Thread nD τ) arg8 fullShare wa ∗ owns (c : Thread nD τ) arg9 fullShare wa2 ∗ owns (c : Thread nD τ) arg10 fullShare ba
        ∗ owns (c : Thread nD τ) arg15 fullShare H ∗ (∃ d, owns (c : Thread nD τ) arg13 fullShare d) ∗ (∃ d, owns (c : Thread nD τ) arg14 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w ∗ owns (c : Thread nD τ) arg8 fullShare wa ∗ owns (c : Thread nD τ) arg9 fullShare wa2 ∗ owns (c : Thread nD τ) arg10 fullShare ba
            ∗ owns (c : Thread nD τ) arg15 fullShare H ∗ owns (c : Thread nD τ) arg13 fullShare (k0_pay5 H w) ∗ owns (c : Thread nD τ) arg14 fullShare (k0_pay6 H wa wa2 ba)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, Hs⟩, ⟨%d13, %f13, -, O13⟩, ⟨%d14, %f14, -, O14⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg15.eq_unread hfs
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [Hs]
  · iexists _; isplitr; · ipureintro; exact harg15.read_unread _
    iexact Hs
  isplitl [O13]
  · iexists _; isplitr
    swap; · iexact O13
    ipureintro
    refine (read_store_whole arg13 _ _ hz3 _ _).trans ?_
    rw [load_whole arg7 harg7 w _ hz2]
    rw [load_whole arg15 harg15 H _ hz2]
  iexists _; isplitr
  swap; · iexact O14
  ipureintro
  refine (read_store_whole arg14 _ _ hz3 _ _).trans ?_
  rw [load_whole arg8 harg8 wa _ hz2, load_whole arg9 harg9 wa2 _ hz2, load_whole arg10 harg10 ba _ hz2]
  rw [load_whole arg15 harg15 H _ hz2]

end Cert.Kernel5Ideal.In

end
-- ==== Proof.InFrame5.lean ====
/-
  The GLA layer's input projection on its grid: what each buffer holds point by point.

  A tile of rows takes 12 steps. The first four store the blocks of the first output, the next four those of the second,
  the last four those of the third, and the last step stores the decay too. An output's buffer is written back when its
  block changes and after the tile's last step; the last step is no step of the first two outputs, and what is written back
  then is what the output's own last step left.
-/
module

public import proofs.«01_k».proof.Proof.InRun5
public import Idealize.ShloMosaic.Lib.Pipeline.TableIdle
public import Idealize.ShloMosaic.Lib.Claim

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The schedule -/

theorem cond1_iff : ∀ t : Fin cfg0.N, k0_cond1 (grid0.coords t) = 1#1 ↔ t.val % 12 = 0 :=
  (by decide +kernel : ∀ t : Fin grid0.N, k0_cond1 (grid0.coords t) = 1#1 ↔ t.val % 12 = 0)
theorem cond2_iff : ∀ t : Fin cfg0.N, k0_cond2 (grid0.coords t) = 1#1 ↔ t.val % 12 < 4 :=
  (by decide +kernel : ∀ t : Fin grid0.N, k0_cond2 (grid0.coords t) = 1#1 ↔ t.val % 12 < 4)
theorem cond3_iff : ∀ t : Fin cfg0.N, k0_cond3 (grid0.coords t) = 1#1 ↔ 4 ≤ t.val % 12 ∧ t.val % 12 < 8 :=
  (by decide +kernel : ∀ t : Fin grid0.N, k0_cond3 (grid0.coords t) = 1#1 ↔ 4 ≤ t.val % 12 ∧ t.val % 12 < 8)
theorem cond4_iff : ∀ t : Fin cfg0.N, k0_cond4 (grid0.coords t) = 1#1 ↔ 8 ≤ t.val % 12 :=
  (by decide +kernel : ∀ t : Fin grid0.N, k0_cond4 (grid0.coords t) = 1#1 ↔ 8 ≤ t.val % 12)
theorem cond5_iff : ∀ t : Fin cfg0.N, k0_cond5 (grid0.coords t) = 1#1 ↔ t.val % 12 = 11 :=
  (by decide +kernel : ∀ t : Fin grid0.N, k0_cond5 (grid0.coords t) = 1#1 ↔ t.val % 12 = 11)

theorem idle8 : ∀ t : Fin cfg0.N, cfg0.idle 8 (cfg0.grid.coords t) = !decide (t.val % 12 < 4) :=
  (by decide +kernel : ∀ t : Fin grid0.N, idle0 8 (grid0.coords t) = !decide (t.val % 12 < 4))
theorem idle9 : ∀ t : Fin cfg0.N, cfg0.idle 9 (cfg0.grid.coords t) = !decide (4 ≤ t.val % 12 ∧ t.val % 12 < 8) :=
  (by decide +kernel : ∀ t : Fin grid0.N, idle0 9 (grid0.coords t) = !decide (4 ≤ t.val % 12 ∧ t.val % 12 < 8))
theorem idle10 : ∀ t : Fin cfg0.N, cfg0.idle 10 (cfg0.grid.coords t) = !decide (8 ≤ t.val % 12) :=
  (by decide +kernel : ∀ t : Fin grid0.N, idle0 10 (grid0.coords t) = !decide (8 ≤ t.val % 12))
theorem idle11 : ∀ t : Fin cfg0.N, cfg0.idle 11 (cfg0.grid.coords t) = !decide (t.val % 12 = 11) :=
  (by decide +kernel : ∀ t : Fin grid0.N, idle0 11 (grid0.coords t) = !decide (t.val % 12 = 11))

theorem flush8 : ∀ t : Fin cfg0.N, (cfg0.win 8).flush t = decide (t.val % 12 < 3 ∨ t.val % 12 = 11) :=
  (by decide +kernel : ∀ t : Fin grid0.N, win0_8.flush t = decide (t.val % 12 < 3 ∨ t.val % 12 = 11))
theorem flush9 : ∀ t : Fin cfg0.N, (cfg0.win 9).flush t = decide ((4 ≤ t.val % 12 ∧ t.val % 12 < 7) ∨ t.val % 12 = 11) :=
  (by decide +kernel : ∀ t : Fin grid0.N, win0_9.flush t = decide ((4 ≤ t.val % 12 ∧ t.val % 12 < 7) ∨ t.val % 12 = 11))
theorem flush10 : ∀ t : Fin cfg0.N, (cfg0.win 10).flush t = decide (8 ≤ t.val % 12) :=
  (by decide +kernel : ∀ t : Fin grid0.N, win0_10.flush t = decide (8 ≤ t.val % 12))
theorem flush11 : ∀ t : Fin cfg0.N, (cfg0.win 11).flush t = decide (t.val % 12 = 11) :=
  (by decide +kernel : ∀ t : Fin grid0.N, win0_11.flush t = decide (t.val % 12 = 11))

theorem lt384 (t : Fin cfg0.N) : t.val < 384 := N_0 ▸ t.isLt

/-- The first point of a point's tile. -/
def base (t : Fin cfg0.N) : Fin cfg0.N := ⟨12 * (t.val / 12), by have := t.isLt; omega⟩

/-- The point of the tile nearest to `t` among the four steps from step `f`. -/
def near (f : Fin 9) (t : Fin cfg0.N) : Fin cfg0.N :=
  ⟨12 * (t.val / 12) + min (max (t.val % 12) f.val) (f.val + 3), by have h := lt384 t; have := f.isLt; have e : cfg0.N = 384 := N_0; omega⟩

theorem near_of_live (f : Fin 9) (t : Fin cfg0.N) (h : f.val ≤ t.val % 12) (h' : t.val % 12 ≤ f.val + 3) : near f t = t :=
  Fin.ext (by show 12 * (t.val / 12) + min (max (t.val % 12) f.val) (f.val + 3) = t.val; omega)

theorem near_prev (f : Fin 9) (t : Fin cfg0.N) (h : f.val + 4 ≤ t.val % 12) : near f t = near f ⟨t.val - 1, by omega⟩ :=
  Fin.ext (by
    show 12 * (t.val / 12) + min (max (t.val % 12) f.val) (f.val + 3) = 12 * ((t.val - 1) / 12) + min (max ((t.val - 1) % 12) f.val) (f.val + 3)
    omega)

theorem base_of_first (t : Fin cfg0.N) (h : t.val % 12 = 0) : base t = t := Fin.ext (by show 12 * (t.val / 12) = t.val; omega)

theorem base_prev (t : Fin cfg0.N) (h : t.val % 12 ≠ 0) : base ⟨t.val - 1, by omega⟩ = base t :=
  Fin.ext (by show 12 * ((t.val - 1) / 12) = 12 * (t.val / 12); omega)

/-! ## The buffers point by point -/

/-- The scratch buffer during a point's tile: the tile's normalized rows. -/
def rows (c : Dev nD) (t : Fin cfg0.N) : Vec F S1024x2048 .bf16 :=
  hTile (iblk m c 0 (base t)) (iblk m c 1 (base t)) (iblk m c 2 (base t)) (iblk m c 3 (base t))

def out8 (c : Dev nD) (t : Fin cfg0.N) : Vec F S1x1024x512 .f32 := k0_pay3 (rows m c t) (iblk m c 4 t)
def out9 (c : Dev nD) (t : Fin cfg0.N) : Vec F S1x1024x512 .bf16 := k0_pay4 (rows m c t) (iblk m c 4 t)
def out10 (c : Dev nD) (t : Fin cfg0.N) : Vec F S1x1024x512 .bf16 := k0_pay5 (rows m c t) (iblk m c 4 t)
def out11 (c : Dev nD) (t : Fin cfg0.N) : Vec F S1x1024x1024 .f32 := k0_pay6 (rows m c t) (iblk m c 5 t) (iblk m c 6 t) (iblk m c 7 t)

/-- What holds before point `n`: between tiles the scratch buffer at anything, inside one at the tile's rows. -/
def inv (c : Dev nD) (n : Fin (cfg0.N + 1)) : sProp (MT nD τ sig Unit (Elt F) ℕ (UR sig nD τ) ℕ) :=
  if h : n.val % 12 = 0 then Pipeline.ΦA spec0 c
  else iprop(owns (c : Thread nD τ) (Memref.whole cc0_scratch0) fullShare (rows m c ⟨n.val - 1, by have := n.isLt; omega⟩) ∗ ∃ r, prngReg c r)

/-- The data of the call: the arrays as it finds them, the buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c (near 0 t)
    | ⟨9, _⟩ => out9 m c (near 4 t)
    | ⟨10, _⟩ => out10 m c (near 8 t)
    | ⟨11, _⟩ => out11 m c t
  Φ n := inv m c n
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out8 m c (near 0 t) := by dsimp only [dats]
theorem after0_9 (c : Dev nD) (t : Fin cfg0.N) : (dats m 0 c).after 9 t = out9 m c (near 4 t) := by dsimp only [dats]
theorem after0_10 (c : Dev nD) (t : Fin cfg0.N) : (dats m 0 c).after 10 t = out10 m c (near 8 t) := by dsimp only [dats]
theorem after0_11 (c : Dev nD) (t : Fin cfg0.N) : (dats m 0 c).after 11 t = out11 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## An output's buffer at its own steps and at the others' -/

theorem fresh8 (n : ℕ) (hn : n ≤ cfg0.N) : cfg0.fresh 8 n = decide (n % 12 ≤ 3) :=
  cfg0.fresh_tab 8 (fun n => decide (n % 12 ≤ 3)) rfl (fun t => by
    rw [flush8, idle8, Bool.eq_iff_iff]; simp only [Bool.or_eq_true, Bool.and_eq_true, Bool.not_eq_true', decide_eq_true_eq, decide_eq_false_iff_not]; omega) n hn
theorem fresh9 (n : ℕ) (hn : n ≤ cfg0.N) : cfg0.fresh 9 n = decide (n % 12 ≤ 7) :=
  cfg0.fresh_tab 9 (fun n => decide (n % 12 ≤ 7)) rfl (fun t => by
    rw [flush9, idle9, Bool.eq_iff_iff]; simp only [Bool.or_eq_true, Bool.and_eq_true, Bool.not_eq_true', decide_eq_true_eq, decide_eq_false_iff_not]; omega) n hn

theorem carry8 (c : Dev nD) (t : Fin cfg0.N) (h : 4 ≤ t.val % 12) (d) : (dats m 0 c).before 8 t d = (dats m 0 c).after 8 t := by
  have hc : ∀ (t : Fin cfg0.N), 4 ≤ t.val % 12 → (dats m 0 c).after 8 t = (dats m 0 c).after 8 ⟨t.val - 1, by omega⟩ := fun t h => by
    rw [after0_8, after0_8, near_prev 0 t h]
  rw [(dats m 0 c).before_out_traj 8 rfl (fun _ _ => rfl) (fun t _ _ hf => hc t (by
    rw [fresh8 _ t.isLt.le, decide_eq_false_iff_not] at hf; omega)) t.val t rfl d, fresh8 _ t.isLt.le, if_neg (by simp only [decide_eq_true_eq]; omega)]
  exact (hc t h).symm
theorem carry9 (c : Dev nD) (t : Fin cfg0.N) (h : 8 ≤ t.val % 12) (d) : (dats m 0 c).before 9 t d = (dats m 0 c).after 9 t := by
  have hc : ∀ (t : Fin cfg0.N), 8 ≤ t.val % 12 → (dats m 0 c).after 9 t = (dats m 0 c).after 9 ⟨t.val - 1, by omega⟩ := fun t h => by
    rw [after0_9, after0_9, near_prev 4 t h]
  rw [(dats m 0 c).before_out_traj 9 rfl (fun _ _ => rfl) (fun t _ _ hf => hc t (by
    rw [fresh9 _ t.isLt.le, decide_eq_false_iff_not] at hf; omega)) t.val t rfl d, fresh9 _ t.isLt.le, if_neg (by simp only [decide_eq_true_eq]; omega)]
  exact (hc t h).symm

/-- At another output's step the buffer is handed back: at anything, or, where it is written back, at what it was left at. -/
theorem leaves_idle (c : Dev nD) (w : Fin cfg0.W) (t : Fin cfg0.N) (hi : cfg0.idle w (cfg0.grid.coords t) = true)
    (hb : (cfg0.win w).flush t = true → ∀ d, (dats m 0 c).before w t d = (dats m 0 c).after w t) :
    iprop(∃ d, owns (c : Thread nD τ) ((cfg0.win w).stage (cfg0.slots t w)) fullShare ((dats m 0 c).before w t d)) ⊢ ((dats m 0 c).leavesExact w t : sProp (MT nD τ sig Unit (Elt F) ℕ (UR sig nD τ) ℕ)) := by
  cases hf : (cfg0.win w).flush t with
  | false => rw [(dats m 0 c).leavesExact_idle w t hi hf]
  | true =>
    unfold Dat.leavesExact
    rw [hi, hf]
    iintro ⟨%d, H⟩
    rw [hb hf d]
    iexact H

/-- At the output's own step: at what the step stores. -/
theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ ((dats m 0 c).leavesExact w t : sProp (MT nD τ sig Unit (Elt F) ℕ (UR sig nD τ) ℕ)) := by
  unfold Dat.leavesExact
  rw [hi]

theorem skip8 (c : Dev nD) (t : Fin cfg0.N) (h : ¬ (t.val % 12 < 4)) :
    iprop(∃ d, owns (c : Thread nD τ) (st0_8 t) fullShare ((dats m 0 c).before 8 t d)) ⊢ ((dats m 0 c).leavesExact 8 t : sProp (MT nD τ sig Unit (Elt F) ℕ (UR sig nD τ) ℕ)) :=
  leaves_idle m c 8 t (by rw [idle8, decide_eq_false h]; rfl) fun hf d => carry8 m c t (by omega) d
theorem skip9 (c : Dev nD) (t : Fin cfg0.N) (h : ¬ (4 ≤ t.val % 12 ∧ t.val % 12 < 8)) :
    iprop(∃ d, owns (c : Thread nD τ) (st0_9 t) fullShare ((dats m 0 c).before 9 t d)) ⊢ ((dats m 0 c).leavesExact 9 t : sProp (MT nD τ sig Unit (Elt F) ℕ (UR sig nD τ) ℕ)) :=
  leaves_idle m c 9 t (by rw [idle9, decide_eq_false h]; rfl) fun hf d => carry9 m c t (by rw [flush9, decide_eq_true_eq] at hf; omega) d
theorem skip10 (c : Dev nD) (t : Fin cfg0.N) (h : ¬ (8 ≤ t.val % 12)) :
    iprop(∃ d, owns (c : Thread nD τ) (st0_10 t) fullShare ((dats m 0 c).before 10 t d)) ⊢ ((dats m 0 c).leavesExact 10 t : sProp (MT nD τ sig Unit (Elt F) ℕ (UR sig nD τ) ℕ)) :=
  leaves_idle m c 10 t (by rw [idle10, decide_eq_false h]; rfl) fun hf d => absurd (by rw [flush10, decide_eq_true_eq] at hf; exact hf) h
theorem skip11 (c : Dev nD) (t : Fin cfg0.N) (h : ¬ (t.val % 12 = 11)) :
    iprop(∃ d, owns (c : Thread nD τ) (st0_11 t) fullShare ((dats m 0 c).before 11 t d)) ⊢ ((dats m 0 c).leavesExact 11 t : sProp (MT nD τ sig Unit (Elt F) ℕ (UR sig nD τ) ℕ)) :=
  leaves_idle m c 11 t (by rw [idle11, decide_eq_false h]; rfl) fun hf d => absurd (by rw [flush11, decide_eq_true_eq] at hf; exact hf) h

/-! ## What holds between points -/

theorem inv_first (c : Dev nD) (n : Fin (cfg0.N + 1)) (h : n.val % 12 = 0) : (inv m c n : sProp (MT nD τ sig Unit (Elt F) ℕ (UR sig nD τ) ℕ)) = Pipeline.ΦA spec0 c := by
  unfold inv; rw [dif_pos h]

theorem inv_inner (c : Dev nD) (n : Fin (cfg0.N + 1)) (t : Fin cfg0.N) (h : n.val % 12 ≠ 0) (ht : base ⟨n.val - 1, by have := n.isLt; omega⟩ = base t) :
    (inv m c n : sProp (MT nD τ sig Unit (Elt F) ℕ (UR sig nD τ) ℕ)) = iprop(owns (c : Thread nD τ) (Memref.whole cc0_scratch0) fullShare (rows m c t) ∗ ∃ r, prngReg c r) := by
  unfold inv; rw [dif_neg h]
  unfold rows
  rw [ht]

theorem open_first (c : Dev nD) : (Pipeline.ΦA spec0 c : sProp (MT nD τ sig Unit (Elt F) ℕ (UR sig nD τ) ℕ)) = iprop((∃ d, owns (c : Thread nD τ) (Memref.whole cc0_scratch0) fullShare d) ∗ ∃ r, prngReg c r) := by
  unfold Pipeline.ΦA
  rw [scopedRest0_eq c]
  rw [(Memref.isWhole_whole cc0_scratch0).exists_owns_eq]

end Cert.Kernel5Ideal.In

end
-- ==== Proof.InBody5.lean ====
/-
  The GLA layer's input projection: the body at every point of the grid, the run of the whole call, and that it
  changes no argument.
-/
module

public import proofs.«01_k».proof.Proof.InFrame5

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The invariant at a point -/

theorem rows_first (c : Dev nD) (t : Fin cfg0.N) (h : t.val % 12 = 0) :
    hTile (iblk m c 0 t) (iblk m c 1 t) (iblk m c 2 t) (iblk m c 3 t) = rows m c t := by
  unfold rows; rw [base_of_first t h]

/-- Inside a tile the body finds the scratch buffer at the tile's rows. -/
theorem inv_open (c : Dev nD) (t : Fin cfg0.N) (h : t.val % 12 ≠ 0) :
    (inv m c t.castSucc : sProp (MT nD τ sig Unit (Elt F) ℕ (UR sig nD τ) ℕ)) = iprop(owns (c : Thread nD τ) (Memref.whole cc0_scratch0) fullShare (rows m c t) ∗ ∃ r, prngReg c r) :=
  inv_inner m c t.castSucc t h (base_prev t h)

/-- And leaves it there, or, after the tile's last step, at anything. -/
theorem inv_close (c : Dev nD) (t : Fin cfg0.N) :
    iprop(owns (c : Thread nD τ) (Memref.whole cc0_scratch0) fullShare (rows m c t) ∗ ∃ r, prngReg c r) ⊢ (inv m c t.succ : sProp (MT nD τ sig Unit (Elt F) ℕ (UR sig nD τ) ℕ)) := by
  by_cases h : t.succ.val % 12 = 0
  · rw [inv_first m c t.succ h, open_first c]
    iintro ⟨H, Hr⟩
    isplitl [H]
    · iexists _; iexact H
    iexact Hr
  · rw [inv_inner m c t.succ t h rfl]

/-! ## The body -/

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t
    ∗ (dats m 0 c).leavesExact 9 t
    ∗ (dats m 0 c).leavesExact 10 t
    ∗ (dats m 0 c).leavesExact 11 t)

set_option maxHeartbeats 1000000 in
/-- The body at the first step of a tile. -/
theorem sound_A (c : Dev nD) (t : Fin cfg0.N) (h : t.val % 12 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, after0_5, after0_6, after0_7, inv_first m c t.castSucc h, open_first c]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (run_A c (grid0.coords t) _ _ _ _ _ _ _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) Set.univ _)
  isplitl [H0]; · iexact H0
  isplitl [H1]; · iexact H1
  isplitl [H2]; · iexact H2
  isplitl [H3]; · iexact H3
  isplitl [H4]; · iexact H4
  isplitl [Hs]; · iexact Hs
  isplitl [H8]; · iexists _; iexact H8
  iintro ⟨H0, H1, H2, H3, H4, Hs, H8⟩
  rw [rows_first m c t h]
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_live m c 8 t (by rw [idle8, decide_eq_true (by omega)]; rfl))
    rw [after0_8, near_of_live 0 t (by show 0 ≤ _; omega) (by show _ ≤ 0 + 3; omega)]
    iexact H8
  isplitl [H9]
  · iapply (skip9 m c t (by omega))
    iexact H9
  isplitl [H10]
  · iapply (skip10 m c t (by omega))
    iexact H10
  iapply (skip11 m c t (by omega))
  iexact H11

set_option maxHeartbeats 1000000 in
/-- The body at the later steps of the first output. -/
theorem sound_B (c : Dev nD) (t : Fin cfg0.N) (h : t.val % 12 ≠ 0) (h' : t.val % 12 < 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, after0_5, after0_6, after0_7, inv_open m c t (by omega)]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (run_B c (grid0.coords t) _ _ _ _ _ _ _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H8]; · iexists _; iexact H8
  iintro ⟨H0, H1, H2, H3, H4, Hs, H8⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves_live m c 8 t (by rw [idle8, decide_eq_true (by omega)]; rfl))
    rw [after0_8, near_of_live 0 t (by show 0 ≤ _; omega) (by show _ ≤ 0 + 3; omega)]
    iexact H8
  isplitl [H9]
  · iapply (skip9 m c t (by omega))
    iexact H9
  isplitl [H10]
  · iapply (skip10 m c t (by omega))
    iexact H10
  iapply (skip11 m c t (by omega))
  iexact H11

set_option maxHeartbeats 1000000 in
/-- The body at the steps of the second output. -/
theorem sound_C (c : Dev nD) (t : Fin cfg0.N) (h : 4 ≤ t.val % 12) (h' : t.val % 12 < 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, after0_5, after0_6, after0_7, inv_open m c t (by omega)]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩, H10, H11⟩
  iapply (run_C c (grid0.coords t) _ _ _ _ _ _ _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H9]; · iexists _; iexact H9
  iintro ⟨H0, H1, H2, H3, H4, Hs, H9⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (skip8 m c t (by omega))
    iexact H8
  isplitl [H9]
  · iapply (leaves_live m c 9 t (by rw [idle9, decide_eq_true (by omega)]; rfl))
    rw [after0_9, near_of_live 4 t (by show 4 ≤ _; omega) (by show _ ≤ 4 + 3; omega)]
    iexact H9
  isplitl [H10]
  · iapply (skip10 m c t (by omega))
    iexact H10
  iapply (skip11 m c t (by omega))
  iexact H11

set_option maxHeartbeats 1000000 in
/-- The body at the steps of the third output but the last. -/
theorem sound_D (c : Dev nD) (t : Fin cfg0.N) (h : 8 ≤ t.val % 12) (h' : t.val % 12 < 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, after0_5, after0_6, after0_7, inv_open m c t (by omega)]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, H11⟩
  iapply (run_D c (grid0.coords t) _ _ _ _ _ _ _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H10]; · iexists _; iexact H10
  iintro ⟨H0, H1, H2, H3, H4, Hs, H10⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (skip8 m c t (by omega))
    iexact H8
  isplitl [H9]
  · iapply (skip9 m c t (by omega))
    iexact H9
  isplitl [H10]
  · iapply (leaves_live m c 10 t (by rw [idle10, decide_eq_true (by omega)]; rfl))
    rw [after0_10, near_of_live 8 t (by show 8 ≤ _; omega) (by show _ ≤ 8 + 3; omega)]
    iexact H10
  iapply (skip11 m c t (by omega))
  iexact H11

set_option maxHeartbeats 1000000 in
/-- The body at the last step of a tile. -/
theorem sound_E (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, after0_5, after0_6, after0_7, inv_open m c t (by omega)]
  iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, ⟨%d11, H11⟩⟩
  iapply (run_E c (grid0.coords t) _ _ _ _ _ _ _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (iblk m c 5 t) (iblk m c 6 t) (iblk m c 7 t) (rows m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  isplitl [H10]; · iexists _; iexact H10
  isplitl [H11]; · iexists _; iexact H11
  iintro ⟨H0, H1, H2, H3, H4, H5, H6, H7, Hs, H10, H11⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (skip8 m c t (by omega))
    iexact H8
  isplitl [H9]
  · iapply (skip9 m c t (by omega))
    iexact H9
  isplitl [H10]
  · iapply (leaves_live m c 10 t (by rw [idle10, decide_eq_true (by omega)]; rfl))
    rw [after0_10, near_of_live 8 t (by show 8 ≤ _; omega) (by show _ ≤ 8 + 3; omega)]
    iexact H10
  iapply (leaves_live m c 11 t (by rw [idle11, decide_eq_true (by omega)]; rfl))
  rw [after0_11]
  iexact H11

theorem sound_body (c : Dev nD) (t : Fin cfg0.N) :
    bodyPre m c t ⊢ wp frame (wpE (defs₀ (F := F)) Variants.none c none) Set.univ (bodyAt0 t) (fun _ => bodyPost m c t) := by
  by_cases h : t.val % 12 = 0
  · exact sound_A m c t h
  by_cases h4 : t.val % 12 < 4
  · exact sound_B m c t h h4
  by_cases h8 : t.val % 12 < 8
  · exact sound_C m c t (by omega) h8
  by_cases h11 : t.val % 12 < 11
  · exact sound_D m c t (by omega) h11
  exact sound_E m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : (Pipeline.ΦA spec0 c : sProp (MT nD τ sig Unit (Elt F) ℕ (UR sig nD τ) ℕ)) ⊢ (dats m 0 c).Φ 0 := by
  rw [show (dats m 0 c).Φ 0 = inv m c 0 from rfl, inv_first m c 0 rfl]

theorem inv_out (c : Dev nD) : ((dats m 0 c).Φ (Fin.last cfg0.N) : sProp (MT nD τ sig Unit (Elt F) ℕ (UR sig nD τ) ℕ)) ⊢ Pipeline.ΦA spec0 c := by
  rw [show (dats m 0 c).Φ (Fin.last cfg0.N) = inv m c (Fin.last cfg0.N) from rfl,
    inv_first m c (Fin.last cfg0.N) (by show cfg0.N % 12 = 0; rw [show cfg0.N = 384 from N_0])]

set_option backward.isDefEq.respectTransparency.types false in
/-- The call runs to the end from any memory: its arrays end at what the points wrote, the other buffers as they were,
    every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The call ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel5Ideal.In

end
-- ==== Proof.InRef5.lean ====
/-
  The GLA layer's input projection, the reference's side: the projection as a function of the call's arguments, the decay's
  logarithm of a logistic on the extended reals, and the reference's decay read at an index.
-/
module

public import proofs.«01_k».proof.Proof.Scalar
public import proofs.«01_k».proof.Proof.Gen.Reference5Ideal.Run
public import Idealize.ShloMosaic.Lib.Pointwise

@[expose] public section

noncomputable section

namespace Cert.In5

open Cert.Reference5Ideal Cert.Reference5Ideal.Gen Idealize.ShloMosaic
open Idealize.ShloMosaic.TcCoe

/-! ## The results -/

/-- A normalized entry of the layer's input, scaled and shifted. -/
def hid (X : S8x4096x2048.Idx → EReal) (sc sh : S8x2048.Idx → EReal) (g : S2048.Idx → EReal) (b : Fin 8) (t : Fin 4096) (k : Fin 2048) : EReal :=
  X (ix3 b t k) * Ideal.rsqrt (Ideal.div (∑ j : Fin 2048, X (ix3 b t j) * X (ix3 b t j)) (Ideal.ofBits .f32 0x45000000#32) + Ideal.ofBits .f32 0x358637BD#32)
    * g (ix1 k) * (Ideal.ofBits .f32 0x3F800000#32 + sc (ix2 b k)) + sh (ix2 b k)

/-- One entry of the product with the weights. -/
def proj (X : S8x4096x2048.Idx → EReal) (sc sh : S8x2048.Idx → EReal) (g : S2048.Idx → EReal) (W : S2048x6160.Idx → EReal)
    (b : Fin 8) (t : Fin 4096) (n : Fin 6160) : EReal :=
  ∑ k : Fin 2048, hid X sc sh g b t k * W (ix2 k n)

/-- A third of the product's wide columns: the queries and keys, the values, the output gate. -/
def third (f : Fin 3) (X : S8x4096x2048.Idx → EReal) (sc sh : S8x2048.Idx → EReal) (g : S2048.Idx → EReal) (W : S2048x6160.Idx → EReal) :
    S8x4096x2048.Idx → EReal := fun i =>
  proj X sc sh g W (i 0) (i 1) ⟨2048 * f.val + (i 2).val, by have h : (i 2).val < 2048 := (i 2).isLt; have := f.isLt; omega⟩

/-- The decay gate's argument: the product's last 16 columns through the second factor, and the bias. -/
def gate (X : S8x4096x2048.Idx → EReal) (sc sh : S8x2048.Idx → EReal) (g : S2048.Idx → EReal) (W : S2048x6160.Idx → EReal)
    (W2 : S16x1024.Idx → EReal) (B : S1024.Idx → EReal) (b : Fin 8) (t : Fin 4096) (n : Fin 1024) : EReal :=
  (∑ r : Fin 16, proj X sc sh g W b t ⟨6144 + r.val, by have := r.isLt; omega⟩ * W2 (ix2 r n)) + B (ix1 n)

/-- The logarithm of the logistic over the gate's temperature, in the stable form. -/
def lsig (p : EReal) : EReal :=
  (min p 0 - Ideal.log (1 + Ideal.exp (0 - max p (-p)))) * ((1 / 16 : ℝ) : EReal)

/-- The decay. -/
def decay (X : S8x4096x2048.Idx → EReal) (sc sh : S8x2048.Idx → EReal) (g : S2048.Idx → EReal) (W : S2048x6160.Idx → EReal)
    (W2 : S16x1024.Idx → EReal) (B : S1024.Idx → EReal) : S8x4096x1024.Idx → EReal := fun i => lsig (gate X sc sh g W W2 B (i 0) (i 1) (i 2))

/-! ## The logarithm of the logistic -/

theorem ofBits_one : Ideal.ofBits .f32 0x3F800000#32 = 1 := by
  rw [← EReal.coe_one]
  simp [Ideal.ofBits, Ideal.ieee, -EReal.coe_mul, -EReal.coe_one]; norm_num

theorem ofBits_sixteenth : Ideal.ofBits .f32 0x3D800000#32 = ((1 / 16 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem log_one : Ideal.log 1 = 0 := by
  rw [← EReal.coe_one, Ideal.log_coe, if_neg (by norm_num), Real.log_one]; rfl

/-- The smaller of two reals is the smaller of the two as extended reals. -/
theorem coe_min (x y : ℝ) : min (x : EReal) (y : EReal) = ((min x y : ℝ) : EReal) :=
  (EReal.coe_strictMono.monotone.map_min (a := x) (b := y)).symm

/-- The reference takes the negated softplus of the negated argument: the same number, at the infinities too. -/
theorem lsig_eq (p : EReal) :
    Ideal.div (-(max (-p) 0 + Ideal.log1p (Ideal.exp (-max (-p - 0) (-(-p - 0)))))) ((16 : ℝ) : EReal) = lsig p := by
  unfold lsig Ideal.log1p
  rw [Ideal.div_coe (by norm_num)]
  refine congrArg (· * ((1 / 16 : ℝ) : EReal)) ?_
  rw [sub_zero, neg_neg, max_comm (-p) p, zero_sub]
  induction p using EReal.rec with
  | bot => simp [log_one]
  | top => simp [log_one]
  | coe x =>
    rw [Cert.Stick.coe_abs, ← EReal.coe_neg, ← EReal.coe_neg, Cert.Stick.log_one_add_exp, ← EReal.coe_zero, Cert.Stick.coe_max, coe_min,
      ← EReal.coe_add, ← EReal.coe_neg, ← EReal.coe_sub]
    refine congrArg (fun r : ℝ => (r : EReal)) ?_
    rcases le_total 0 x with h | h
    · rw [max_eq_right (by linarith), min_eq_right h]; ring
    · rw [max_eq_left (by linarith), min_eq_left h]; ring

/-- A number is equal to itself, so the softplus's test for one that is not fails. -/
theorem select_self {α : Type} (z : EReal) (x y : α) : Scalar.select (FloatOps.cmpf (F := Ideal) (φ := .f32) .une z z) x y = y := by
  simp [Ideal.cmpf_def, Ideal.cmp, Scalar.select]

/-! ## The reference's decay -/

/-- The gate's argument, as the reference computes it. -/
def preBuf (X : FVec Ideal S8x4096x2048 .f32) (sc sh : FVec Ideal S8x2048 .f32) (g : FVec Ideal S2048 .f32) (W : FVec Ideal S2048x6160 .f32)
    (W2 : FVec Ideal S16x1024 .f32) (B : FVec Ideal S1024 .f32) : FVec Ideal S8x4096x1024 .f32 :=
  addf (Host.dotGeneral dot_S8x4096x16_S16x1024_S8x4096x1024_2_0_01_1_n_n none (extractStridedSlice S8x4096x16 ![0, 0, 6144] (Host.dotGeneral dot_S8x4096x2048_S2048x6160_S8x4096x6160_2_0_01_1_n_n none (addf (mulf (mulf (mulf X (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf X X) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 sc)))) (broadcastInDim S8x4096x2048 ![0, 1, 2] bcast_S8x1x2048_S8x4096x2048_0_1_2 (broadcastInDim S8x1x2048 ![0, 2] bcast_S8x2048_S8x1x2048_0_2 sh))) W) slices_S8x4096x6160_S8x4096x16_0_0_6144) W2) (broadcastInDim S8x4096x1024 ![0, 1, 2] bcast_S1x1x1024_S8x4096x1024_0_1_2 (broadcastInDim S1x1x1024 ![2] bcast_S1024_S1x1x1024_2 B))

/-- The decay from the gate's argument, as the reference computes it. -/
def decOf (P : FVec Ideal S8x4096x1024 .f32) : FVec Ideal S8x4096x1024 .f32 :=
  Host.divf (Host.negf (select (cmpf .une (subf (Host.negf P) (broadcastInDim S8x4096x1024 ![] bcast_S_S8x4096x1024 (constant S_ .f32 0x00000000#32))) (subf (Host.negf P) (broadcastInDim S8x4096x1024 ![] bcast_S_S8x4096x1024 (constant S_ .f32 0x00000000#32)))) (addf (Host.negf P) (broadcastInDim S8x4096x1024 ![] bcast_S_S8x4096x1024 (constant S_ .f32 0x00000000#32))) (addf (maximumf (Host.negf P) (broadcastInDim S8x4096x1024 ![] bcast_S_S8x4096x1024 (constant S_ .f32 0x00000000#32))) (Host.log1p (Host.exp (Host.negf (Host.absf (subf (Host.negf P) (broadcastInDim S8x4096x1024 ![] bcast_S_S8x4096x1024 (constant S_ .f32 0x00000000#32)))))))))) (broadcastInDim S8x4096x1024 ![] bcast_S_S8x4096x1024 (constant S_ .f32 0x41800000#32))

theorem preBuf_apply (X : FVec Ideal S8x4096x2048 .f32) (sc sh : FVec Ideal S8x2048 .f32) (g : FVec Ideal S2048 .f32) (W : FVec Ideal S2048x6160 .f32)
    (W2 : FVec Ideal S16x1024 .f32) (B : FVec Ideal S1024 .f32) (b : Fin 8) (t : Fin 4096) (n : Fin 1024) :
    preBuf X sc sh g W W2 B (ix3 b t n) = gate X sc sh g W W2 B b t n := by
  unfold preBuf gate proj hid
  pointwise

theorem decOf_apply (P : FVec Ideal S8x4096x1024 .f32) (i : S8x4096x1024.Idx) : decOf P i = lsig (P i) := by
  refine Eq.trans ?_ (lsig_eq (P i))
  unfold decOf
  rw [← ofBits_sixteen]
  refine congrArg (fun z : EReal => Ideal.div (-z) (Ideal.ofBits .f32 0x41800000#32)) ?_
  refine (select_self (-P i - Ideal.ofBits .f32 0x00000000#32) _ _).trans ?_
  rw [← Ideal.ofBits_zero_f32]
  rfl

/-- The reference's fourth result. -/
theorem res_decay (m : (ℓ : Loc nD τ sig) → Buf (Elt Ideal) ℓ) (c : Dev nD) :
    Value.res_main_v32 m c = decay (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  have e : Value.res_main_v32 m c = decOf (preBuf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))) := by
    unfold Value.res_main_v32 decOf preBuf
    rfl
  rw [e]
  funext i
  obtain ⟨b, t, n, rfl⟩ : ∃ (b : Fin 8) (t : Fin 4096) (n : Fin 1024), i = ix3 b t n := ⟨_, _, _, eq_ix3 i⟩
  exact (decOf_apply _ _).trans (congrArg lsig (preBuf_apply _ _ _ _ _ _ _ b t n))

end Cert.In5

end
-- ==== Proof.InValue5.lean ====
/-
  The GLA layer's input projection: the four result arrays, entry by entry, and the claim that they are the reference's.
-/
module

public import proofs.«01_k».proof.Defs
public import proofs.«01_k».proof.Proof.InBody5
public import proofs.«01_k».proof.Proof.InRef5
public import Idealize.ShloMosaic.Lib.Pipeline.ValueKit.Geometry
public import Idealize.ShloMosaic.Lib.Pipeline.Covers
public import Idealize.ShloMosaic.Lib.KernelVsHost
public import Idealize.ShloMosaic.Lib.Pointwise

@[expose] public section

noncomputable section

namespace Cert.In5

open Cert.Kernel5Ideal Cert.Kernel5Ideal.Gen Cert.Kernel5Ideal.In Idealize.ShloMosaic Idealize.SL.Sem
open Idealize.ShloMosaic.TcCoe

/-! ## The payloads -/

set_option maxRecDepth 16384 in
theorem pay1_apply (x : Vec Ideal S1x16x2048 .f32) (g : Vec Ideal S1x2048 .f32) (sc sh : Vec Ideal S1x1x2048 .f32) (r : Fin 16) (k : Fin 2048) :
    k0_pay1 x g sc sh (ix2 r k)
      = x (ix3 (0 : Fin 1) r k) * Ideal.rsqrt (Ideal.div (∑ j : Fin 2048, x (ix3 (0 : Fin 1) r j) * x (ix3 (0 : Fin 1) r j)) (Ideal.ofBits .f32 0x45000000#32) + Ideal.ofBits .f32 0x358637BD#32)
          * g (ix2 (0 : Fin 1) k) * (Ideal.ofBits .f32 0x3F800000#32 + sc (ix3 (0 : Fin 1) (0 : Fin 1) k)) + sh (ix3 (0 : Fin 1) (0 : Fin 1) k) := by
  unfold k0_pay1
  pointwise

theorem pay3_apply (H : Vec Ideal S1024x2048 .bf16) (w : Vec Ideal S2048x512 .bf16) (r : Fin 1024) (j : Fin 512) :
    k0_pay3 H w (ix3 (0 : Fin 1) r j) = ∑ k : Fin 2048, H (ix2 r k) * w (ix2 k j) := by
  unfold k0_pay3 k0_pay2
  pointwise

theorem pay4_apply (H : Vec Ideal S1024x2048 .bf16) (w : Vec Ideal S2048x512 .bf16) (r : Fin 1024) (j : Fin 512) :
    k0_pay4 H w (ix3 (0 : Fin 1) r j) = ∑ k : Fin 2048, H (ix2 r k) * w (ix2 k j) := by
  unfold k0_pay4 k0_pay2
  pointwise

theorem pay5_apply (H : Vec Ideal S1024x2048 .bf16) (w : Vec Ideal S2048x512 .bf16) (r : Fin 1024) (j : Fin 512) :
    k0_pay5 H w (ix3 (0 : Fin 1) r j) = ∑ k : Fin 2048, H (ix2 r k) * w (ix2 k j) := by
  unfold k0_pay5 k0_pay2
  pointwise

theorem pay6_apply (H : Vec Ideal S1024x2048 .bf16) (wa : Vec Ideal S2048x128 .bf16) (wa2 : Vec Ideal S128x1024 .bf16) (ba : Vec Ideal S1x1024 .f32)
    (r : Fin 1024) (n : Fin 1024) :
    k0_pay6 H wa wa2 ba (ix3 (0 : Fin 1) r n)
      = lsig ((∑ u : Fin 128, (∑ k : Fin 2048, H (ix2 r k) * wa (ix2 k u)) * wa2 (ix2 u n)) + ba (ix2 (0 : Fin 1) n)) := by
  unfold k0_pay6 lsig
  rw [← ofBits_sixteenth, ← ofBits_one, ← Ideal.ofBits_zero_f32]
  pointwise
  rfl

/-- A tile's normalized entry, from the tile's own row. -/
theorem hTile_apply (x : Vec Ideal S1x1024x2048 .f32) (sc sh : Vec Ideal S1x1x2048 .f32) (g : Vec Ideal S1x2048 .f32) (r : Fin 1024) (k : Fin 2048) :
    hTile x sc sh g (ix2 r k)
      = x (ix3 (0 : Fin 1) r k) * Ideal.rsqrt (Ideal.div (∑ j : Fin 2048, x (ix3 (0 : Fin 1) r j) * x (ix3 (0 : Fin 1) r j)) (Ideal.ofBits .f32 0x45000000#32) + Ideal.ofBits .f32 0x358637BD#32)
          * g (ix2 (0 : Fin 1) k) * (Ideal.ofBits .f32 0x3F800000#32 + sc (ix3 (0 : Fin 1) (0 : Fin 1) k)) + sh (ix3 (0 : Fin 1) (0 : Fin 1) k) := by
  have e : ∀ j : Fin 2048, (ix3 (0 : Fin 1) (⟨16 * (r.val / 16) + r.val % 16, by have := r.isLt; omega⟩ : Fin 1024) j : S1x1024x2048.Idx) = ix3 (0 : Fin 1) r j := fun j =>
    congrArg (fun s : Fin 1024 => (ix3 (0 : Fin 1) s j : S1x1024x2048.Idx)) (Fin.ext (by show 16 * (r.val / 16) + r.val % 16 = r.val; omega))
  refine (pay1_apply _ g sc sh ⟨r.val % 16, Nat.mod_lt _ (by decide)⟩ k).trans ?_
  have hx : ∀ j : Fin 2048, (fun z : S1x16x2048.Idx => x (ix3 (0 : Fin 1) (⟨16 * (r.val / 16) + (z 1).val, by have := r.isLt; have h1 : (z 1).val < 16 := (z 1).isLt; omega⟩ : Fin 1024) (z 2)))
      (ix3 (0 : Fin 1) (⟨r.val % 16, Nat.mod_lt _ (by decide)⟩ : Fin 16) j) = x (ix3 (0 : Fin 1) r j) := fun j => congrArg x (e j)
  have hs := Finset.sum_congr (rfl : (Finset.univ : Finset (Fin 2048)) = Finset.univ) fun j _ => congrArg₂ (· * ·) (hx j) (hx j)
  exact congrArg₂ (fun a s => a * Ideal.rsqrt (Ideal.div s (Ideal.ofBits .f32 0x45000000#32) + Ideal.ofBits .f32 0x358637BD#32)
          * g (ix2 (0 : Fin 1) k) * (Ideal.ofBits .f32 0x3F800000#32 + sc (ix3 (0 : Fin 1) (0 : Fin 1) k)) + sh (ix3 (0 : Fin 1) (0 : Fin 1) k)) (hx k) hs

/-! ## The blocks -/

theorem at0 : ∀ t : Fin cfg0.N, win0_0.index t = ![t.val / 48, t.val / 12 % 4, 0] := (by decide +kernel : ∀ t : Fin grid0.N, _)
theorem at1 : ∀ t : Fin cfg0.N, win0_1.index t = ![t.val / 48, 0, 0] := (by decide +kernel : ∀ t : Fin grid0.N, _)
theorem at2 : ∀ t : Fin cfg0.N, win0_2.index t = ![t.val / 48, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, t.val % 12] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![t.val / 48, t.val / 12 % 4, min (max (t.val % 12) 0) 3] := (by decide +kernel : ∀ t : Fin grid0.N, _)
theorem at9 : ∀ t : Fin cfg0.N, win0_9.index t = ![t.val / 48, t.val / 12 % 4, min (max (t.val % 12) 4) 7 - 4] := (by decide +kernel : ∀ t : Fin grid0.N, _)
theorem at10 : ∀ t : Fin cfg0.N, win0_10.index t = ![t.val / 48, t.val / 12 % 4, min (max (t.val % 12) 8) 11 - 8] := (by decide +kernel : ∀ t : Fin grid0.N, _)
theorem at11 : ∀ t : Fin cfg0.N, win0_11.index t = ![t.val / 48, t.val / 12 % 4, 0] := (by decide +kernel : ∀ t : Fin grid0.N, _)
theorem covers8 : (cfg0.win 8).Covers := by decide +kernel
theorem covers9 : (cfg0.win 9).Covers := by decide +kernel
theorem covers10 : (cfg0.win 10).Covers := by decide +kernel
theorem covers11 : (cfg0.win 11).Covers := by decide +kernel

/-- The sequence and the position of a tile's row, and the column of a step's column. -/
def seqOf (t : Fin cfg0.N) : Fin 8 := ⟨t.val / 48, by have := lt384 t; omega⟩
def pos (t : Fin cfg0.N) (r : Fin 1024) : Fin 4096 := ⟨1024 * (t.val / 12 % 4) + r.val, by have := r.isLt; omega⟩
def col (t : Fin cfg0.N) (j : Fin 512) : Fin 6160 := ⟨512 * (t.val % 12) + j.val, by have := j.isLt; omega⟩

section

variable (m : (ℓ : Loc nD τ sig) → Buf (Elt Ideal) ℓ) (c : Dev nD) (t : Fin cfg0.N)

theorem x_block (r : Fin 1024) (k : Fin 2048) :
    iblk m c 0 t (ix3 (0 : Fin 1) r k) = m ((c : Thread nD τ).loc main_arg0) (ix3 (seqOf t) (pos t r) k) := by
  blk_simp [iblk]
  rw [show V m c main_arg0 = _ from V_main_arg0 m c]
  refine congrArg (m ((c : Thread nD τ).loc main_arg0)) ?_
  funext a
  refine Fin.ext ?_
  match a with
  | ⟨0, _⟩ => blk_simp [at0]; rfl
  | ⟨1, _⟩ => blk_simp [at0]; show (t.val / 12 % 4) * 1024 + r.val = 1024 * (t.val / 12 % 4) + r.val; omega
  | ⟨2, _⟩ => blk_simp [at0]

/-! ### What the host leaves in the call's operands -/

theorem host2 : V m c main_v2 = (truncf .bf16 (pad S2048x128 ![0, 0] ![0, 112] ![0, 0] (extractStridedSlice S2048x16 ![0, 6144] (m ((c : Thread nD τ).loc main_arg4)) slices_S2048x6160_S2048x16_0_6144 : FVec Ideal S2048x16 .f32) (sitofp .f32 (constantI S_ 32 0#32) : FVec Ideal S_ .f32) pads_S2048x16_S2048x128_000_01120 h_S_) bitsLt_bf16_f32 : FVec Ideal S2048x128 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem host4 : V m c main_v4 = (truncf .bf16 (pad S128x1024 ![0, 0] ![112, 0] ![0, 0] (m ((c : Thread nD τ).loc main_arg5) : FVec Ideal S16x1024 .f32) (sitofp .f32 (constantI S_ 32 0#32) : FVec Ideal S_ .f32) pads_S16x1024_S128x1024_01120_000 h_S_) bitsLt_bf16_f32 : FVec Ideal S128x1024 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem host5 : V m c main_v5 = (broadcastInDim S8x1x2048 ![0, 2] bcast_S8x2048_S8x1x2048_0_2 (m ((c : Thread nD τ).loc main_arg1)) : FVec Ideal S8x1x2048 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem host6 : V m c main_v6 = (broadcastInDim S8x1x2048 ![0, 2] bcast_S8x2048_S8x1x2048_0_2 (m ((c : Thread nD τ).loc main_arg2)) : FVec Ideal S8x1x2048 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem host8 : V m c main_v8 = (truncf .bf16 (extractStridedSlice S2048x6144 ![0, 0] (m ((c : Thread nD τ).loc main_arg4)) slices_S2048x6160_S2048x6144_0_0 : FVec Ideal S2048x6144 .f32) bitsLt_bf16_f32 : FVec Ideal S2048x6144 .bf16) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem host9 : V m c main_v9 = (shapeCast S1x2048 (m ((c : Thread nD τ).loc main_arg3)) shapeCasts_S2048_S1x2048 : FVec Ideal S1x2048 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

theorem host10 : V m c main_v10 = (shapeCast S1x1024 (m ((c : Thread nD τ).loc main_arg6)) shapeCasts_S1024_S1x1024 : FVec Ideal S1x1024 .f32) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp
  rfl

theorem sc_block (k : Fin 2048) : iblk m c 1 t (ix3 (0 : Fin 1) (0 : Fin 1) k) = m ((c : Thread nD τ).loc main_arg1) (ix2 (seqOf t) k) := by
  have i : (win0_1.blk t).view.emb (ix3 (0 : Fin 1) (0 : Fin 1) k) = ix3 (seqOf t) (0 : Fin 1) k := by
    funext a
    refine Fin.ext ?_
    match a with
    | ⟨0, _⟩ => blk_simp [at1]; rfl
    | ⟨1, _⟩ => blk_simp [at1]
    | ⟨2, _⟩ => blk_simp [at1]
  blk_simp [iblk]
  rw [show V m c main_v5 = _ from host5 m c, i]
  pointwise

theorem sh_block (k : Fin 2048) : iblk m c 2 t (ix3 (0 : Fin 1) (0 : Fin 1) k) = m ((c : Thread nD τ).loc main_arg2) (ix2 (seqOf t) k) := by
  have i : (win0_2.blk t).view.emb (ix3 (0 : Fin 1) (0 : Fin 1) k) = ix3 (seqOf t) (0 : Fin 1) k := by
    funext a
    refine Fin.ext ?_
    match a with
    | ⟨0, _⟩ => blk_simp [at2]; rfl
    | ⟨1, _⟩ => blk_simp [at2]
    | ⟨2, _⟩ => blk_simp [at2]
  blk_simp [iblk]
  rw [show V m c main_v6 = _ from host6 m c, i]
  pointwise

set_option maxRecDepth 16384 in
theorem g_block (k : Fin 2048) : iblk m c 3 t (ix2 (0 : Fin 1) k) = m ((c : Thread nD τ).loc main_arg3) (ix1 k) := by
  have i : (win0_3.blk t).view.emb (ix2 (0 : Fin 1) k) = ix2 (0 : Fin 1) k := by
    funext a
    refine Fin.ext ?_
    match a with
    | ⟨0, _⟩ => blk_simp [at3]
    | ⟨1, _⟩ => blk_simp [at3]
  blk_simp [iblk]
  rw [show V m c main_v9 = _ from host9 m c, i]
  pointwise

theorem w_block (k : Fin 2048) (j : Fin 512) : iblk m c 4 t (ix2 k j) = m ((c : Thread nD τ).loc main_arg4) (ix2 k (col t j)) := by
  have i : (win0_4.blk t).view.emb (ix2 k j) = ix2 k (⟨512 * (t.val % 12) + j.val, by have := j.isLt; omega⟩ : Fin 6144) := by
    funext a
    refine Fin.ext ?_
    match a with
    | ⟨0, _⟩ => blk_simp [at4]
    | ⟨1, _⟩ => blk_simp [at4]; show (t.val % 12) * 512 + j.val = 512 * (t.val % 12) + j.val; omega
  blk_simp [iblk]
  rw [show V m c main_v8 = _ from host8 m c, i]
  refine congrArg (m ((c : Thread nD τ).loc main_arg4)) ?_
  funext a
  refine Fin.ext ?_
  match a with
  | ⟨0, _⟩ => exact Nat.zero_add _
  | ⟨1, _⟩ => exact Nat.zero_add _

theorem wa_block (k : Fin 2048) (u : Fin 16) : iblk m c 5 t (ix2 k (Fin.castAdd 112 u : Fin 128)) = m ((c : Thread nD τ).loc main_arg4) (ix2 k (⟨6144 + u.val, by have := u.isLt; omega⟩ : Fin 6160)) := by
  have i : (win0_5.blk t).view.emb (ix2 k (Fin.castAdd 112 u : Fin 128)) = ix2 k (Fin.castAdd 112 u : Fin 128) := by
    funext a
    refine Fin.ext ?_
    match a with
    | ⟨0, _⟩ => blk_simp [at5]
    | ⟨1, _⟩ => blk_simp [at5]
  blk_simp [iblk]
  rw [show V m c main_v2 = _ from host2 m c, i]
  refine (pad_apply_of_inside _ _ _ _ _ pads_S2048x16_S2048x128_000_01120 h_S_ _ (ix2 k u) (fun a => ?_)).trans ?_
  · match a with
    | ⟨0, _⟩ => show k.val = 0 + k.val * (0 + 1); omega
    | ⟨1, _⟩ => show u.val = 0 + u.val * (0 + 1); omega
  refine congrArg (m ((c : Thread nD τ).loc main_arg4)) ?_
  funext a
  refine Fin.ext ?_
  match a with
  | ⟨0, _⟩ => exact Nat.zero_add _
  | ⟨1, _⟩ => rfl

theorem wa2_block (u : Fin 16) (n : Fin 1024) : iblk m c 6 t (ix2 (Fin.castAdd 112 u : Fin 128) n) = m ((c : Thread nD τ).loc main_arg5) (ix2 u n) := by
  have i : (win0_6.blk t).view.emb (ix2 (Fin.castAdd 112 u : Fin 128) n) = ix2 (Fin.castAdd 112 u : Fin 128) n := by
    funext a
    refine Fin.ext ?_
    match a with
    | ⟨0, _⟩ => blk_simp [at6]
    | ⟨1, _⟩ => blk_simp [at6]
  blk_simp [iblk]
  rw [show V m c main_v4 = _ from host4 m c, i]
  refine pad_apply_of_inside _ _ _ _ _ pads_S16x1024_S128x1024_01120_000 h_S_ _ (ix2 u n) (fun a => ?_)
  match a with
  | ⟨0, _⟩ => show u.val = 0 + u.val * (0 + 1); omega
  | ⟨1, _⟩ => show n.val = 0 + n.val * (0 + 1); omega

theorem wa2_pad (u : Fin 112) (n : Fin 1024) : iblk m c 6 t (ix2 (Fin.natAdd 16 u : Fin 128) n) = (0 : EReal) := by
  have i : (win0_6.blk t).view.emb (ix2 (Fin.natAdd 16 u : Fin 128) n) = ix2 (Fin.natAdd 16 u : Fin 128) n := by
    funext a
    refine Fin.ext ?_
    match a with
    | ⟨0, _⟩ => blk_simp [at6]
    | ⟨1, _⟩ => blk_simp [at6]
  blk_simp [iblk]
  rw [show V m c main_v4 = _ from host4 m c, i]
  refine (pad_apply_of_not_inside _ _ _ _ _ pads_S16x1024_S128x1024_01120_000 h_S_ _ (0 : Fin 2) (fun h => ?_)).trans ?_
  · have h2 : (16 + u.val - 0) / (0 + 1) < 16 := h.2.2
    omega
  show (((0#32).toInt : ℝ) : EReal) = 0
  simp

set_option maxRecDepth 16384 in
theorem ba_block (n : Fin 1024) : iblk m c 7 t (ix2 (0 : Fin 1) n) = m ((c : Thread nD τ).loc main_arg6) (ix1 n) := by
  have i : (win0_7.blk t).view.emb (ix2 (0 : Fin 1) n) = ix2 (0 : Fin 1) n := by
    funext a
    refine Fin.ext ?_
    match a with
    | ⟨0, _⟩ => blk_simp [at7]
    | ⟨1, _⟩ => blk_simp [at7]
  blk_simp [iblk]
  rw [show V m c main_v10 = _ from host10 m c, i]
  pointwise

theorem seqOf_base : seqOf (base t) = seqOf t := Fin.ext (by show 12 * (t.val / 12) / 48 = t.val / 48; omega)
theorem pos_base (r : Fin 1024) : pos (base t) r = pos t r :=
  Fin.ext (by show 1024 * (12 * (t.val / 12) / 12 % 4) + r.val = 1024 * (t.val / 12 % 4) + r.val; omega)

/-- The scratch buffer's rows are the reference's normalized rows. -/
theorem rows_apply (r : Fin 1024) (k : Fin 2048) :
    rows m c t (ix2 r k) = hid (m ((c : Thread nD τ).loc main_arg0)) (m ((c : Thread nD τ).loc main_arg1)) (m ((c : Thread nD τ).loc main_arg2))
      (m ((c : Thread nD τ).loc main_arg3)) (seqOf t) (pos t r) k := by
  refine (hTile_apply _ _ _ _ r k).trans ?_
  have hx : ∀ j : Fin 2048, iblk m c 0 (base t) (ix3 (0 : Fin 1) r j) = m ((c : Thread nD τ).loc main_arg0) (ix3 (seqOf t) (pos t r) j) := fun j => by
    rw [x_block, seqOf_base, pos_base]
  have hsc := (sc_block m c (base t) k).trans (congrArg (fun b => m ((c : Thread nD τ).loc main_arg1) (ix2 b k)) (seqOf_base t))
  have hsh := (sh_block m c (base t) k).trans (congrArg (fun b => m ((c : Thread nD τ).loc main_arg2) (ix2 b k)) (seqOf_base t))
  have hg := g_block m c (base t) k
  have hs := Finset.sum_congr (rfl : (Finset.univ : Finset (Fin 2048)) = Finset.univ) fun j _ => congrArg₂ (fun a b : EReal => a * b) (hx j) (hx j)
  unfold hid
  exact congr (congrArg HAdd.hAdd (congr (congrArg HMul.hMul (congr (congrArg HMul.hMul (congr (congrArg HMul.hMul (hx k))
    (congrArg (fun s => Ideal.rsqrt (Ideal.div s (Ideal.ofBits .f32 0x45000000#32) + Ideal.ofBits .f32 0x358637BD#32)) hs))) hg)) (congrArg (fun s : EReal => Ideal.ofBits .f32 0x3F800000#32 + s) hsc))) hsh

theorem proj_block (r : Fin 1024) (j : Fin 512) :
    ∑ k : Fin 2048, rows m c t (ix2 r k) * iblk m c 4 t (ix2 k j)
      = proj (m ((c : Thread nD τ).loc main_arg0)) (m ((c : Thread nD τ).loc main_arg1)) (m ((c : Thread nD τ).loc main_arg2))
          (m ((c : Thread nD τ).loc main_arg3)) (m ((c : Thread nD τ).loc main_arg4)) (seqOf t) (pos t r) (col t j) :=
  Finset.sum_congr rfl fun k _ => congrArg₂ (fun a b : EReal => a * b) (rows_apply m c t r k) (w_block m c t k j)

/-- The gate's argument: the padding contributes nothing. -/
theorem gate_block (r : Fin 1024) (n : Fin 1024) :
    (∑ u : Fin 128, (∑ k : Fin 2048, rows m c t (ix2 r k) * iblk m c 5 t (ix2 k u)) * iblk m c 6 t (ix2 u n)) + iblk m c 7 t (ix2 (0 : Fin 1) n)
      = gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (seqOf t) (pos t r) n := by
  refine congrArg₂ (fun a b : EReal => a + b) ?_ (ba_block m c t n)
  refine (Fin.sum_univ_add (a := 16) (b := 112) fun u : Fin 128 => (∑ k : Fin 2048, rows m c t (ix2 r k) * iblk m c 5 t (ix2 k u)) * iblk m c 6 t (ix2 u n)).trans ?_
  have hz : ∀ u : Fin 112, (∑ k : Fin 2048, rows m c t (ix2 r k) * iblk m c 5 t (ix2 k (Fin.natAdd 16 u : Fin 128))) * iblk m c 6 t (ix2 (Fin.natAdd 16 u : Fin 128) n) = (0 : EReal) := fun u =>
    (congrArg (fun a : EReal => (∑ k : Fin 2048, rows m c t (ix2 r k) * iblk m c 5 t (ix2 k (Fin.natAdd 16 u : Fin 128))) * a) (wa2_pad m c t u n)).trans (mul_zero _)
  refine (congrArg₂ (fun a b : EReal => a + b) (Finset.sum_congr rfl fun u _ => ?_) (Finset.sum_eq_zero fun u _ => hz u)).trans (add_zero _)
  exact congrArg₂ (fun a b : EReal => a * b)
    (Finset.sum_congr rfl fun k _ => congrArg₂ (fun a b : EReal => a * b) (rows_apply m c t r k) (wa_block m c t k u)) (wa2_block m c t u n)

end

/-- Where a product's block lands in its third. -/
theorem third_at (f : Fin 3) (X : S8x4096x2048.Idx → EReal) (sc sh : S8x2048.Idx → EReal) (g : S2048.Idx → EReal) (W : S2048x6160.Idx → EReal)
    (s t : Fin cfg0.N) (r : Fin 1024) (j : Fin 512) (q : Fin 2048) (hs : s.val / 12 = t.val / 12) (hq : 2048 * f.val + q.val = 512 * (s.val % 12) + j.val) :
    proj X sc sh g W (seqOf s) (pos s r) (col s j) = third f X sc sh g W (ix3 (seqOf t) (pos t r) q) := by
  have h0 : seqOf s = seqOf t := Fin.ext (by show s.val / 48 = t.val / 48; omega)
  have h1 : pos s r = pos t r := Fin.ext (by show 1024 * (s.val / 12 % 4) + r.val = 1024 * (t.val / 12 % 4) + r.val; rw [hs])
  have h2 : col s j = ⟨2048 * f.val + q.val, by have := q.isLt; have := f.isLt; omega⟩ := Fin.ext hq.symm
  rw [h0, h1, h2]
  rfl

section

variable (m : (ℓ : Loc nD τ sig) → Buf (Elt Ideal) ℓ) (c : Dev nD)

theorem result8 : (dats m 0 c).arrAt 8 cfg0.N = third 0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ covers8 fun t _ y => ?_
  blk_simp
  rw [after0_8]
  obtain ⟨u, r, j, rfl⟩ : ∃ (u : Fin 1) (r : Fin 1024) (j : Fin 512), y = ix3 u r j := ⟨_, _, _, eq_ix3 y⟩
  obtain rfl : u = 0 := Subsingleton.elim _ _
  have e : (win0_8.blk t).view.emb (ix3 (0 : Fin 1) r j) = ix3 (seqOf t) (pos t r) (⟨512 * (min (max (t.val % 12) 0) 3) + j.val, by have := j.isLt; omega⟩ : Fin 2048) := by
    funext a
    refine Fin.ext ?_
    match a with
    | ⟨0, _⟩ => blk_simp [at8]; rfl
    | ⟨1, _⟩ => blk_simp [at8]; show (t.val / 12 % 4) * 1024 + r.val = 1024 * (t.val / 12 % 4) + r.val; omega
    | ⟨2, _⟩ => blk_simp [at8]; show (min (max (t.val % 12) 0) 3) * 512 + j.val = 512 * (min (max (t.val % 12) 0) 3) + j.val; omega
  refine Eq.trans ?_ (congrArg (third 0 (m ((c : Thread nD τ).loc main_arg0)) (m ((c : Thread nD τ).loc main_arg1)) (m ((c : Thread nD τ).loc main_arg2)) (m ((c : Thread nD τ).loc main_arg3)) (m ((c : Thread nD τ).loc main_arg4))) e.symm)
  refine (pay3_apply _ _ r j).trans ?_
  exact (proj_block m c (near 0 t) r j).trans (third_at 0 _ _ _ _ _ (near 0 t) t r j _
    (by show (12 * (t.val / 12) + min (max (t.val % 12) 0) (0 + 3)) / 12 = t.val / 12; omega)
    (by show 2048 * 0 + (512 * (min (max (t.val % 12) 0) 3) + j.val) = 512 * ((12 * (t.val / 12) + min (max (t.val % 12) 0) (0 + 3)) % 12) + j.val; omega))

theorem result9 : (dats m 0 c).arrAt 9 cfg0.N = third 1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ covers9 fun t _ y => ?_
  blk_simp
  rw [after0_9]
  obtain ⟨u, r, j, rfl⟩ : ∃ (u : Fin 1) (r : Fin 1024) (j : Fin 512), y = ix3 u r j := ⟨_, _, _, eq_ix3 y⟩
  obtain rfl : u = 0 := Subsingleton.elim _ _
  have e : (win0_9.blk t).view.emb (ix3 (0 : Fin 1) r j) = ix3 (seqOf t) (pos t r) (⟨512 * (min (max (t.val % 12) 4) 7 - 4) + j.val, by have := j.isLt; omega⟩ : Fin 2048) := by
    funext a
    refine Fin.ext ?_
    match a with
    | ⟨0, _⟩ => blk_simp [at9]; rfl
    | ⟨1, _⟩ => blk_simp [at9]; show (t.val / 12 % 4) * 1024 + r.val = 1024 * (t.val / 12 % 4) + r.val; omega
    | ⟨2, _⟩ => blk_simp [at9]; show (min (max (t.val % 12) 4) 7 - 4) * 512 + j.val = 512 * (min (max (t.val % 12) 4) 7 - 4) + j.val; omega
  refine Eq.trans ?_ (congrArg (third 1 (m ((c : Thread nD τ).loc main_arg0)) (m ((c : Thread nD τ).loc main_arg1)) (m ((c : Thread nD τ).loc main_arg2)) (m ((c : Thread nD τ).loc main_arg3)) (m ((c : Thread nD τ).loc main_arg4))) e.symm)
  refine (pay4_apply _ _ r j).trans ?_
  exact (proj_block m c (near 4 t) r j).trans (third_at 1 _ _ _ _ _ (near 4 t) t r j _
    (by show (12 * (t.val / 12) + min (max (t.val % 12) 4) (4 + 3)) / 12 = t.val / 12; omega)
    (by show 2048 * 1 + (512 * (min (max (t.val % 12) 4) 7 - 4) + j.val) = 512 * ((12 * (t.val / 12) + min (max (t.val % 12) 4) (4 + 3)) % 12) + j.val; omega))

theorem result10 : (dats m 0 c).arrAt 10 cfg0.N = third 2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ covers10 fun t _ y => ?_
  blk_simp
  rw [after0_10]
  obtain ⟨u, r, j, rfl⟩ : ∃ (u : Fin 1) (r : Fin 1024) (j : Fin 512), y = ix3 u r j := ⟨_, _, _, eq_ix3 y⟩
  obtain rfl : u = 0 := Subsingleton.elim _ _
  have e : (win0_10.blk t).view.emb (ix3 (0 : Fin 1) r j) = ix3 (seqOf t) (pos t r) (⟨512 * (min (max (t.val % 12) 8) 11 - 8) + j.val, by have := j.isLt; omega⟩ : Fin 2048) := by
    funext a
    refine Fin.ext ?_
    match a with
    | ⟨0, _⟩ => blk_simp [at10]; rfl
    | ⟨1, _⟩ => blk_simp [at10]; show (t.val / 12 % 4) * 1024 + r.val = 1024 * (t.val / 12 % 4) + r.val; omega
    | ⟨2, _⟩ => blk_simp [at10]; show (min (max (t.val % 12) 8) 11 - 8) * 512 + j.val = 512 * (min (max (t.val % 12) 8) 11 - 8) + j.val; omega
  refine Eq.trans ?_ (congrArg (third 2 (m ((c : Thread nD τ).loc main_arg0)) (m ((c : Thread nD τ).loc main_arg1)) (m ((c : Thread nD τ).loc main_arg2)) (m ((c : Thread nD τ).loc main_arg3)) (m ((c : Thread nD τ).loc main_arg4))) e.symm)
  refine (pay5_apply _ _ r j).trans ?_
  exact (proj_block m c (near 8 t) r j).trans (third_at 2 _ _ _ _ _ (near 8 t) t r j _
    (by show (12 * (t.val / 12) + min (max (t.val % 12) 8) (8 + 3)) / 12 = t.val / 12; omega)
    (by show 2048 * 2 + (512 * (min (max (t.val % 12) 8) 11 - 8) + j.val) = 512 * ((12 * (t.val / 12) + min (max (t.val % 12) 8) (8 + 3)) % 12) + j.val; omega))

theorem result11 : (dats m 0 c).arrAt 11 cfg0.N = decay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ covers11 fun t _ y => ?_
  blk_simp
  rw [after0_11]
  obtain ⟨u, r, n, rfl⟩ : ∃ (u : Fin 1) (r : Fin 1024) (n : Fin 1024), y = ix3 u r n := ⟨_, _, _, eq_ix3 y⟩
  obtain rfl : u = 0 := Subsingleton.elim _ _
  have e : (win0_11.blk t).view.emb (ix3 (0 : Fin 1) r n) = ix3 (seqOf t) (pos t r) n := by
    funext a
    refine Fin.ext ?_
    match a with
    | ⟨0, _⟩ => blk_simp [at11]; rfl
    | ⟨1, _⟩ => blk_simp [at11]; show (t.val / 12 % 4) * 1024 + r.val = 1024 * (t.val / 12 % 4) + r.val; omega
    | ⟨2, _⟩ => blk_simp [at11]
  refine Eq.trans ?_ (congrArg (decay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)
  refine (pay6_apply _ _ _ _ r n).trans ?_
  exact congrArg lsig (gate_block m c t r n)

end

/-! ## The claim -/

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => third 0 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)),
    fun c => third 1 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)),
    fun c => third 2 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)),
    fun c => decay (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)), ?_, ?_⟩
  · exact (θ_run _ _ _).mono (fun r h c => ⟨((h.1.1 c).1 8).trans (result8 m c), ((h.1.1 c).1 9).trans (result9 m c), ((h.1.1 c).1 10).trans (result10 m c),
      ((h.1.1 c).1 11).trans (result11 m c), h.2.1 c⟩) (θ_run_and (In.run_main_quiescent m g) (In.frame m g))
  · refine (θ_run _ _ _).mono (fun r h c => ⟨(h c).1.trans ?_, (h c).2.1.trans ?_, (h c).2.2.1.trans ?_, (h c).2.2.2.1.trans ((res_decay m' c).trans ?_), (h c).2.2.2.2⟩) (Cert.Reference5Ideal.Value.run m' g')
    all_goals
      obtain ⟨h0, h1, h2, h3, h4, h5, h6⟩ := hagree c
    rotate_right
    · rw [h0, h1, h2, h3, h4, h5, h6]
    all_goals
      rw [h0, h1, h2, h3, h4]
      funext i
      obtain ⟨b, t, j, rfl⟩ : ∃ (b : Fin 8) (t : Fin 4096) (j : Fin 2048), i = ix3 b t j := ⟨_, _, _, eq_ix3 i⟩
      unfold third proj hid
      pointwise

end Cert.In5

end
-- ==== Proof.InTile6.lean ====
/-
  The stick-breaking layer's input projection on the sample batch, its one tile of rows: the loop over groups of 16 rows fills the scratch buffer
  with the normalized rows, and the contents of the buffer after it in closed form.
-/
module

public import proofs.«01_k».proof.Proof.Gen.Kernel6Ideal.Frame
public import proofs.«01_k».proof.Proof.Gen.Kernel6Ideal.Loops
public import Idealize.ShloMosaic.Lib.WholeRead
public import Idealize.ShloMosaic.Lib.Pointwise
public import Idealize.ShloMosaic.Lib.Pipeline.ValueKit.Tiles

@[expose] public section

noncomputable section

namespace Cert.Kernel6Ideal.In

open Cert.Kernel6Ideal Cert.Kernel6Ideal.Gen Idealize.ShloMosaic Idealize.SL.Sem
open Idealize.ShloMosaic.TcCoe Idealize.ShloMosaic.Tactic

variable {F : FTy → Type} [FloatOps F] [Named F]

/-- The tile's rows of the group of a row. -/
def rowsOf (x : Vec F S1x128x2048 .f32) (y : S128x2048.Idx) : Vec F S1x16x2048 .f32 := fun z =>
  x (ix3 (0 : Fin 1) ⟨16 * ((y 0).val / 16) + (z 1).val, by have h0 : (y 0).val < 128 := (y 0).isLt; have h1 : (z 1).val < 16 := (z 1).isLt; omega⟩ (z 2))

/-- The normalized rows of a tile: each group of 16 rows is the group's payload at the rows of the tile, of the scale and of the shift. -/
def hTile (x sc sh : Vec F S1x128x2048 .f32) (g : Vec F S1x2048 .f32) : Vec F S128x2048 .bf16 := fun y =>
  k0_pay1 (rowsOf x y) g (rowsOf sc y) (rowsOf sh y) (ix2 ⟨(y 0).val % 16, Nat.mod_lt _ (by decide)⟩ (y 1))

theorem trips_eq : k0_t1_loop.trips = 8 := by decide +kernel

theorem off1_eq : ∀ k : Fin k0_t1_loop.trips, k0_off1 k = ![0, 16 * k.val, 0] := by decide +kernel
theorem off2_eq : ∀ k : Fin k0_t1_loop.trips, k0_off2 k = ![16 * k.val, 0] := by decide +kernel

theorem hz3 : (![0, 0, 0] : Fin 3 → ℕ) = fun _ => 0 := by funext a; fin_cases a <;> rfl
theorem hz2 : (![0, 0] : Fin 2 → ℕ) = fun _ => 0 := by funext a; fin_cases a <;> rfl

/-- A whole operand loaded whole. -/
theorem load_whole {S : Shape} {e : EltTy} (m : Memref sig .tc .vmem S e) (h : m.IsWhole) (X : Vec F S e) (off : Fin S.rank → ℕ)
    (hoff : off = fun _ => 0) (inb : ∀ a, off a + S.size a ≤ S.size a) :
    View.readAt (Elt F) m.view (Rect.unit (s := S) off S.size inb).toLoadRect (h.unread X) = X := by
  rw [View.readAt_eq_ld, h.read_unread, View.ld_unit_zero (S := S) hoff]

section

variable (c : Dev nD) (i : grid0.Coords)
  (arg3 : Memref sig .tc .vmem S1x128x2048 .f32) (harg3 : arg3.IsWhole) (arg4 : Memref sig .tc .vmem S1x128x2048 .f32) (harg4 : arg4.IsWhole)
  (arg5 : Memref sig .tc .vmem S1x128x2048 .f32) (harg5 : arg5.IsWhole) (arg6 : Memref sig .tc .vmem S1x2048 .f32) (harg6 : arg6.IsWhole)
  (arg7 : Memref sig .tc .vmem S2048x512 .bf16) (harg7 : arg7.IsWhole) (arg8 : Memref sig .tc .vmem S1x128x512 .bf16) (harg8 : arg8.IsWhole)
  (arg9 : Memref sig .tc .vmem S1x128x512 .f32) (harg9 : arg9.IsWhole) (arg10 : Memref sig .tc .vmem S1x128x512 .f32) (harg10 : arg10.IsWhole)
  (arg11 : Memref sig .tc .vmem S1x128x512 .bf16) (harg11 : arg11.IsWhole) (arg12 : Memref sig .tc .vmem S128x2048 .bf16) (harg12 : arg12.IsWhole)
  (h1 : k0_cond1 i = 1#1)
  (x : Vec F S1x128x2048 .f32) (sc sh : Vec F S1x128x2048 .f32) (g : Vec F S1x2048 .f32)

/-- What the first `k` groups leave in the scratch buffer, as pieces. -/
abbrev pieces (k : ℕ) : List (View.Piece (Elt F) S128x2048 .bf16) :=
  pb_k0_t1 (F := F) Variants.none c none i arg3 harg3 arg4 harg4 arg5 harg5 arg6 harg6 arg7 harg7 arg8 harg8 arg9 harg9 arg10 harg10 arg11 harg11 arg12 harg12 h1
    (harg3.unread x) (harg4.unread sc) (harg5.unread sh) (harg6.unread g) k

/-- The rows of group `k` of an operand. -/
def slab (a : Memref sig .tc .vmem S1x128x2048 .f32) (ha : a.IsWhole) (x : Vec F S1x128x2048 .f32) (k : Fin k0_t1_loop.trips) : Vec F S1x16x2048 .f32 :=
  View.readAt (Elt F) a.view (Rect.unit (s := S1x128x2048) (k0_off1 k) S1x16x2048.size (k0_off1_inb i k h1)).toLoadRect (ha.unread x)

/-- The normalized rows of group `k`. -/
def group (k : Fin k0_t1_loop.trips) : Vec F S16x2048 .bf16 :=
  k0_pay1 (slab i h1 arg3 harg3 x k) g (slab i h1 arg4 harg4 sc k) (slab i h1 arg5 harg5 sh k)

theorem pieces_succ (k : Fin k0_t1_loop.trips) :
    pieces c i arg3 harg3 arg4 harg4 arg5 harg5 arg6 harg6 arg7 harg7 arg8 harg8 arg9 harg9 arg10 harg10 arg11 harg11 arg12 harg12 h1 x sc sh g (k.val + 1)
      = ⟨Rect.unit (s := S128x2048) (k0_off2 k) S16x2048.size (k0_off2_inb i k h1), group i arg3 harg3 arg4 harg4 arg5 harg5 h1 x sc sh g k⟩
        :: pieces c i arg3 harg3 arg4 harg4 arg5 harg5 arg6 harg6 arg7 harg7 arg8 harg8 arg9 harg9 arg10 harg10 arg11 harg11 arg12 harg12 h1 x sc sh g k.val := by
  unfold pieces
  rw [pb_k0_t1_succ]
  unfold group slab tripL_k0_t1 trip_k0_t1
  dsimp only
  rw [load_whole arg6 harg6 g _ hz2]
  rfl

omit [Named F] in
theorem slab_eq (a : Memref sig .tc .vmem S1x128x2048 .f32) (ha : a.IsWhole) (k : Fin k0_t1_loop.trips) (y : S128x2048.Idx) (hd : (y 0).val / 16 = k.val) :
    slab i h1 a ha x k = rowsOf x y := by
  unfold slab rowsOf
  funext z
  rw [View.readAt_eq_ld, ha.read_unread]
  refine View.ld_unit_apply_of x _ _ _ _ _ ?_
  intro a
  have ho := congrFun (off1_eq k) a
  refine Eq.trans ?_ (congrArg (· + (z a).val) ho.symm)
  have hz0 : (z 0).val = 0 := Nat.lt_one_iff.mp (z 0).isLt
  fin_cases a
  · show 0 = 0 + (z 0).val
    omega
  · show 16 * ((y 0).val / 16) + (z 1).val = 16 * k.val + (z 1).val
    rw [hd]
  · show (z 2).val = 0 + (z 2).val
    omega

theorem group_apply (k : Fin k0_t1_loop.trips) (y : S128x2048.Idx) (r : Fin 16) (hy : (y 0).val = 16 * k.val + r.val) :
    group i arg3 harg3 arg4 harg4 arg5 harg5 h1 x sc sh g k (ix2 r (y 1)) = hTile x sc sh g y := by
  have hd : (y 0).val / 16 = k.val := by omega
  have hm : (⟨(y 0).val % 16, Nat.mod_lt _ (by decide)⟩ : Fin 16) = r := Fin.ext (by show _ % 16 = _; omega)
  unfold group hTile
  rw [hm, slab_eq i h1 x arg3 harg3 k y hd, slab_eq i h1 sc arg4 harg4 k y hd, slab_eq i h1 sh arg5 harg5 k y hd]

/-- After `k` groups the first `16 k` rows are written, each with its normalized row. -/
theorem pieces_apply (k : ℕ) (hk : k ≤ 8) (y : S128x2048.Idx) (hy : (y 0).val < 16 * k) :
    (∃ p ∈ pieces c i arg3 harg3 arg4 harg4 arg5 harg5 arg6 harg6 arg7 harg7 arg8 harg8 arg9 harg9 arg10 harg10 arg11 harg11 arg12 harg12 h1 x sc sh g k, y ∈ p.1.set)
    ∧ View.canon (pieces c i arg3 harg3 arg4 harg4 arg5 harg5 arg6 harg6 arg7 harg7 arg8 harg8 arg9 harg9 arg10 harg10 arg11 harg11 arg12 harg12 h1 x sc sh g k) y
      = hTile x sc sh g y := by
  induction k with
  | zero => exact absurd hy (by omega)
  | succ k ih =>
    have hlt : k < k0_t1_loop.trips := by rw [trips_eq]; omega
    rw [pieces_succ c i arg3 harg3 arg4 harg4 arg5 harg5 arg6 harg6 arg7 harg7 arg8 harg8 arg9 harg9 arg10 harg10 arg11 harg11 arg12 harg12 h1 x sc sh g ⟨k, hlt⟩]
    have hoff := off2_eq ⟨k, hlt⟩
    by_cases hlow : (y 0).val < 16 * k
    · obtain ⟨⟨p, hp, hyp⟩, hc⟩ := ih (by omega) hlow
      refine ⟨⟨p, List.mem_cons_of_mem _ hp, hyp⟩, ?_⟩
      rw [View.canon_cons_of_not_mem _ _ (fun hm => ?_)]
      · exact hc
      · have := (Rect.mem_set_unit (inb := k0_off2_inb i ⟨k, hlt⟩ h1).mp hm (0 : Fin 2)).1
        rw [hoff] at this
        have h' : 16 * k ≤ (y 0).val := this
        omega
    · have hr : (y 0).val - 16 * k < 16 := by omega
      have he : (Rect.unit (s := S128x2048) (k0_off2 ⟨k, hlt⟩) S16x2048.size (k0_off2_inb i ⟨k, hlt⟩ h1)).emb (ix2 (⟨(y 0).val - 16 * k, hr⟩ : Fin 16) (y 1)) = y := by
        funext a
        apply Fin.ext
        rw [Rect.emb_apply]
        refine (congrArg (· + 1 * ((ix2 (⟨(y 0).val - 16 * k, hr⟩ : Fin 16) (y 1)) a).val) (congrFun hoff a)).trans ?_
        fin_cases a
        · show 16 * k + 1 * ((y 0).val - 16 * k) = (y 0).val
          omega
        · show 0 + 1 * (y 1).val = (y 1).val
          omega
      refine ⟨⟨_, List.mem_cons_self, ?_⟩, ?_⟩
      · show y ∈ (Rect.unit (s := S128x2048) (k0_off2 ⟨k, hlt⟩) S16x2048.size (k0_off2_inb i ⟨k, hlt⟩ h1)).set
        refine Rect.mem_set_unit.mpr fun a => ?_
        rw [hoff]
        fin_cases a
        · show 16 * k ≤ (y 0).val ∧ (y 0).val < 16 * k + 16
          omega
        · show 0 ≤ (y 1).val ∧ (y 1).val < 0 + 2048
          have : (y 1).val < 2048 := (y 1).isLt
          omega
      · refine (congrArg _ he.symm).trans ((View.canon_cons_emb _ _ _ _).trans ?_)
        exact group_apply i arg3 harg3 arg4 harg4 arg5 harg5 h1 x sc sh g ⟨k, hlt⟩ y ⟨(y 0).val - 16 * k, hr⟩ (by show _ = 16 * k + ((y 0).val - 16 * k); omega)

/-- The scratch buffer after the loop, read: the tile's normalized rows. -/
theorem read_pieces (f : arg12.view.ty.Contents (Elt F)) :
    arg12.view.read (Elt F) (arg12.view.writes (Elt F) f
      (pieces c i arg3 harg3 arg4 harg4 arg5 harg5 arg6 harg6 arg7 harg7 arg8 harg8 arg9 harg9 arg10 harg10 arg11 harg11 arg12 harg12 h1 x sc sh g k0_t1_loop.trips))
      = hTile x sc sh g := by
  rw [trips_eq]
  have h := fun y : S128x2048.Idx => pieces_apply c i arg3 harg3 arg4 harg4 arg5 harg5 arg6 harg6 arg7 harg7 arg8 harg8 arg9 harg9 arg10 harg10 arg11 harg11 arg12 harg12 h1
    x sc sh g 8 le_rfl y (by have : (y 0).val < 128 := (y 0).isLt; omega)
  rw [View.read_writes_eq_canon _ _ _ fun y => (h y).1]
  exact funext fun y => (h y).2

end

end Cert.Kernel6Ideal.In

end
-- ==== Proof.InRun6.lean ====
/-
  The stick-breaking layer's input projection on the sample batch at one point of the grid: what the body leaves in the buffers, in the five
  cases of its conditions. The first step normalizes the tile into the scratch buffer; every step
  multiplies the scratch buffer by the step's columns of the weights and stores the product into the output of the step.
-/
module

public import proofs.«01_k».proof.Proof.InTile6

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A store of a whole buffer, read back. -/
theorem read_store_whole {S : Shape} {e : EltTy} (m : Memref sig .tc .vmem S e) (f : m.view.ty.Contents (Elt F)) (off : Fin S.rank → ℕ)
    (hoff : off = fun _ => 0) (inb : ∀ a, off a + S.size a ≤ S.size a) (X : Vec F S e) :
    m.view.read (Elt F) (m.view.writes (Elt F) f [⟨Rect.unit (s := S) off S.size inb, X⟩]) = X := by
  rw [View.read_writes_eq_canon _ _ _ fun y => ⟨_, List.mem_singleton_self _, by subst hoff; exact (Rect.mem_set_unit (s := S) (inb := inb)).mpr fun a => ⟨Nat.zero_le _, (Nat.zero_add (S.size a)).symm ▸ (y a).isLt⟩⟩]
  exact View.canon_unit_zero hoff inb X

variable (c : Dev nD) (i : grid0.Coords)
  (arg3 : Memref sig .tc .vmem S1x128x2048 .f32) (harg3 : arg3.IsWhole) (arg4 : Memref sig .tc .vmem S1x128x2048 .f32) (harg4 : arg4.IsWhole)
  (arg5 : Memref sig .tc .vmem S1x128x2048 .f32) (harg5 : arg5.IsWhole) (arg6 : Memref sig .tc .vmem S1x2048 .f32) (harg6 : arg6.IsWhole)
  (arg7 : Memref sig .tc .vmem S2048x512 .bf16) (harg7 : arg7.IsWhole) (arg8 : Memref sig .tc .vmem S1x128x512 .bf16) (harg8 : arg8.IsWhole)
  (arg9 : Memref sig .tc .vmem S1x128x512 .f32) (harg9 : arg9.IsWhole) (arg10 : Memref sig .tc .vmem S1x128x512 .f32) (harg10 : arg10.IsWhole)
  (arg11 : Memref sig .tc .vmem S1x128x512 .bf16) (harg11 : arg11.IsWhole) (arg12 : Memref sig .tc .vmem S128x2048 .bf16) (harg12 : arg12.IsWhole)
  (x : Vec F S1x128x2048 .f32) (sc sh : Vec F S1x128x2048 .f32) (g : Vec F S1x2048 .f32) (w : Vec F S2048x512 .bf16)

set_option maxHeartbeats 1000000 in
/-- The first step of a tile: the scratch buffer takes the normalized rows, the first output their product. -/
theorem run_A (hc1 : k0_cond1 i = 1#1) (hc2 : k0_cond2 i = 1#1) (hc3 : ¬k0_cond3 i = 1#1) (hc4 : ¬k0_cond4 i = 1#1) (hc5 : ¬k0_cond5 i = 1#1) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ (∃ d, owns (c : Thread nD τ) arg12 fullShare d) ∗ (∃ d, owns (c : Thread nD τ) arg8 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare (hTile x sc sh g) ∗ owns (c : Thread nD τ) arg8 fullShare (k0_pay3 (hTile x sc sh g) w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  have hs := read_pieces c i arg3 harg3 arg4 harg4 arg5 harg5 arg6 harg6 arg7 harg7 arg8 harg8 arg9 harg9 arg10 harg10 arg11 harg11 arg12 harg12 hc1 x sc sh g f5
  isplitl [H5]
  · iexists _; isplitr
    swap; · iexact H5
    ipureintro; exact hs
  iexists _; isplitr
  swap; · iexact H6
  ipureintro
  refine (read_store_whole arg8 _ _ hz3 _ _).trans ?_
  rw [load_whole arg7 harg7 w _ hz2]
  refine congrArg (k0_pay3 · w) ?_
  sl_unfold_words
  rw [View.readAt_eq_ld, View.ld_unit_zero (S := S128x2048) hz2]
  exact hs

set_option maxHeartbeats 1000000 in
/-- A later step of the first output: the product of the scratch buffer. -/
theorem run_B (hc1 : ¬k0_cond1 i = 1#1) (hc2 : k0_cond2 i = 1#1) (hc3 : ¬k0_cond3 i = 1#1) (hc4 : ¬k0_cond4 i = 1#1) (hc5 : ¬k0_cond5 i = 1#1) (H : Vec F S128x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg8 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg8 fullShare (k0_pay3 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg8 _ _ hz3 _ _).trans ?_
  rw [load_whole arg7 harg7 w _ hz2]
  rw [load_whole arg12 harg12 H _ hz2]

set_option maxHeartbeats 1000000 in
/-- A step of the second output. -/
theorem run_C (hc1 : ¬k0_cond1 i = 1#1) (hc2 : ¬k0_cond2 i = 1#1) (hc3 : k0_cond3 i = 1#1) (hc4 : ¬k0_cond4 i = 1#1) (hc5 : ¬k0_cond5 i = 1#1) (H : Vec F S128x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg9 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg9 fullShare (k0_pay4 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg9 _ _ hz3 _ _).trans ?_
  rw [load_whole arg7 harg7 w _ hz2]
  rw [load_whole arg12 harg12 H _ hz2]

set_option maxHeartbeats 1000000 in
/-- A step of the third output. -/
theorem run_D (hc1 : ¬k0_cond1 i = 1#1) (hc2 : ¬k0_cond2 i = 1#1) (hc3 : ¬k0_cond3 i = 1#1) (hc4 : k0_cond4 i = 1#1) (hc5 : ¬k0_cond5 i = 1#1) (H : Vec F S128x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg10 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg10 fullShare (k0_pay5 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg10 _ _ hz3 _ _).trans ?_
  rw [load_whole arg7 harg7 w _ hz2]
  rw [load_whole arg12 harg12 H _ hz2]

set_option maxHeartbeats 1000000 in
/-- A step of the fourth output. -/
theorem run_E (hc1 : ¬k0_cond1 i = 1#1) (hc2 : ¬k0_cond2 i = 1#1) (hc3 : ¬k0_cond3 i = 1#1) (hc4 : ¬k0_cond4 i = 1#1) (hc5 : k0_cond5 i = 1#1) (H : Vec F S128x2048 .bf16) (E : Set ℕ) (K : PUnit → sProp (MT nD τ sig Unit (Elt F) ℕ (UR sig nD τ) ℕ)) :
    iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
        ∗ owns (c : Thread nD τ) arg12 fullShare H ∗ (∃ d, owns (c : Thread nD τ) arg11 fullShare d)
        ∗ (iprop(owns (c : Thread nD τ) arg3 fullShare x ∗ owns (c : Thread nD τ) arg4 fullShare sc ∗ owns (c : Thread nD τ) arg5 fullShare sh ∗ owns (c : Thread nD τ) arg6 fullShare g ∗ owns (c : Thread nD τ) arg7 fullShare w
            ∗ owns (c : Thread nD τ) arg12 fullShare H ∗ owns (c : Thread nD τ) arg11 fullShare (k0_pay6 H w)) -∗ K ⟨⟩))
      ⊢ wp frame (wpE (defs₀ (F := F)) Variants.none c none) E (cc0_inproj i arg3 harg3 arg4 harg4 arg5 harg5 arg6 harg6 arg7 harg7 arg8 harg8 arg9 harg9 arg10 harg10 arg11 harg11 arg12 harg12) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg3.eq_unread hf0; obtain rfl := harg4.eq_unread hf1; obtain rfl := harg5.eq_unread hf2; obtain rfl := harg6.eq_unread hf3; obtain rfl := harg7.eq_unread hf4; obtain rfl := harg12.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg12.read_unread _
    iexact H5
  iexists _; isplitr
  swap; · iexact H6
  ipureintro
  refine (read_store_whole arg11 _ _ hz3 _ _).trans ?_
  rw [load_whole arg7 harg7 w _ hz2]
  rw [load_whole arg12 harg12 H _ hz2]

end Cert.Kernel6Ideal.In

end
-- ==== Proof.InFrame6.lean ====
/-
  The stick-breaking layer's input projection on the sample batch on its grid: what each buffer holds point by point, the body at every point
  of the grid, the run of the whole call, and that it changes no argument.

  The batch's 128 rows are one tile, of 16 steps. The first four store the blocks of the first output, the next four those of the second,
  and so on. An output's buffer is written back when its block changes and after the tile's last step; the last step is
  no step of the first three outputs, and what is written back then is what the output's own last step left.
-/
module

public import proofs.«01_k».proof.Proof.InRun6
public import Idealize.ShloMosaic.Lib.Pipeline.TableIdle
public import Idealize.ShloMosaic.Lib.Claim

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The schedule -/

theorem cond1_iff : ∀ t : Fin cfg0.N, k0_cond1 (grid0.coords t) = 1#1 ↔ t.val % 16 = 0 :=
  (by decide +kernel : ∀ t : Fin grid0.N, k0_cond1 (grid0.coords t) = 1#1 ↔ t.val % 16 = 0)
theorem cond2_iff : ∀ t : Fin cfg0.N, k0_cond2 (grid0.coords t) = 1#1 ↔ t.val % 16 < 4 :=
  (by decide +kernel : ∀ t : Fin grid0.N, k0_cond2 (grid0.coords t) = 1#1 ↔ t.val % 16 < 4)
theorem cond3_iff : ∀ t : Fin cfg0.N, k0_cond3 (grid0.coords t) = 1#1 ↔ 4 ≤ t.val % 16 ∧ t.val % 16 < 8 :=
  (by decide +kernel : ∀ t : Fin grid0.N, k0_cond3 (grid0.coords t) = 1#1 ↔ 4 ≤ t.val % 16 ∧ t.val % 16 < 8)
theorem cond4_iff : ∀ t : Fin cfg0.N, k0_cond4 (grid0.coords t) = 1#1 ↔ 8 ≤ t.val % 16 ∧ t.val % 16 < 12 :=
  (by decide +kernel : ∀ t : Fin grid0.N, k0_cond4 (grid0.coords t) = 1#1 ↔ 8 ≤ t.val % 16 ∧ t.val % 16 < 12)
theorem cond5_iff : ∀ t : Fin cfg0.N, k0_cond5 (grid0.coords t) = 1#1 ↔ 12 ≤ t.val % 16 :=
  (by decide +kernel : ∀ t : Fin grid0.N, k0_cond5 (grid0.coords t) = 1#1 ↔ 12 ≤ t.val % 16)

theorem idle5 : ∀ t : Fin cfg0.N, cfg0.idle 5 (cfg0.grid.coords t) = !decide (t.val % 16 < 4) :=
  (by decide +kernel : ∀ t : Fin grid0.N, idle0 5 (grid0.coords t) = !decide (t.val % 16 < 4))
theorem idle6 : ∀ t : Fin cfg0.N, cfg0.idle 6 (cfg0.grid.coords t) = !decide (4 ≤ t.val % 16 ∧ t.val % 16 < 8) :=
  (by decide +kernel : ∀ t : Fin grid0.N, idle0 6 (grid0.coords t) = !decide (4 ≤ t.val % 16 ∧ t.val % 16 < 8))
theorem idle7 : ∀ t : Fin cfg0.N, cfg0.idle 7 (cfg0.grid.coords t) = !decide (8 ≤ t.val % 16 ∧ t.val % 16 < 12) :=
  (by decide +kernel : ∀ t : Fin grid0.N, idle0 7 (grid0.coords t) = !decide (8 ≤ t.val % 16 ∧ t.val % 16 < 12))
theorem idle8 : ∀ t : Fin cfg0.N, cfg0.idle 8 (cfg0.grid.coords t) = !decide (12 ≤ t.val % 16) :=
  (by decide +kernel : ∀ t : Fin grid0.N, idle0 8 (grid0.coords t) = !decide (12 ≤ t.val % 16))

theorem flush5 : ∀ t : Fin cfg0.N, (cfg0.win 5).flush t = decide (t.val % 16 < 3 ∨ t.val % 16 = 15) :=
  (by decide +kernel : ∀ t : Fin grid0.N, win0_5.flush t = decide (t.val % 16 < 3 ∨ t.val % 16 = 15))
theorem flush6 : ∀ t : Fin cfg0.N, (cfg0.win 6).flush t = decide ((4 ≤ t.val % 16 ∧ t.val % 16 < 7) ∨ t.val % 16 = 15) :=
  (by decide +kernel : ∀ t : Fin grid0.N, win0_6.flush t = decide ((4 ≤ t.val % 16 ∧ t.val % 16 < 7) ∨ t.val % 16 = 15))
theorem flush7 : ∀ t : Fin cfg0.N, (cfg0.win 7).flush t = decide ((8 ≤ t.val % 16 ∧ t.val % 16 < 11) ∨ t.val % 16 = 15) :=
  (by decide +kernel : ∀ t : Fin grid0.N, win0_7.flush t = decide ((8 ≤ t.val % 16 ∧ t.val % 16 < 11) ∨ t.val % 16 = 15))
theorem flush8 : ∀ t : Fin cfg0.N, (cfg0.win 8).flush t = decide (12 ≤ t.val % 16) :=
  (by decide +kernel : ∀ t : Fin grid0.N, win0_8.flush t = decide (12 ≤ t.val % 16))

theorem lt16 (t : Fin cfg0.N) : t.val < 16 := N_0 ▸ t.isLt

/-- The first point of a point's tile. -/
def base (t : Fin cfg0.N) : Fin cfg0.N := ⟨16 * (t.val / 16), by have := t.isLt; omega⟩

/-- The point of the tile nearest to `t` among the four steps from step `f`. -/
def near (f : Fin 13) (t : Fin cfg0.N) : Fin cfg0.N :=
  ⟨16 * (t.val / 16) + min (max (t.val % 16) f.val) (f.val + 3), by have h := lt16 t; have := f.isLt; have e : cfg0.N = 16 := N_0; omega⟩

theorem near_of_live (f : Fin 13) (t : Fin cfg0.N) (h : f.val ≤ t.val % 16) (h' : t.val % 16 ≤ f.val + 3) : near f t = t :=
  Fin.ext (by show 16 * (t.val / 16) + min (max (t.val % 16) f.val) (f.val + 3) = t.val; omega)

theorem near_prev (f : Fin 13) (t : Fin cfg0.N) (h : f.val + 4 ≤ t.val % 16) : near f t = near f ⟨t.val - 1, by omega⟩ :=
  Fin.ext (by
    show 16 * (t.val / 16) + min (max (t.val % 16) f.val) (f.val + 3) = 16 * ((t.val - 1) / 16) + min (max ((t.val - 1) % 16) f.val) (f.val + 3)
    omega)

theorem base_of_first (t : Fin cfg0.N) (h : t.val % 16 = 0) : base t = t := Fin.ext (by show 16 * (t.val / 16) = t.val; omega)

theorem base_prev (t : Fin cfg0.N) (h : t.val % 16 ≠ 0) : base ⟨t.val - 1, by omega⟩ = base t :=
  Fin.ext (by show 16 * ((t.val - 1) / 16) = 16 * (t.val / 16); omega)

/-! ## The buffers point by point -/

/-- The scratch buffer during a point's tile: the tile's normalized rows. -/
def rows (c : Dev nD) (t : Fin cfg0.N) : Vec F S128x2048 .bf16 :=
  hTile (iblk m c 0 (base t)) (iblk m c 1 (base t)) (iblk m c 2 (base t)) (iblk m c 3 (base t))

def out5 (c : Dev nD) (t : Fin cfg0.N) : Vec F S1x128x512 .bf16 := k0_pay3 (rows m c t) (iblk m c 4 t)
def out6 (c : Dev nD) (t : Fin cfg0.N) : Vec F S1x128x512 .f32 := k0_pay4 (rows m c t) (iblk m c 4 t)
def out7 (c : Dev nD) (t : Fin cfg0.N) : Vec F S1x128x512 .f32 := k0_pay5 (rows m c t) (iblk m c 4 t)
def out8 (c : Dev nD) (t : Fin cfg0.N) : Vec F S1x128x512 .bf16 := k0_pay6 (rows m c t) (iblk m c 4 t)

/-- What holds before point `n`: between tiles the scratch buffer at anything, inside one at the tile's rows. -/
def inv (c : Dev nD) (n : Fin (cfg0.N + 1)) : sProp (MT nD τ sig Unit (Elt F) ℕ (UR sig nD τ) ℕ) :=
  if h : n.val % 16 = 0 then Pipeline.ΦA spec0 c
  else iprop(owns (c : Thread nD τ) (Memref.whole cc0_scratch0) fullShare (rows m c ⟨n.val - 1, by have := n.isLt; omega⟩) ∗ ∃ r, prngReg c r)

/-- The data of the call: the arrays as it finds them, the buffers after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c (near 0 t)
    | ⟨6, _⟩ => out6 m c (near 4 t)
    | ⟨7, _⟩ => out7 m c (near 8 t)
    | ⟨8, _⟩ => out8 m c (near 12 t)
  Φ n := inv m c n
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c (near 0 t) := by dsimp only [dats]
theorem after0_6 (c : Dev nD) (t : Fin cfg0.N) : (dats m 0 c).after 6 t = out6 m c (near 4 t) := by dsimp only [dats]
theorem after0_7 (c : Dev nD) (t : Fin cfg0.N) : (dats m 0 c).after 7 t = out7 m c (near 8 t) := by dsimp only [dats]
theorem after0_8 (c : Dev nD) (t : Fin cfg0.N) : (dats m 0 c).after 8 t = out8 m c (near 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## An output's buffer at its own steps and at the others' -/

theorem fresh5 (n : ℕ) (hn : n ≤ cfg0.N) : cfg0.fresh 5 n = decide (n % 16 ≤ 3) :=
  cfg0.fresh_tab 5 (fun n => decide (n % 16 ≤ 3)) rfl (fun t => by
    rw [flush5, idle5, Bool.eq_iff_iff]; simp only [Bool.or_eq_true, Bool.and_eq_true, Bool.not_eq_true', decide_eq_true_eq, decide_eq_false_iff_not]; omega) n hn
theorem fresh6 (n : ℕ) (hn : n ≤ cfg0.N) : cfg0.fresh 6 n = decide (n % 16 ≤ 7) :=
  cfg0.fresh_tab 6 (fun n => decide (n % 16 ≤ 7)) rfl (fun t => by
    rw [flush6, idle6, Bool.eq_iff_iff]; simp only [Bool.or_eq_true, Bool.and_eq_true, Bool.not_eq_true', decide_eq_true_eq, decide_eq_false_iff_not]; omega) n hn
theorem fresh7 (n : ℕ) (hn : n ≤ cfg0.N) : cfg0.fresh 7 n = decide (n % 16 ≤ 11) :=
  cfg0.fresh_tab 7 (fun n => decide (n % 16 ≤ 11)) rfl (fun t => by
    rw [flush7, idle7, Bool.eq_iff_iff]; simp only [Bool.or_eq_true, Bool.and_eq_true, Bool.not_eq_true', decide_eq_true_eq, decide_eq_false_iff_not]; omega) n hn

theorem carry5 (c : Dev nD) (t : Fin cfg0.N) (h : 4 ≤ t.val % 16) (d) : (dats m 0 c).before 5 t d = (dats m 0 c).after 5 t := by
  have hc : ∀ (t : Fin cfg0.N), 4 ≤ t.val % 16 → (dats m 0 c).after 5 t = (dats m 0 c).after 5 ⟨t.val - 1, by omega⟩ := fun t h => by
    rw [after0_5, after0_5, near_prev 0 t h]
  rw [(dats m 0 c).before_out_traj 5 rfl (fun _ _ => rfl) (fun t _ _ hf => hc t (by
    rw [fresh5 _ t.isLt.le, decide_eq_false_iff_not] at hf; omega)) t.val t rfl d, fresh5 _ t.isLt.le, if_neg (by simp only [decide_eq_true_eq]; omega)]
  exact (hc t h).symm
theorem carry6 (c : Dev nD) (t : Fin cfg0.N) (h : 8 ≤ t.val % 16) (d) : (dats m 0 c).before 6 t d = (dats m 0 c).after 6 t := by
  have hc : ∀ (t : Fin cfg0.N), 8 ≤ t.val % 16 → (dats m 0 c).after 6 t = (dats m 0 c).after 6 ⟨t.val - 1, by omega⟩ := fun t h => by
    rw [after0_6, after0_6, near_prev 4 t h]
  rw [(dats m 0 c).before_out_traj 6 rfl (fun _ _ => rfl) (fun t _ _ hf => hc t (by
    rw [fresh6 _ t.isLt.le, decide_eq_false_iff_not] at hf; omega)) t.val t rfl d, fresh6 _ t.isLt.le, if_neg (by simp only [decide_eq_true_eq]; omega)]
  exact (hc t h).symm
theorem carry7 (c : Dev nD) (t : Fin cfg0.N) (h : 12 ≤ t.val % 16) (d) : (dats m 0 c).before 7 t d = (dats m 0 c).after 7 t := by
  have hc : ∀ (t : Fin cfg0.N), 12 ≤ t.val % 16 → (dats m 0 c).after 7 t = (dats m 0 c).after 7 ⟨t.val - 1, by omega⟩ := fun t h => by
    rw [after0_7, after0_7, near_prev 8 t h]
  rw [(dats m 0 c).before_out_traj 7 rfl (fun _ _ => rfl) (fun t _ _ hf => hc t (by
    rw [fresh7 _ t.isLt.le, decide_eq_false_iff_not] at hf; omega)) t.val t rfl d, fresh7 _ t.isLt.le, if_neg (by simp only [decide_eq_true_eq]; omega)]
  exact (hc t h).symm

/-- At another output's step the buffer is handed back: at anything, or, where it is written back, at what it was left at. -/
theorem leaves_idle (c : Dev nD) (w : Fin cfg0.W) (t : Fin cfg0.N) (hi : cfg0.idle w (cfg0.grid.coords t) = true)
    (hb : (cfg0.win w).flush t = true → ∀ d, (dats m 0 c).before w t d = (dats m 0 c).after w t) :
    iprop(∃ d, owns (c : Thread nD τ) ((cfg0.win w).stage (cfg0.slots t w)) fullShare ((dats m 0 c).before w t d)) ⊢ ((dats m 0 c).leavesExact w t : sProp (MT nD τ sig Unit (Elt F) ℕ (UR sig nD τ) ℕ)) := by
  cases hf : (cfg0.win w).flush t with
  | false => rw [(dats m 0 c).leavesExact_idle w t hi hf]
  | true =>
    unfold Dat.leavesExact
    rw [hi, hf]
    iintro ⟨%d, H⟩
    rw [hb hf d]
    iexact H

/-- At the output's own step: at what the step stores. -/
theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ ((dats m 0 c).leavesExact w t : sProp (MT nD τ sig Unit (Elt F) ℕ (UR sig nD τ) ℕ)) := by
  unfold Dat.leavesExact
  rw [hi]

theorem skip5 (c : Dev nD) (t : Fin cfg0.N) (h : ¬ t.val % 16 < 4) :
    iprop(∃ d, owns (c : Thread nD τ) (st0_5 t) fullShare ((dats m 0 c).before 5 t d)) ⊢ ((dats m 0 c).leavesExact 5 t : sProp (MT nD τ sig Unit (Elt F) ℕ (UR sig nD τ) ℕ)) :=
  leaves_idle m c 5 t (by rw [idle5]; simp [h]) fun _ d => carry5 m c t (by omega) d
theorem skip6 (c : Dev nD) (t : Fin cfg0.N) (h : ¬ (4 ≤ t.val % 16 ∧ t.val % 16 < 8)) :
    iprop(∃ d, owns (c : Thread nD τ) (st0_6 t) fullShare ((dats m 0 c).before 6 t d)) ⊢ ((dats m 0 c).leavesExact 6 t : sProp (MT nD τ sig Unit (Elt F) ℕ (UR sig nD τ) ℕ)) :=
  leaves_idle m c 6 t (by rw [idle6, decide_eq_false h]; rfl) fun hf d => carry6 m c t (by rw [flush6, decide_eq_true_eq] at hf; omega) d
theorem skip7 (c : Dev nD) (t : Fin cfg0.N) (h : ¬ (8 ≤ t.val % 16 ∧ t.val % 16 < 12)) :
    iprop(∃ d, owns (c : Thread nD τ) (st0_7 t) fullShare ((dats m 0 c).before 7 t d)) ⊢ ((dats m 0 c).leavesExact 7 t : sProp (MT nD τ sig Unit (Elt F) ℕ (UR sig nD τ) ℕ)) :=
  leaves_idle m c 7 t (by rw [idle7, decide_eq_false h]; rfl) fun hf d => carry7 m c t (by rw [flush7, decide_eq_true_eq] at hf; omega) d
theorem skip8 (c : Dev nD) (t : Fin cfg0.N) (h : ¬ 12 ≤ t.val % 16) :
    iprop(∃ d, owns (c : Thread nD τ) (st0_8 t) fullShare ((dats m 0 c).before 8 t d)) ⊢ ((dats m 0 c).leavesExact 8 t : sProp (MT nD τ sig Unit (Elt F) ℕ (UR sig nD τ) ℕ)) :=
  leaves_idle m c 8 t (by rw [idle8, decide_eq_false h]; rfl) fun hf d => absurd (by rw [flush8, decide_eq_true_eq] at hf; exact hf) h

/-! ## What holds between points -/

theorem inv_first (c : Dev nD) (n : Fin (cfg0.N + 1)) (h : n.val % 16 = 0) : (inv m c n : sProp (MT nD τ sig Unit (Elt F) ℕ (UR sig nD τ) ℕ)) = Pipeline.ΦA spec0 c := by
  unfold inv; rw [dif_pos h]

theorem inv_inner (c : Dev nD) (n : Fin (cfg0.N + 1)) (t : Fin cfg0.N) (h : n.val % 16 ≠ 0) (ht : base ⟨n.val - 1, by have := n.isLt; omega⟩ = base t) :
    (inv m c n : sProp (MT nD τ sig Unit (Elt F) ℕ (UR sig nD τ) ℕ)) = iprop(owns (c : Thread nD τ) (Memref.whole cc0_scratch0) fullShare (rows m c t) ∗ ∃ r, prngReg c r) := by
  unfold inv; rw [dif_neg h]
  unfold rows
  rw [ht]

theorem open_first (c : Dev nD) : (Pipeline.ΦA spec0 c : sProp (MT nD τ sig Unit (Elt F) ℕ (UR sig nD τ) ℕ)) = iprop((∃ d, owns (c : Thread nD τ) (Memref.whole cc0_scratch0) fullShare d) ∗ ∃ r, prngReg c r) := by
  unfold Pipeline.ΦA
  rw [scopedRest0_eq c]
  rw [(Memref.isWhole_whole cc0_scratch0).exists_owns_eq]

end Cert.Kernel6Ideal.In

end
-- ==== Proof.InBody6.lean ====
/-
  The stick-breaking layer's input projection on the sample batch: the body at every point of the grid, the run of the whole call, and that it
  changes no argument.
-/
module

public import proofs.«01_k».proof.Proof.InFrame6

@[expose] public section

set_option maxRecDepth 16384

noncomputable section

namespace Cert.Kernel6Ideal.In

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## The invariant at a point -/

theorem rows_first (c : Dev nD) (t : Fin cfg0.N) (h : t.val % 16 = 0) :
    hTile (iblk m c 0 t) (iblk m c 1 t) (iblk m c 2 t) (iblk m c 3 t) = rows m c t := by
  unfold rows; rw [base_of_first t h]

/-- Inside a tile the body finds the scratch buffer at the tile's rows. -/
theorem inv_open (c : Dev nD) (t : Fin cfg0.N) (h : t.val % 16 ≠ 0) :
    (inv m c t.castSucc : sProp (MT nD τ sig Unit (Elt F) ℕ (UR sig nD τ) ℕ)) = iprop(owns (c : Thread nD τ) (Memref.whole cc0_scratch0) fullShare (rows m c t) ∗ ∃ r, prngReg c r) :=
  inv_inner m c t.castSucc t h (base_prev t h)

/-- And leaves it there, or, after the tile's last step, at anything. -/
theorem inv_close (c : Dev nD) (t : Fin cfg0.N) :
    iprop(owns (c : Thread nD τ) (Memref.whole cc0_scratch0) fullShare (rows m c t) ∗ ∃ r, prngReg c r) ⊢ (inv m c t.succ : sProp (MT nD τ sig Unit (Elt F) ℕ (UR sig nD τ) ℕ)) := by
  by_cases h : t.succ.val % 16 = 0
  · rw [inv_first m c t.succ h, open_first c]
    iintro ⟨H, Hr⟩
    isplitl [H]
    · iexists _; iexact H
    iexact Hr
  · rw [inv_inner m c t.succ t h rfl]

/-! ## The body -/

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t
    ∗ (dats m 0 c).leavesExact 7 t
    ∗ (dats m 0 c).leavesExact 8 t)

/-- The body at the first step of a tile. -/
theorem sound_A (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_first m c t.castSucc h, open_first c]
  iintro ⟨⟨Hs, Hr⟩, Ho, ⟨%d0, H0⟩, ⟨%d1, H1⟩, ⟨%d2, H2⟩, ⟨%d3, H3⟩, ⟨%d4, H4⟩, ⟨%d5, H5⟩, H6, H7, H8⟩
  iapply (run_A c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) Set.univ _)
  isplitl [H0]; · iexact H0
  isplitl [H1]; · iexact H1
  isplitl [H2]; · iexact H2
  isplitl [H3]; · iexact H3
  isplitl [H4]; · iexact H4
  isplitl [Hs]; · iexact Hs
  isplitl [H5]; · iexists _; iexact H5
  iintro ⟨H0, H1, H2, H3, H4, Hs, H5⟩
  rw [rows_first m c t h]
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_live m c 5 t (by rw [idle5, decide_eq_true (by omega)]; rfl))
    rw [after0_5, near_of_live 0 t (by show 0 ≤ _; omega) (by show _ ≤ 0 + 3; omega)]
    iexact H5
  isplitl [H6]
  · iapply (skip6 m c t (by omega))
    iexact H6
  isplitl [H7]
  · iapply (skip7 m c t (by omega))
    iexact H7
  iapply (skip8 m c t (by omega))
  iexact H8

/-- The body at the steps of the first output. -/
theorem sound_B (c : Dev nD) (t : Fin cfg0.N) (h : t.val % 16 ≠ 0) (h' : t.val % 16 < 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, ⟨%d5, H5⟩, H6, H7, H8⟩
  iapply (run_B c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H5]; · iexists _; iexact H5
  iintro ⟨H0, H1, H2, H3, H4, Hs, H5⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_live m c 5 t (by rw [idle5, decide_eq_true (by omega)]; rfl))
    rw [after0_5, near_of_live 0 t (by show 0 ≤ _; omega) (by show _ ≤ 0 + 3; omega)]
    iexact H5
  isplitl [H6]
  · iapply (skip6 m c t (by omega))
    iexact H6
  isplitl [H7]
  · iapply (skip7 m c t (by omega))
    iexact H7
  iapply (skip8 m c t (by omega))
  iexact H8

/-- The body at the steps of the second output. -/
theorem sound_C (c : Dev nD) (t : Fin cfg0.N) (h : 4 ≤ t.val % 16) (h' : t.val % 16 < 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, H5, ⟨%d6, H6⟩, H7, H8⟩
  iapply (run_C c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H6]; · iexists _; iexact H6
  iintro ⟨H0, H1, H2, H3, H4, Hs, H6⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (skip5 m c t (by omega))
    iexact H5
  isplitl [H6]
  · iapply (leaves_live m c 6 t (by rw [idle6, decide_eq_true (by omega)]; rfl))
    rw [after0_6, near_of_live 4 t (by show 4 ≤ _; omega) (by show _ ≤ 4 + 3; omega)]
    iexact H6
  isplitl [H7]
  · iapply (skip7 m c t (by omega))
    iexact H7
  iapply (skip8 m c t (by omega))
  iexact H8

/-- The body at the steps of the third output. -/
theorem sound_D (c : Dev nD) (t : Fin cfg0.N) (h : 8 ≤ t.val % 16) (h' : t.val % 16 < 12) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, H5, H6, ⟨%d7, H7⟩, H8⟩
  iapply (run_D c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H7]; · iexists _; iexact H7
  iintro ⟨H0, H1, H2, H3, H4, Hs, H7⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (skip5 m c t (by omega))
    iexact H5
  isplitl [H6]
  · iapply (skip6 m c t (by omega))
    iexact H6
  isplitl [H7]
  · iapply (leaves_live m c 7 t (by rw [idle7, decide_eq_true (by omega)]; rfl))
    rw [after0_7, near_of_live 8 t (by show 8 ≤ _; omega) (by show _ ≤ 8 + 3; omega)]
    iexact H7
  iapply (skip8 m c t (by omega))
  iexact H8

/-- The body at the steps of the fourth output. -/
theorem sound_E (c : Dev nD) (t : Fin cfg0.N) (h : 12 ≤ t.val % 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.castSucc = inv m c t.castSucc from rfl, show (dats m 0 c).Φ t.succ = inv m c t.succ from rfl,
    show (dats m 0 c).owesAt () t.succ = (dats m 0 c).owesAt () t.castSucc from rfl,
    after0_0, after0_1, after0_2, after0_3, after0_4, inv_open m c t (by omega)]
  iintro ⟨⟨Hs, Hr⟩, Ho, ⟨%d0, H0⟩, ⟨%d1, H1⟩, ⟨%d2, H2⟩, ⟨%d3, H3⟩, ⟨%d4, H4⟩, H5, H6, H7, ⟨%d8, H8⟩⟩
  iapply (run_E c (grid0.coords t) _ _ _ _ _ _ _ _ _ _ _ _ _ _ _ _ _ _ _ _ (iblk m c 0 t) (iblk m c 1 t) (iblk m c 2 t) (iblk m c 3 t) (iblk m c 4 t)
    (by rw [cond1_iff]; omega) (by rw [cond2_iff]; omega) (by rw [cond3_iff]; omega) (by rw [cond4_iff]; omega) (by rw [cond5_iff]; omega) (rows m c t) Set.univ _)
  isplitl [H0]; · iexact H0
  isplitl [H1]; · iexact H1
  isplitl [H2]; · iexact H2
  isplitl [H3]; · iexact H3
  isplitl [H4]; · iexact H4
  isplitl [Hs]; · iexact Hs
  isplitl [H8]; · iexists _; iexact H8
  iintro ⟨H0, H1, H2, H3, H4, Hs, H8⟩
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]
  · iapply (skip5 m c t (by omega))
    iexact H5
  isplitl [H6]
  · iapply (skip6 m c t (by omega))
    iexact H6
  isplitl [H7]
  · iapply (skip7 m c t (by omega))
    iexact H7
  iapply (leaves_live m c 8 t (by rw [idle8, decide_eq_true (by omega)]; rfl))
  rw [after0_8, near_of_live 12 t (by show 12 ≤ _; omega) (by show _ ≤ 12 + 3; omega)]
  iexact H8

theorem sound_body (c : Dev nD) (t : Fin cfg0.N) :
    bodyPre m c t ⊢ wp frame (wpE (defs₀ (F := F)) Variants.none c none) Set.univ (bodyAt0 t) (fun _ => bodyPost m c t) := by
  by_cases h : t.val % 16 = 0
  · exact sound_A m c t h
  by_cases h4 : t.val % 16 < 4
  · exact sound_B m c t h h4
  by_cases h8 : t.val % 16 < 8
  · exact sound_C m c t (by omega) h8
  by_cases h12 : t.val % 16 < 12
  · exact sound_D m c t (by omega) h12
  exact sound_E m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_in (c : Dev nD) : (Pipeline.ΦA spec0 c : sProp (MT nD τ sig Unit (Elt F) ℕ (UR sig nD τ) ℕ)) ⊢ (dats m 0 c).Φ 0 := by
  rw [show (dats m 0 c).Φ 0 = inv m c 0 from rfl, inv_first m c 0 rfl]

theorem inv_out (c : Dev nD) : ((dats m 0 c).Φ (Fin.last cfg0.N) : sProp (MT nD τ sig Unit (Elt F) ℕ (UR sig nD τ) ℕ)) ⊢ Pipeline.ΦA spec0 c := by
  rw [show (dats m 0 c).Φ (Fin.last cfg0.N) = inv m c (Fin.last cfg0.N) from rfl,
    inv_first m c (Fin.last cfg0.N) (by show cfg0.N % 16 = 0; rw [show cfg0.N = 16 from N_0])]

set_option backward.isDefEq.respectTransparency.types false in
/-- The call runs to the end from any memory: its arrays end at what the points wrote, the other buffers as they were,
    every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hmain := hmain m Variants.none) (hA := A_eq m) (hin := inv_in m) (hout := inv_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The call ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel6Ideal.In

end
-- ==== Proof.InValue6.lean ====
/-
  The stick-breaking layer's input projection on the sample batch: the four result arrays, entry by entry, and the claim that they are the
  reference's.
-/
module

public import proofs.«01_k».proof.Defs
public import proofs.«01_k».proof.Proof.InBody6
public import proofs.«01_k».proof.Proof.Gen.Reference6Ideal.Run
public import Idealize.ShloMosaic.Lib.Pipeline.ValueKit.Geometry
public import Idealize.ShloMosaic.Lib.Pipeline.Covers
public import Idealize.ShloMosaic.Lib.Pointwise

@[expose] public section

noncomputable section

namespace Cert.In6

open Cert.Kernel6Ideal Cert.Kernel6Ideal.Gen Cert.Kernel6Ideal.In Idealize.ShloMosaic Idealize.SL.Sem
open Idealize.ShloMosaic.TcCoe

/-! ## The results -/

/-- A normalized entry of the layer's input, scaled and shifted. -/
def hid (X : S8x16x2048.Idx → EReal) (sc sh : S8x2048.Idx → EReal) (g : S2048.Idx → EReal) (b : Fin 8) (t : Fin 16) (k : Fin 2048) : EReal :=
  X (ix3 b t k) * Ideal.rsqrt (Ideal.div (∑ j : Fin 2048, X (ix3 b t j) * X (ix3 b t j)) (Ideal.ofBits .f32 0x45000000#32) + Ideal.ofBits .f32 0x358637BD#32)
    * g (ix1 k) * (Ideal.ofBits .f32 0x3F800000#32 + sc (ix2 b k)) + sh (ix2 b k)

/-- One entry of the product with the weights. -/
def proj (X : S8x16x2048.Idx → EReal) (sc sh : S8x2048.Idx → EReal) (g : S2048.Idx → EReal) (W : S2048x8192.Idx → EReal)
    (b : Fin 8) (t : Fin 16) (n : Fin 8192) : EReal :=
  ∑ k : Fin 2048, hid X sc sh g b t k * W (ix2 k n)

/-- A quarter of the product's columns. -/
def quarter (f : Fin 4) (X : S8x16x2048.Idx → EReal) (sc sh : S8x2048.Idx → EReal) (g : S2048.Idx → EReal) (W : S2048x8192.Idx → EReal) :
    S8x16x2048.Idx → EReal := fun i =>
  proj X sc sh g W (i 0) (i 1) ⟨2048 * f.val + (i 2).val, by have h : (i 2).val < 2048 := (i 2).isLt; have := f.isLt; omega⟩

/-- The first quarter over the root of a head's width. -/
def scaled (X : S8x16x2048.Idx → EReal) (sc sh : S8x2048.Idx → EReal) (g : S2048.Idx → EReal) (W : S2048x8192.Idx → EReal) :
    S8x16x2048.Idx → EReal := fun i => quarter 0 X sc sh g W i * (((Real.sqrt 128)⁻¹ : ℝ) : EReal)

/-! ## The payloads -/

set_option maxRecDepth 16384 in
theorem pay1_apply (x : Vec Ideal S1x16x2048 .f32) (g : Vec Ideal S1x2048 .f32) (sc sh : Vec Ideal S1x16x2048 .f32) (r : Fin 16) (k : Fin 2048) :
    k0_pay1 x g sc sh (ix2 r k)
      = x (ix3 (0 : Fin 1) r k) * Ideal.rsqrt (Ideal.div (∑ j : Fin 2048, x (ix3 (0 : Fin 1) r j) * x (ix3 (0 : Fin 1) r j)) (Ideal.ofBits .f32 0x45000000#32) + Ideal.ofBits .f32 0x358637BD#32)
          * g (ix2 (0 : Fin 1) k) * (Ideal.ofBits .f32 0x3F800000#32 + sc (ix3 (0 : Fin 1) r k)) + sh (ix3 (0 : Fin 1) r k) := by
  unfold k0_pay1
  pointwise

theorem pay3_apply (H : Vec Ideal S128x2048 .bf16) (w : Vec Ideal S2048x512 .bf16) (r : Fin 128) (j : Fin 512) :
    k0_pay3 H w (ix3 (0 : Fin 1) r j) = (∑ k : Fin 2048, H (ix2 r k) * w (ix2 k j)) * (((Real.sqrt 128)⁻¹ : ℝ) : EReal) := by
  unfold k0_pay3 k0_pay2
  rw [show Named.named (F := Ideal) κ "s" (φ := .f32) 0x3DB504F3#32 = (((Real.sqrt 128)⁻¹ : ℝ) : EReal) from IdealRules.named_const.ideal_named_scalar _ _ _ _ rfl]
  pointwise

theorem pay4_apply (H : Vec Ideal S128x2048 .bf16) (w : Vec Ideal S2048x512 .bf16) (r : Fin 128) (j : Fin 512) :
    k0_pay4 H w (ix3 (0 : Fin 1) r j) = ∑ k : Fin 2048, H (ix2 r k) * w (ix2 k j) := by
  unfold k0_pay4 k0_pay2
  pointwise

theorem pay5_apply (H : Vec Ideal S128x2048 .bf16) (w : Vec Ideal S2048x512 .bf16) (r : Fin 128) (j : Fin 512) :
    k0_pay5 H w (ix3 (0 : Fin 1) r j) = ∑ k : Fin 2048, H (ix2 r k) * w (ix2 k j) := by
  unfold k0_pay5 k0_pay2
  pointwise

theorem pay6_apply (H : Vec Ideal S128x2048 .bf16) (w : Vec Ideal S2048x512 .bf16) (r : Fin 128) (j : Fin 512) :
    k0_pay6 H w (ix3 (0 : Fin 1) r j) = ∑ k : Fin 2048, H (ix2 r k) * w (ix2 k j) := by
  unfold k0_pay6 k0_pay2
  pointwise

theorem rowsOf_apply (x : Vec Ideal S1x128x2048 .f32) (r : Fin 128) (k j : Fin 2048) :
    rowsOf x (ix2 r k) (ix3 (0 : Fin 1) (⟨r.val % 16, Nat.mod_lt _ (by decide)⟩ : Fin 16) j) = x (ix3 (0 : Fin 1) r j) :=
  congrArg (fun s : Fin 128 => x (ix3 (0 : Fin 1) s j)) (Fin.ext (by show 16 * (r.val / 16) + r.val % 16 = r.val; omega))

/-- A tile's normalized entry, from the tile's own row. -/
theorem hTile_apply (x sc sh : Vec Ideal S1x128x2048 .f32) (g : Vec Ideal S1x2048 .f32) (r : Fin 128) (k : Fin 2048) :
    hTile x sc sh g (ix2 r k)
      = x (ix3 (0 : Fin 1) r k) * Ideal.rsqrt (Ideal.div (∑ j : Fin 2048, x (ix3 (0 : Fin 1) r j) * x (ix3 (0 : Fin 1) r j)) (Ideal.ofBits .f32 0x45000000#32) + Ideal.ofBits .f32 0x358637BD#32)
          * g (ix2 (0 : Fin 1) k) * (Ideal.ofBits .f32 0x3F800000#32 + sc (ix3 (0 : Fin 1) r k)) + sh (ix3 (0 : Fin 1) r k) := by
  refine (pay1_apply (rowsOf x (ix2 r k)) g (rowsOf sc (ix2 r k)) (rowsOf sh (ix2 r k)) ⟨r.val % 16, Nat.mod_lt _ (by decide)⟩ k).trans ?_
  have hs := Finset.sum_congr (rfl : (Finset.univ : Finset (Fin 2048)) = Finset.univ) fun j _ => congrArg₂ (fun a b : EReal => a * b) (rowsOf_apply x r k j) (rowsOf_apply x r k j)
  exact congr (congrArg HAdd.hAdd (congr (congrArg HMul.hMul (congrArg (fun a : EReal => a * g (ix2 (0 : Fin 1) k)) (congr (congrArg HMul.hMul (rowsOf_apply x r k k))
    (congrArg (fun s => Ideal.rsqrt (Ideal.div s (Ideal.ofBits .f32 0x45000000#32) + Ideal.ofBits .f32 0x358637BD#32)) hs))))
    (congrArg (fun s : EReal => Ideal.ofBits .f32 0x3F800000#32 + s) (rowsOf_apply sc r k k)))) (rowsOf_apply sh r k k)

/-! ## The blocks -/

theorem at0 : ∀ t : Fin cfg0.N, win0_0.index t = ![0, 0, 0] := (by decide +kernel : ∀ t : Fin grid0.N, _)
theorem at1 : ∀ t : Fin cfg0.N, win0_1.index t = ![0, 0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, t.val % 16] := (by decide +kernel : ∀ t : Fin grid0.N, _)
theorem at5 : ∀ t : Fin cfg0.N, win0_5.index t = ![0, 0, min (max (t.val % 16) 0) 3] := (by decide +kernel : ∀ t : Fin grid0.N, _)
theorem at6 : ∀ t : Fin cfg0.N, win0_6.index t = ![0, 0, min (max (t.val % 16) 4) 7 - 4] := (by decide +kernel : ∀ t : Fin grid0.N, _)
theorem at7 : ∀ t : Fin cfg0.N, win0_7.index t = ![0, 0, min (max (t.val % 16) 8) 11 - 8] := (by decide +kernel : ∀ t : Fin grid0.N, _)
theorem at8 : ∀ t : Fin cfg0.N, win0_8.index t = ![0, 0, min (max (t.val % 16) 12) 15 - 12] := (by decide +kernel : ∀ t : Fin grid0.N, _)
theorem covers5 : (cfg0.win 5).Covers := by decide +kernel
theorem covers6 : (cfg0.win 6).Covers := by decide +kernel
theorem covers7 : (cfg0.win 7).Covers := by decide +kernel
theorem covers8 : (cfg0.win 8).Covers := by decide +kernel

/-- The sequence and the position of a row of the tile, and the column of a step's column. -/
def seqOf (r : Fin 128) : Fin 8 := ⟨r.val / 16, by have := r.isLt; omega⟩
def pos (r : Fin 128) : Fin 16 := ⟨r.val % 16, by omega⟩
def col (t : Fin cfg0.N) (j : Fin 512) : Fin 8192 := ⟨512 * (t.val % 16) + j.val, by have := j.isLt; omega⟩

/-- The sequences one after the other, as the call takes and leaves them. -/
def folded (Z : S8x16x2048.Idx → EReal) : S1x128x2048.Idx → EReal := fun i => Z (ix3 (seqOf (i 1)) (pos (i 1)) (i 2))

theorem fold_apply (Z : S8x16x2048.Idx → EReal) (h : S8x16x2048.ShapeCasts S1x128x2048) (r : Fin 128) (k : Fin 2048) :
    shapeCast S1x128x2048 Z h (ix3 (0 : Fin 1) r k) = Z (ix3 (seqOf r) (pos r) k) := by
  refine shapeCast_apply Z h _ _ ?_
  rw [Shape.rowMajor_val_three, Shape.rowMajor_val_three]
  show (r.val / 16 * 16 + r.val % 16) * 2048 + k.val = (0 * 128 + r.val) * 2048 + k.val
  omega

theorem unfold_folded (Z : S8x16x2048.Idx → EReal) (h : S1x128x2048.ShapeCasts S8x16x2048) : shapeCast S8x16x2048 (folded Z) h = Z := by
  funext i
  obtain ⟨b, t, j, rfl⟩ : ∃ (b : Fin 8) (t : Fin 16) (j : Fin 2048), i = ix3 b t j := ⟨_, _, _, eq_ix3 i⟩
  have hb := b.isLt
  have ht := t.isLt
  refine (shapeCast_apply (folded Z) h (ix3 b t j) (ix3 (0 : Fin 1) (⟨16 * b.val + t.val, by omega⟩ : Fin 128) j) ?_).trans ?_
  · rw [Shape.rowMajor_val_three, Shape.rowMajor_val_three]
    show (0 * 128 + (16 * b.val + t.val)) * 2048 + j.val = (b.val * 16 + t.val) * 2048 + j.val
    omega
  · have h0 : seqOf (⟨16 * b.val + t.val, by omega⟩ : Fin 128) = b := Fin.ext (by show (16 * b.val + t.val) / 16 = b.val; omega)
    have h1 : pos (⟨16 * b.val + t.val, by omega⟩ : Fin 128) = t := Fin.ext (by show (16 * b.val + t.val) % 16 = t.val; omega)
    show Z (ix3 (seqOf (⟨16 * b.val + t.val, by omega⟩ : Fin 128)) (pos (⟨16 * b.val + t.val, by omega⟩ : Fin 128)) j) = Z (ix3 b t j)
    rw [h0, h1]

section

variable (m : (ℓ : Loc nD τ sig) → Buf (Elt Ideal) ℓ) (c : Dev nD) (t : Fin cfg0.N)

theorem x_block (r : Fin 128) (k : Fin 2048) :
    iblk m c 0 t (ix3 (0 : Fin 1) r k) = m ((c : Thread nD τ).loc main_arg0) (ix3 (seqOf r) (pos r) k) := by
  have e : V m c main_v0 = (shapeCast S1x128x2048 (m ((c : Thread nD τ).loc main_arg0)) shapeCasts_S8x16x2048_S1x128x2048 : FVec Ideal S1x128x2048 .f32) := by
    simp only [V, V0, List.flatten_cons, List.flatten_nil, List.append_nil]
    dsimp only [hostOps0]
    after_results
    rfl
  have i : (win0_0.blk t).view.emb (ix3 (0 : Fin 1) r k) = ix3 (0 : Fin 1) r k := by
    funext a
    refine Fin.ext ?_
    match a with
    | ⟨0, _⟩ => blk_simp [at0]
    | ⟨1, _⟩ => blk_simp [at0]
    | ⟨2, _⟩ => blk_simp [at0]
  blk_simp [iblk]
  rw [show V m c main_v0 = _ from e, i]
  exact fold_apply _ _ r k

theorem sc_block (r : Fin 128) (k : Fin 2048) : iblk m c 1 t (ix3 (0 : Fin 1) r k) = m ((c : Thread nD τ).loc main_arg1) (ix2 (seqOf r) k) := by
  have e : V m c main_v3 = (shapeCast S1x128x2048 (broadcastInDim S8x16x2048 ![0, 1, 2] bcast_S8x1x2048_S8x16x2048_0_1_2
      (broadcastInDim S8x1x2048 ![0, 2] bcast_S8x2048_S8x1x2048_0_2 (m ((c : Thread nD τ).loc main_arg1)))) shapeCasts_S8x16x2048_S1x128x2048 : FVec Ideal S1x128x2048 .f32) := by
    simp only [V, V0, List.flatten_cons, List.flatten_nil, List.append_nil]
    dsimp only [hostOps0]
    after_results
    rfl
  have i : (win0_1.blk t).view.emb (ix3 (0 : Fin 1) r k) = ix3 (0 : Fin 1) r k := by
    funext a
    refine Fin.ext ?_
    match a with
    | ⟨0, _⟩ => blk_simp [at1]
    | ⟨1, _⟩ => blk_simp [at1]
    | ⟨2, _⟩ => blk_simp [at1]
  blk_simp [iblk]
  rw [show V m c main_v3 = _ from e, i]
  refine (fold_apply _ _ r k).trans ?_
  pointwise

theorem sh_block (r : Fin 128) (k : Fin 2048) : iblk m c 2 t (ix3 (0 : Fin 1) r k) = m ((c : Thread nD τ).loc main_arg2) (ix2 (seqOf r) k) := by
  have e : V m c main_v6 = (shapeCast S1x128x2048 (broadcastInDim S8x16x2048 ![0, 1, 2] bcast_S8x1x2048_S8x16x2048_0_1_2
      (broadcastInDim S8x1x2048 ![0, 2] bcast_S8x2048_S8x1x2048_0_2 (m ((c : Thread nD τ).loc main_arg2)))) shapeCasts_S8x16x2048_S1x128x2048 : FVec Ideal S1x128x2048 .f32) := by
    simp only [V, V0, List.flatten_cons, List.flatten_nil, List.append_nil]
    dsimp only [hostOps0]
    after_results
    rfl
  have i : (win0_2.blk t).view.emb (ix3 (0 : Fin 1) r k) = ix3 (0 : Fin 1) r k := by
    funext a
    refine Fin.ext ?_
    match a with
    | ⟨0, _⟩ => blk_simp [at2]
    | ⟨1, _⟩ => blk_simp [at2]
    | ⟨2, _⟩ => blk_simp [at2]
  blk_simp [iblk]
  rw [show V m c main_v6 = _ from e, i]
  refine (fold_apply _ _ r k).trans ?_
  pointwise

set_option maxRecDepth 16384 in
theorem g_block (k : Fin 2048) : iblk m c 3 t (ix2 (0 : Fin 1) k) = m ((c : Thread nD τ).loc main_arg3) (ix1 k) := by
  have e : V m c main_v8 = (shapeCast S1x2048 (m ((c : Thread nD τ).loc main_arg3)) shapeCasts_S2048_S1x2048 : FVec Ideal S1x2048 .f32) := by
    simp only [V, V0, List.flatten_cons, List.flatten_nil, List.append_nil]
    dsimp only [hostOps0]
    after_results
    rfl
  have i : (win0_3.blk t).view.emb (ix2 (0 : Fin 1) k) = ix2 (0 : Fin 1) k := by
    funext a
    refine Fin.ext ?_
    match a with
    | ⟨0, _⟩ => blk_simp [at3]
    | ⟨1, _⟩ => blk_simp [at3]
  blk_simp [iblk]
  rw [show V m c main_v8 = _ from e, i]
  pointwise

theorem w_block (k : Fin 2048) (j : Fin 512) : iblk m c 4 t (ix2 k j) = m ((c : Thread nD τ).loc main_arg4) (ix2 k (col t j)) := by
  have e : V m c main_v7 = (truncf .bf16 (m ((c : Thread nD τ).loc main_arg4)) bitsLt_bf16_f32 : FVec Ideal S2048x8192 .bf16) := by
    simp only [V, V0, List.flatten_cons, List.flatten_nil, List.append_nil]
    dsimp only [hostOps0]
    after_results
  have i : (win0_4.blk t).view.emb (ix2 k j) = ix2 k (col t j) := by
    funext a
    refine Fin.ext ?_
    match a with
    | ⟨0, _⟩ => blk_simp [at4]
    | ⟨1, _⟩ => blk_simp [at4]; show (t.val % 16) * 512 + j.val = 512 * (t.val % 16) + j.val; omega
  blk_simp [iblk]
  rw [show V m c main_v7 = _ from e, i]
  rfl

/-- The scratch buffer's rows are the reference's normalized rows. -/
theorem rows_apply (r : Fin 128) (k : Fin 2048) :
    rows m c t (ix2 r k) = hid (m ((c : Thread nD τ).loc main_arg0)) (m ((c : Thread nD τ).loc main_arg1)) (m ((c : Thread nD τ).loc main_arg2))
      (m ((c : Thread nD τ).loc main_arg3)) (seqOf r) (pos r) k := by
  refine (hTile_apply _ _ _ _ r k).trans ?_
  have hx : ∀ j : Fin 2048, iblk m c 0 (base t) (ix3 (0 : Fin 1) r j) = m ((c : Thread nD τ).loc main_arg0) (ix3 (seqOf r) (pos r) j) := fun j => x_block m c (base t) r j
  have hsc := sc_block m c (base t) r k
  have hsh := sh_block m c (base t) r k
  have hg := g_block m c (base t) k
  have hs := Finset.sum_congr (rfl : (Finset.univ : Finset (Fin 2048)) = Finset.univ) fun j _ => congrArg₂ (fun a b : EReal => a * b) (hx j) (hx j)
  unfold hid
  exact congr (congrArg HAdd.hAdd (congr (congrArg HMul.hMul (congr (congrArg HMul.hMul (congr (congrArg HMul.hMul (hx k))
    (congrArg (fun s => Ideal.rsqrt (Ideal.div s (Ideal.ofBits .f32 0x45000000#32) + Ideal.ofBits .f32 0x358637BD#32)) hs))) hg)) (congrArg (fun s : EReal => Ideal.ofBits .f32 0x3F800000#32 + s) hsc))) hsh

theorem proj_block (r : Fin 128) (j : Fin 512) :
    ∑ k : Fin 2048, rows m c t (ix2 r k) * iblk m c 4 t (ix2 k j)
      = proj (m ((c : Thread nD τ).loc main_arg0)) (m ((c : Thread nD τ).loc main_arg1)) (m ((c : Thread nD τ).loc main_arg2))
          (m ((c : Thread nD τ).loc main_arg3)) (m ((c : Thread nD τ).loc main_arg4)) (seqOf r) (pos r) (col t j) :=
  Finset.sum_congr rfl fun k _ => congrArg₂ (fun a b : EReal => a * b) (rows_apply m c t r k) (w_block m c t k j)

end

/-- Where a product's block lands in its quarter. -/
theorem quarter_at (f : Fin 4) (X : S8x16x2048.Idx → EReal) (sc sh : S8x2048.Idx → EReal) (g : S2048.Idx → EReal) (W : S2048x8192.Idx → EReal)
    (s : Fin cfg0.N) (r : Fin 128) (j : Fin 512) (q : Fin 2048) (hq : 2048 * f.val + q.val = 512 * (s.val % 16) + j.val) :
    proj X sc sh g W (seqOf r) (pos r) (col s j) = folded (quarter f X sc sh g W) (ix3 (0 : Fin 1) r q) := by
  have h2 : col s j = ⟨2048 * f.val + q.val, by have := q.isLt; have := f.isLt; omega⟩ := Fin.ext hq.symm
  rw [h2]
  rfl

section

variable (m : (ℓ : Loc nD τ sig) → Buf (Elt Ideal) ℓ) (c : Dev nD)

theorem result5 :
    (dats m 0 c).arrAt 5 cfg0.N = folded (scaled (m ((c : Thread nD τ).loc main_arg0)) (m ((c : Thread nD τ).loc main_arg1)) (m ((c : Thread nD τ).loc main_arg2))
      (m ((c : Thread nD τ).loc main_arg3)) (m ((c : Thread nD τ).loc main_arg4))) := by
  refine (dats m 0 c).arrAt_eq_of_covers 5 _ covers5 fun t _ y => ?_
  blk_simp
  rw [after0_5]
  obtain ⟨u, r, j, rfl⟩ : ∃ (u : Fin 1) (r : Fin 128) (j : Fin 512), y = ix3 u r j := ⟨_, _, _, eq_ix3 y⟩
  obtain rfl : u = 0 := Subsingleton.elim _ _
  have e : (win0_5.blk t).view.emb (ix3 (0 : Fin 1) r j) = ix3 (0 : Fin 1) r (⟨512 * (min (max (t.val % 16) 0) 3) + j.val, by have := j.isLt; omega⟩ : Fin 2048) := by
    funext a
    refine Fin.ext ?_
    match a with
    | ⟨0, _⟩ => blk_simp [at5]
    | ⟨1, _⟩ => blk_simp [at5]
    | ⟨2, _⟩ => blk_simp [at5]; show (min (max (t.val % 16) 0) 3) * 512 + j.val = 512 * (min (max (t.val % 16) 0) 3) + j.val; omega
  refine Eq.trans ?_ (congrArg (folded (scaled (m ((c : Thread nD τ).loc main_arg0)) (m ((c : Thread nD τ).loc main_arg1)) (m ((c : Thread nD τ).loc main_arg2))
      (m ((c : Thread nD τ).loc main_arg3)) (m ((c : Thread nD τ).loc main_arg4)))) e.symm)
  refine (pay3_apply _ _ r j).trans ?_
  exact congrArg (fun a : EReal => a * (((Real.sqrt 128)⁻¹ : ℝ) : EReal))
    ((proj_block m c (near 0 t) r j).trans (quarter_at 0 _ _ _ _ _ (near 0 t) r j _
    (by show 2048 * 0 + (512 * (min (max (t.val % 16) 0) 3) + j.val) = 512 * ((16 * (t.val / 16) + min (max (t.val % 16) 0) (0 + 3)) % 16) + j.val; omega)))

theorem result6 :
    (dats m 0 c).arrAt 6 cfg0.N = folded (quarter 1 (m ((c : Thread nD τ).loc main_arg0)) (m ((c : Thread nD τ).loc main_arg1)) (m ((c : Thread nD τ).loc main_arg2))
      (m ((c : Thread nD τ).loc main_arg3)) (m ((c : Thread nD τ).loc main_arg4))) := by
  refine (dats m 0 c).arrAt_eq_of_covers 6 _ covers6 fun t _ y => ?_
  blk_simp
  rw [after0_6]
  obtain ⟨u, r, j, rfl⟩ : ∃ (u : Fin 1) (r : Fin 128) (j : Fin 512), y = ix3 u r j := ⟨_, _, _, eq_ix3 y⟩
  obtain rfl : u = 0 := Subsingleton.elim _ _
  have e : (win0_6.blk t).view.emb (ix3 (0 : Fin 1) r j) = ix3 (0 : Fin 1) r (⟨512 * (min (max (t.val % 16) 4) 7 - 4) + j.val, by have := j.isLt; omega⟩ : Fin 2048) := by
    funext a
    refine Fin.ext ?_
    match a with
    | ⟨0, _⟩ => blk_simp [at6]
    | ⟨1, _⟩ => blk_simp [at6]
    | ⟨2, _⟩ => blk_simp [at6]; show (min (max (t.val % 16) 4) 7 - 4) * 512 + j.val = 512 * (min (max (t.val % 16) 4) 7 - 4) + j.val; omega
  refine Eq.trans ?_ (congrArg (folded (quarter 1 (m ((c : Thread nD τ).loc main_arg0)) (m ((c : Thread nD τ).loc main_arg1)) (m ((c : Thread nD τ).loc main_arg2))
      (m ((c : Thread nD τ).loc main_arg3)) (m ((c : Thread nD τ).loc main_arg4)))) e.symm)
  refine (pay4_apply _ _ r j).trans ?_
  exact ((proj_block m c (near 4 t) r j).trans (quarter_at 1 _ _ _ _ _ (near 4 t) r j _
    (by show 2048 * 1 + (512 * (min (max (t.val % 16) 4) 7 - 4) + j.val) = 512 * ((16 * (t.val / 16) + min (max (t.val % 16) 4) (4 + 3)) % 16) + j.val; omega)))

theorem result7 :
    (dats m 0 c).arrAt 7 cfg0.N = folded (quarter 2 (m ((c : Thread nD τ).loc main_arg0)) (m ((c : Thread nD τ).loc main_arg1)) (m ((c : Thread nD τ).loc main_arg2))
      (m ((c : Thread nD τ).loc main_arg3)) (m ((c : Thread nD τ).loc main_arg4))) := by
  refine (dats m 0 c).arrAt_eq_of_covers 7 _ covers7 fun t _ y => ?_
  blk_simp
  rw [after0_7]
  obtain ⟨u, r, j, rfl⟩ : ∃ (u : Fin 1) (r : Fin 128) (j : Fin 512), y = ix3 u r j := ⟨_, _, _, eq_ix3 y⟩
  obtain rfl : u = 0 := Subsingleton.elim _ _
  have e : (win0_7.blk t).view.emb (ix3 (0 : Fin 1) r j) = ix3 (0 : Fin 1) r (⟨512 * (min (max (t.val % 16) 8) 11 - 8) + j.val, by have := j.isLt; omega⟩ : Fin 2048) := by
    funext a
    refine Fin.ext ?_
    match a with
    | ⟨0, _⟩ => blk_simp [at7]
    | ⟨1, _⟩ => blk_simp [at7]
    | ⟨2, _⟩ => blk_simp [at7]; show (min (max (t.val % 16) 8) 11 - 8) * 512 + j.val = 512 * (min (max (t.val % 16) 8) 11 - 8) + j.val; omega
  refine Eq.trans ?_ (congrArg (folded (quarter 2 (m ((c : Thread nD τ).loc main_arg0)) (m ((c : Thread nD τ).loc main_arg1)) (m ((c : Thread nD τ).loc main_arg2))
      (m ((c : Thread nD τ).loc main_arg3)) (m ((c : Thread nD τ).loc main_arg4)))) e.symm)
  refine (pay5_apply _ _ r j).trans ?_
  exact ((proj_block m c (near 8 t) r j).trans (quarter_at 2 _ _ _ _ _ (near 8 t) r j _
    (by show 2048 * 2 + (512 * (min (max (t.val % 16) 8) 11 - 8) + j.val) = 512 * ((16 * (t.val / 16) + min (max (t.val % 16) 8) (8 + 3)) % 16) + j.val; omega)))

theorem result8 :
    (dats m 0 c).arrAt 8 cfg0.N = folded (quarter 3 (m ((c : Thread nD τ).loc main_arg0)) (m ((c : Thread nD τ).loc main_arg1)) (m ((c : Thread nD τ).loc main_arg2))
      (m ((c : Thread nD τ).loc main_arg3)) (m ((c : Thread nD τ).loc main_arg4))) := by
  refine (dats m 0 c).arrAt_eq_of_covers 8 _ covers8 fun t _ y => ?_
  blk_simp
  rw [after0_8]
  obtain ⟨u, r, j, rfl⟩ : ∃ (u : Fin 1) (r : Fin 128) (j : Fin 512), y = ix3 u r j := ⟨_, _, _, eq_ix3 y⟩
  obtain rfl : u = 0 := Subsingleton.elim _ _
  have e : (win0_8.blk t).view.emb (ix3 (0 : Fin 1) r j) = ix3 (0 : Fin 1) r (⟨512 * (min (max (t.val % 16) 12) 15 - 12) + j.val, by have := j.isLt; omega⟩ : Fin 2048) := by
    funext a
    refine Fin.ext ?_
    match a with
    | ⟨0, _⟩ => blk_simp [at8]
    | ⟨1, _⟩ => blk_simp [at8]
    | ⟨2, _⟩ => blk_simp [at8]; show (min (max (t.val % 16) 12) 15 - 12) * 512 + j.val = 512 * (min (max (t.val % 16) 12) 15 - 12) + j.val; omega
  refine Eq.trans ?_ (congrArg (folded (quarter 3 (m ((c : Thread nD τ).loc main_arg0)) (m ((c : Thread nD τ).loc main_arg1)) (m ((c : Thread nD τ).loc main_arg2))
      (m ((c : Thread nD τ).loc main_arg3)) (m ((c : Thread nD τ).loc main_arg4)))) e.symm)
  refine (pay6_apply _ _ r j).trans ?_
  exact ((proj_block m c (near 12 t) r j).trans (quarter_at 3 _ _ _ _ _ (near 12 t) r j _
    (by show 2048 * 3 + (512 * (min (max (t.val % 16) 12) 15 - 12) + j.val) = 512 * ((16 * (t.val / 16) + min (max (t.val % 16) 12) (12 + 3)) % 16) + j.val; omega)))

theorem host5 : Pipeline.afterTail₀ cfgs (dats m) 0 (V0 m) [hostOps1] c main_v10 = scaled (m ((c : Thread nD τ).loc main_arg0)) (m ((c : Thread nD τ).loc main_arg1)) (m ((c : Thread nD τ).loc main_arg2))
      (m ((c : Thread nD τ).loc main_arg3)) (m ((c : Thread nD τ).loc main_arg4)) := by
  have e : Pipeline.afterTail₀ cfgs (dats m) 0 (V0 m) [hostOps1] c main_v10
      = (shapeCast S8x16x2048 ((dats m 0 c).arrAt 5 cfg0.N) shapeCasts_S1x128x2048_S8x16x2048 : FVec Ideal S8x16x2048 .bf16) := by
    unfold Pipeline.afterTail₀
    simp only [List.flatten_cons, List.flatten_nil, List.append_nil]
    dsimp only [hostOps1]
    after_results
    exact congrArg (fun z : FVec Ideal S1x128x2048 .bf16 => (shapeCast S8x16x2048 z shapeCasts_S1x128x2048_S8x16x2048 : FVec Ideal S8x16x2048 .bf16))
      (Pipeline.withArrays_arr spec0 launch0.win.arr_inj c (V0 m c) (fun w => (dats m 0 c).arrAt w (cfgs 0).N) 5)
  rw [e, result5]
  exact unfold_folded _ _

theorem host6 : Pipeline.afterTail₀ cfgs (dats m) 0 (V0 m) [hostOps1] c main_v11 = quarter 1 (m ((c : Thread nD τ).loc main_arg0)) (m ((c : Thread nD τ).loc main_arg1)) (m ((c : Thread nD τ).loc main_arg2))
      (m ((c : Thread nD τ).loc main_arg3)) (m ((c : Thread nD τ).loc main_arg4)) := by
  have e : Pipeline.afterTail₀ cfgs (dats m) 0 (V0 m) [hostOps1] c main_v11
      = (shapeCast S8x16x2048 ((dats m 0 c).arrAt 6 cfg0.N) shapeCasts_S1x128x2048_S8x16x2048 : FVec Ideal S8x16x2048 .f32) := by
    unfold Pipeline.afterTail₀
    simp only [List.flatten_cons, List.flatten_nil, List.append_nil]
    dsimp only [hostOps1]
    after_results
    exact congrArg (fun z : FVec Ideal S1x128x2048 .f32 => (shapeCast S8x16x2048 z shapeCasts_S1x128x2048_S8x16x2048 : FVec Ideal S8x16x2048 .f32))
      (Pipeline.withArrays_arr spec0 launch0.win.arr_inj c (V0 m c) (fun w => (dats m 0 c).arrAt w (cfgs 0).N) 6)
  rw [e, result6]
  exact unfold_folded _ _

theorem host7 : Pipeline.afterTail₀ cfgs (dats m) 0 (V0 m) [hostOps1] c main_v12 = quarter 2 (m ((c : Thread nD τ).loc main_arg0)) (m ((c : Thread nD τ).loc main_arg1)) (m ((c : Thread nD τ).loc main_arg2))
      (m ((c : Thread nD τ).loc main_arg3)) (m ((c : Thread nD τ).loc main_arg4)) := by
  have e : Pipeline.afterTail₀ cfgs (dats m) 0 (V0 m) [hostOps1] c main_v12
      = (shapeCast S8x16x2048 ((dats m 0 c).arrAt 7 cfg0.N) shapeCasts_S1x128x2048_S8x16x2048 : FVec Ideal S8x16x2048 .f32) := by
    unfold Pipeline.afterTail₀
    simp only [List.flatten_cons, List.flatten_nil, List.append_nil]
    dsimp only [hostOps1]
    after_results
    exact congrArg (fun z : FVec Ideal S1x128x2048 .f32 => (shapeCast S8x16x2048 z shapeCasts_S1x128x2048_S8x16x2048 : FVec Ideal S8x16x2048 .f32))
      (Pipeline.withArrays_arr spec0 launch0.win.arr_inj c (V0 m c) (fun w => (dats m 0 c).arrAt w (cfgs 0).N) 7)
  rw [e, result7]
  exact unfold_folded _ _

theorem host8 : Pipeline.afterTail₀ cfgs (dats m) 0 (V0 m) [hostOps1] c main_v13 = quarter 3 (m ((c : Thread nD τ).loc main_arg0)) (m ((c : Thread nD τ).loc main_arg1)) (m ((c : Thread nD τ).loc main_arg2))
      (m ((c : Thread nD τ).loc main_arg3)) (m ((c : Thread nD τ).loc main_arg4)) := by
  have e : Pipeline.afterTail₀ cfgs (dats m) 0 (V0 m) [hostOps1] c main_v13
      = (shapeCast S8x16x2048 ((dats m 0 c).arrAt 8 cfg0.N) shapeCasts_S1x128x2048_S8x16x2048 : FVec Ideal S8x16x2048 .bf16) := by
    unfold Pipeline.afterTail₀
    simp only [List.flatten_cons, List.flatten_nil, List.append_nil]
    dsimp only [hostOps1]
    after_results
    exact congrArg (fun z : FVec Ideal S1x128x2048 .bf16 => (shapeCast S8x16x2048 z shapeCasts_S1x128x2048_S8x16x2048 : FVec Ideal S8x16x2048 .bf16))
      (Pipeline.withArrays_arr spec0 launch0.win.arr_inj c (V0 m c) (fun w => (dats m 0 c).arrAt w (cfgs 0).N) 8)
  rw [e, result8]
  exact unfold_folded _ _

end

/-! ## The claim -/

/-- Dividing by the root of a head's width is multiplying by its inverse. -/
theorem div_root (a : EReal) : Ideal.div a (Ideal.sqrt (Ideal.ofBits .f32 0x43000000#32)) = a * (((Real.sqrt 128)⁻¹ : ℝ) : EReal) := by
  have h : Ideal.ofBits .f32 0x43000000#32 = ((128 : ℝ) : EReal) := by
    simp [Ideal.ofBits, Ideal.ieee, -EReal.coe_mul]; norm_num
  rw [h, Ideal.sqrt_coe, if_neg (by norm_num), Ideal.div_coe (Real.sqrt_pos.mpr (by norm_num)).ne', one_div]

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => scaled (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => quarter 1 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => quarter 2 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => quarter 3 (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), ?_, ?_⟩
  · exact (θ_run _ _ _).mono (fun r h c => ⟨((h.1.1 c).2 main_v10 (Pipeline.mem_restRefs_of main_v10 (by decide) (by decide))).trans (host5 m c), ((h.1.1 c).2 main_v11 (Pipeline.mem_restRefs_of main_v11 (by decide) (by decide))).trans (host6 m c), ((h.1.1 c).2 main_v12 (Pipeline.mem_restRefs_of main_v12 (by decide) (by decide))).trans (host7 m c), ((h.1.1 c).2 main_v13 (Pipeline.mem_restRefs_of main_v13 (by decide) (by decide))).trans (host8 m c),
      h.2.1 c⟩) (θ_run_and (In.run_main_quiescent m g) (In.frame m g))
  · refine (θ_run _ _ _).mono (fun r h c => ⟨(h c).1.trans ?_, (h c).2.1.trans ?_, (h c).2.2.1.trans ?_, (h c).2.2.2.1.trans ?_, (h c).2.2.2.2⟩) (Cert.Reference6Ideal.Value.run m' g')
    all_goals
      obtain ⟨h0, h1, h2, h3, h4⟩ := hagree c
      rw [h0, h1, h2, h3, h4]
      funext i
      obtain ⟨b, t, j, rfl⟩ : ∃ (b : Fin 8) (t : Fin 16) (j : Fin 2048), i = ix3 b t j := ⟨_, _, _, eq_ix3 i⟩
    · refine Eq.trans ?_ (div_root _)
      unfold quarter proj hid
      pointwise
    all_goals
      unfold quarter proj hid
      pointwise

end Cert.In6

end
-- ==== Proof.Out7.lean ====
/-
  The second output projection on the sample batch: the branch times the weight, times the gate, added to the layer's input, and the sum
  normalized by its root mean square.
-/
module

public import proofs.«01_k».proof.Defs
public import proofs.«01_k».proof.Proof.Gen.Kernel7Ideal.Frame
public import proofs.«01_k».proof.Proof.Gen.Reference7Ideal.Run
public import Idealize.ShloMosaic.Lib.Pipeline.ValueKit.Geometry
public import Idealize.ShloMosaic.Lib.Pipeline.Covers
public import Idealize.ShloMosaic.Lib.Pointwise

@[expose] public section

noncomputable section

namespace Cert.Out7

open Cert.Kernel7Ideal Cert.Kernel7Ideal.Gen Idealize.ShloMosaic Idealize.SL.Sem
open Idealize.ShloMosaic.TcCoe

/-- The sum before the norm, over the branch, the weight, the layer's input and the gate. -/
def resid (Y : S8x16x2048.Idx → EReal) (W : S2048x2048.Idx → EReal) (X : S8x16x2048.Idx → EReal) (G : S8x2048.Idx → EReal) :
    S8x16x2048.Idx → EReal := fun i =>
  X i + G (ix2 (i 0) (i 2)) * ∑ k : Fin 2048, Y (ix3 (i 0) (i 1) k) * W (ix2 k (i 2))

/-- A row divided by its root mean square, times a weight per lane. -/
def normed (Z : S8x16x2048.Idx → EReal) (g : S2048.Idx → EReal) : S8x16x2048.Idx → EReal := fun i =>
  Z i * Ideal.rsqrt (Ideal.div (∑ k : Fin 2048, Z (ix3 (i 0) (i 1) k) * Z (ix3 (i 0) (i 1) k)) (Ideal.ofBits .f32 0x45000000#32) + Ideal.ofBits .f32 0x358637BD#32)
    * g (ix1 (i 2))

theorem at0 : ∀ t : Fin cfg0.N, win0_0.index t = ![0, 0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0, 0] := (by decide +kernel : ∀ t : Fin grid0.N, _)
theorem covers5 : (cfg0.win 5).Covers := by decide +kernel

theorem comb {x g s s' : EReal} (h : s = s') : x + g * s = x + g * s' := by rw [h]

theorem hz3 : (![0, 0, 0] : Fin 3 → ℕ) = fun _ => 0 := by funext a; fin_cases a <;> rfl
theorem hz2 : (![0, 0] : Fin 2 → ℕ) = fun _ => 0 := by funext a; fin_cases a <;> rfl

/-- One row of the sum, over the operands' blocks. -/
def row (x0 : Vec Ideal S1x128x2048 .bf16) (x1 : Vec Ideal S2048x2048 .bf16) (x2 : Vec Ideal S1x128x2048 .f32) (x3 : Vec Ideal S1x128x2048 .f32)
    (r : Fin 128) (j : Fin 2048) : EReal :=
  x2 (ix3 (0 : Fin 1) r j) + x3 (ix3 (0 : Fin 1) r j) * ∑ k : Fin 2048, x0 (ix3 (0 : Fin 1) r k) * x1 (ix2 k j)

theorem pay_apply (x0 : Vec Ideal S1x128x2048 .bf16) (x1 : Vec Ideal S2048x2048 .bf16) (x2 : Vec Ideal S1x128x2048 .f32) (x3 : Vec Ideal S1x128x2048 .f32) (x4 : Vec Ideal S1x2048 .f32)
    (r : Fin 128) (j : Fin 2048) :
    k0_pay1 x0 x1 x2 x3 x4 (ix3 (0 : Fin 1) r j)
      = row x0 x1 x2 x3 r j * Ideal.rsqrt (Ideal.div (∑ k : Fin 2048, row x0 x1 x2 x3 r k * row x0 x1 x2 x3 r k) (Ideal.ofBits .f32 0x45000000#32) + Ideal.ofBits .f32 0x358637BD#32)
          * x4 (ix2 (0 : Fin 1) j) := by
  unfold k0_pay1 row
  pointwise

theorem out_apply (x0 : Vec Ideal S1x128x2048 .bf16) (x1 : Vec Ideal S2048x2048 .bf16) (x2 : Vec Ideal S1x128x2048 .f32) (x3 : Vec Ideal S1x128x2048 .f32) (x4 : Vec Ideal S1x2048 .f32)
    (r : Fin 128) (j : Fin 2048) :
    out0_5 x0 x1 x2 x3 x4 (ix3 (0 : Fin 1) r j)
      = row x0 x1 x2 x3 r j * Ideal.rsqrt (Ideal.div (∑ k : Fin 2048, row x0 x1 x2 x3 r k * row x0 x1 x2 x3 r k) (Ideal.ofBits .f32 0x45000000#32) + Ideal.ofBits .f32 0x358637BD#32)
          * x4 (ix2 (0 : Fin 1) j) := by
  unfold out0_5
  rw [View.canon_unit_zero hz3, View.ld_unit_zero (S := S1x128x2048) hz3, View.ld_unit_zero (S := S2048x2048) hz2,
    View.ld_unit_zero (S := S1x128x2048) hz3, View.ld_unit_zero (S := S1x128x2048) hz3, View.ld_unit_zero (S := S1x2048) hz2, pay_apply]

/-- The sequence and the position of a row of the tile. -/
def seqOf (r : Fin 128) : Fin 8 := ⟨r.val / 16, by have := r.isLt; omega⟩
def pos (r : Fin 128) : Fin 16 := ⟨r.val % 16, by omega⟩

/-- The sequences one after the other, as the call takes and leaves them. -/
def folded (Z : S8x16x2048.Idx → EReal) : S1x128x2048.Idx → EReal := fun i => Z (ix3 (seqOf (i 1)) (pos (i 1)) (i 2))

theorem fold_apply {α : Type} (Z : S8x16x2048.Idx → α) (h : S8x16x2048.ShapeCasts S1x128x2048) (r : Fin 128) (k : Fin 2048) :
    shapeCast S1x128x2048 Z h (ix3 (0 : Fin 1) r k) = Z (ix3 (seqOf r) (pos r) k) := by
  refine shapeCast_apply Z h _ _ ?_
  rw [Shape.rowMajor_val_three, Shape.rowMajor_val_three]
  show (r.val / 16 * 16 + r.val % 16) * 2048 + k.val = (0 * 128 + r.val) * 2048 + k.val
  omega

theorem unfold_folded (Z : S8x16x2048.Idx → EReal) (h : S1x128x2048.ShapeCasts S8x16x2048) : shapeCast S8x16x2048 (folded Z) h = Z := by
  funext i
  obtain ⟨b, t, j, rfl⟩ : ∃ (b : Fin 8) (t : Fin 16) (j : Fin 2048), i = ix3 b t j := ⟨_, _, _, eq_ix3 i⟩
  have hb := b.isLt
  have ht := t.isLt
  refine (shapeCast_apply (folded Z) h (ix3 b t j) (ix3 (0 : Fin 1) (⟨16 * b.val + t.val, by omega⟩ : Fin 128) j) ?_).trans ?_
  · rw [Shape.rowMajor_val_three, Shape.rowMajor_val_three]
    show (0 * 128 + (16 * b.val + t.val)) * 2048 + j.val = (b.val * 16 + t.val) * 2048 + j.val
    omega
  · have h0 : seqOf (⟨16 * b.val + t.val, by omega⟩ : Fin 128) = b := Fin.ext (by show (16 * b.val + t.val) / 16 = b.val; omega)
    have h1 : pos (⟨16 * b.val + t.val, by omega⟩ : Fin 128) = t := Fin.ext (by show (16 * b.val + t.val) % 16 = t.val; omega)
    show Z (ix3 (seqOf (⟨16 * b.val + t.val, by omega⟩ : Fin 128)) (pos (⟨16 * b.val + t.val, by omega⟩ : Fin 128)) j) = Z (ix3 b t j)
    rw [h0, h1]

section

variable (m : (ℓ : Loc nD τ sig) → Buf (Elt Ideal) ℓ) (c : Dev nD) (t : Fin cfg0.N)

theorem y_block (r : Fin 128) (k : Fin 2048) :
    iblk m c 0 t (ix3 (0 : Fin 1) r k) = m ((c : Thread nD τ).loc main_arg0) (ix3 (seqOf r) (pos r) k) := by
  have e : V m c main_v0 = (shapeCast S1x128x2048 (m ((c : Thread nD τ).loc main_arg0)) shapeCasts_S8x16x2048_S1x128x2048 : FVec Ideal S1x128x2048 .bf16) := by
    simp only [V, V0, List.flatten_cons, List.flatten_nil, List.append_nil]
    dsimp only [hostOps0]
    after_results
    rfl
  have i : (win0_0.blk t).view.emb (ix3 (0 : Fin 1) r k) = ix3 (0 : Fin 1) r k := by
    funext a
    refine Fin.ext ?_
    match a with
    | ⟨0, _⟩ => blk_simp [at0]
    | ⟨1, _⟩ => blk_simp [at0]
    | ⟨2, _⟩ => blk_simp [at0]
  blk_simp [iblk]
  rw [show V m c main_v0 = _ from e, i]
  exact fold_apply _ _ r k

theorem x_block (r : Fin 128) (k : Fin 2048) :
    iblk m c 2 t (ix3 (0 : Fin 1) r k) = m ((c : Thread nD τ).loc main_arg2) (ix3 (seqOf r) (pos r) k) := by
  have e : V m c main_v2 = (shapeCast S1x128x2048 (m ((c : Thread nD τ).loc main_arg2)) shapeCasts_S8x16x2048_S1x128x2048 : FVec Ideal S1x128x2048 .f32) := by
    simp only [V, V0, List.flatten_cons, List.flatten_nil, List.append_nil]
    dsimp only [hostOps0]
    after_results
    rfl
  have i : (win0_2.blk t).view.emb (ix3 (0 : Fin 1) r k) = ix3 (0 : Fin 1) r k := by
    funext a
    refine Fin.ext ?_
    match a with
    | ⟨0, _⟩ => blk_simp [at2]
    | ⟨1, _⟩ => blk_simp [at2]
    | ⟨2, _⟩ => blk_simp [at2]
  blk_simp [iblk]
  rw [show V m c main_v2 = _ from e, i]
  exact fold_apply _ _ r k

theorem w_block (k j : Fin 2048) : iblk m c 1 t (ix2 k j) = m ((c : Thread nD τ).loc main_arg1) (ix2 k j) := by
  have e : V m c main_v1 = (truncf .bf16 (m ((c : Thread nD τ).loc main_arg1)) bitsLt_bf16_f32 : FVec Ideal S2048x2048 .bf16) := by
    simp only [V, V0, List.flatten_cons, List.flatten_nil, List.append_nil]
    dsimp only [hostOps0]
    after_results
  have i : (win0_1.blk t).view.emb (ix2 k j) = ix2 k j := by
    funext a
    refine Fin.ext ?_
    match a with
    | ⟨0, _⟩ => blk_simp [at1]
    | ⟨1, _⟩ => blk_simp [at1]
  blk_simp [iblk]
  rw [show V m c main_v1 = _ from e, i]
  rfl

theorem g_block (r : Fin 128) (k : Fin 2048) : iblk m c 3 t (ix3 (0 : Fin 1) r k) = m ((c : Thread nD τ).loc main_arg3) (ix2 (seqOf r) k) := by
  have e : V m c main_v5 = (shapeCast S1x128x2048 (broadcastInDim S8x16x2048 ![0, 1, 2] bcast_S8x1x2048_S8x16x2048_0_1_2
      (broadcastInDim S8x1x2048 ![0, 2] bcast_S8x2048_S8x1x2048_0_2 (m ((c : Thread nD τ).loc main_arg3)))) shapeCasts_S8x16x2048_S1x128x2048 : FVec Ideal S1x128x2048 .f32) := by
    simp only [V, V0, List.flatten_cons, List.flatten_nil, List.append_nil]
    dsimp only [hostOps0]
    after_results
    rfl
  have i : (win0_3.blk t).view.emb (ix3 (0 : Fin 1) r k) = ix3 (0 : Fin 1) r k := by
    funext a
    refine Fin.ext ?_
    match a with
    | ⟨0, _⟩ => blk_simp [at3]
    | ⟨1, _⟩ => blk_simp [at3]
    | ⟨2, _⟩ => blk_simp [at3]
  blk_simp [iblk]
  rw [show V m c main_v5 = _ from e, i]
  refine (fold_apply _ _ r k).trans ?_
  pointwise

set_option maxRecDepth 16384 in
theorem n_block (j : Fin 2048) : iblk m c 4 t (ix2 (0 : Fin 1) j) = m ((c : Thread nD τ).loc main_arg4) (ix1 j) := by
  have e : V m c main_v6 = (shapeCast S1x2048 (m ((c : Thread nD τ).loc main_arg4)) shapeCasts_S2048_S1x2048 : FVec Ideal S1x2048 .f32) := by
    simp only [V, V0, List.flatten_cons, List.flatten_nil, List.append_nil]
    dsimp only [hostOps0]
    after_results
    rfl
  have i : (win0_4.blk t).view.emb (ix2 (0 : Fin 1) j) = ix2 (0 : Fin 1) j := by
    funext a
    refine Fin.ext ?_
    match a with
    | ⟨0, _⟩ => blk_simp [at4]
    | ⟨1, _⟩ => blk_simp [at4]
  blk_simp [iblk]
  rw [show V m c main_v6 = _ from e, i]
  pointwise

/-- One row of the sum at a grid point. -/
theorem row_eq (r : Fin 128) (j : Fin 2048) :
    row (iblk m c 0 t) (iblk m c 1 t) (iblk m c 2 t) (iblk m c 3 t) r j = resid (m ((c : Thread nD τ).loc main_arg0)) (m ((c : Thread nD τ).loc main_arg1))
      (m ((c : Thread nD τ).loc main_arg2)) (m ((c : Thread nD τ).loc main_arg3)) (ix3 (seqOf r) (pos r) j) := by
  unfold row
  rw [x_block, g_block]
  refine comb (Finset.sum_congr rfl fun k _ => ?_)
  rw [y_block, w_block]
  rfl

/-- The result array after the launch. -/
theorem result_eq :
    (dats m 0 c).arrAt 5 cfg0.N = folded (normed (resid (m ((c : Thread nD τ).loc main_arg0)) (m ((c : Thread nD τ).loc main_arg1))
      (m ((c : Thread nD τ).loc main_arg2)) (m ((c : Thread nD τ).loc main_arg3))) (m ((c : Thread nD τ).loc main_arg4))) := by
  refine (dats m 0 c).arrAt_eq_of_covers 5 _ covers5 fun t hf y => ?_
  blk_simp
  rw [after0_5]
  obtain ⟨u, r, j, rfl⟩ : ∃ (u : Fin 1) (r : Fin 128) (j : Fin 2048), y = ix3 u r j := ⟨_, _, _, eq_ix3 y⟩
  have hu : u = 0 := Subsingleton.elim _ _
  subst hu
  refine (out_apply _ _ _ _ _ r j).trans ?_
  have e : (win0_5.blk t).view.emb (ix3 (0 : Fin 1) r j) = ix3 (0 : Fin 1) r j := by
    funext a
    refine Fin.ext ?_
    match a with
    | ⟨0, _⟩ => blk_simp [at5]
    | ⟨1, _⟩ => blk_simp [at5]
    | ⟨2, _⟩ => blk_simp [at5]
  refine Eq.trans ?_ (congrArg (folded (normed _ _)) e.symm)
  rw [n_block, row_eq, Finset.sum_congr rfl fun k _ => congrArg (fun z : EReal => z * z) (row_eq m c t r k)]
  rfl

/-- The result after the host's last line, which lays the sequences out again. -/
theorem host_result : Pipeline.afterTail₀ cfgs (dats m) 0 (V0 m) [hostOps1] c main_v8 = normed (resid (m ((c : Thread nD τ).loc main_arg0)) (m ((c : Thread nD τ).loc main_arg1))
      (m ((c : Thread nD τ).loc main_arg2)) (m ((c : Thread nD τ).loc main_arg3))) (m ((c : Thread nD τ).loc main_arg4)) := by
  have e : Pipeline.afterTail₀ cfgs (dats m) 0 (V0 m) [hostOps1] c main_v8
      = (shapeCast S8x16x2048 ((dats m 0 c).arrAt 5 cfg0.N) shapeCasts_S1x128x2048_S8x16x2048 : FVec Ideal S8x16x2048 .f32) := by
    unfold Pipeline.afterTail₀
    simp only [List.flatten_cons, List.flatten_nil, List.append_nil]
    dsimp only [hostOps1]
    after_results
    exact congrArg (fun z : FVec Ideal S1x128x2048 .f32 => (shapeCast S8x16x2048 z shapeCasts_S1x128x2048_S8x16x2048 : FVec Ideal S8x16x2048 .f32))
      (Pipeline.withArrays_arr spec0 launch0.win.arr_inj c (V0 m c) (fun w => (dats m 0 c).arrAt w (cfgs 0).N) 5)
  rw [e, result_eq]
  exact unfold_folded _ _

end

/-- Both programs run, end with equal results and leave their arguments as they were. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => normed (resid (m ((c.tc : Thread _ _).loc Cert.Kernel7Ideal.main_arg0)) (m ((c.tc : Thread _ _).loc Cert.Kernel7Ideal.main_arg1))
      (m ((c.tc : Thread _ _).loc Cert.Kernel7Ideal.main_arg2)) (m ((c.tc : Thread _ _).loc Cert.Kernel7Ideal.main_arg3))) (m ((c.tc : Thread _ _).loc Cert.Kernel7Ideal.main_arg4)), ?_, ?_⟩
  · exact (θ_run _ _ _).mono (fun r h c => ⟨((h.1.1 c).2 main_v8 (Pipeline.mem_restRefs_of main_v8 (by decide) (by decide))).trans (host_result m c), h.2.1 c⟩)
      (θ_run_and (Cert.Kernel7Ideal.Gen.run_main_quiescent m g) (Cert.Kernel7Ideal.Gen.frame m g))
  · refine (θ_run _ _ _).mono (fun r h c => ⟨(h c).1.trans ?_, (h c).2⟩) (Cert.Reference7Ideal.Value.run m' g')
    obtain ⟨h0, h1, h2, h3, h4⟩ := hagree c
    rw [h0, h1, h2, h3, h4]
    funext i
    obtain ⟨b, t, j, rfl⟩ : ∃ (b : Fin 8) (t : Fin 16) (j : Fin 2048), i = ix3 b t j := ⟨_, _, _, eq_ix3 i⟩
    unfold normed resid
    pointwise

end Cert.Out7

end
-- ==== Proof.Out3.lean ====
/-
  The first output projection: the branch times the weight, times the gate, added to the layer's input.
-/
module

public import proofs.«01_k».proof.Defs
public import proofs.«01_k».proof.Proof.Gen.Kernel3Ideal.Value
public import proofs.«01_k».proof.Proof.Gen.Reference3Ideal.Run
public import Idealize.ShloMosaic.Lib.Pipeline.ValueKit.Geometry
public import Idealize.ShloMosaic.Lib.Pipeline.Covers
public import Idealize.ShloMosaic.Lib.Pointwise

@[expose] public section

noncomputable section

namespace Cert.Out3

open Cert.Kernel3Ideal Cert.Kernel3Ideal.Gen Idealize.ShloMosaic Idealize.SL.Sem
open Idealize.ShloMosaic.TcCoe

/-- The result as an array over the branch, the weight, the layer's input and the gate. -/
def resid (Y : S8x4096x2048.Idx → EReal) (W : S2048x2048.Idx → EReal) (X : S8x4096x2048.Idx → EReal) (G : S8x2048.Idx → EReal) :
    S8x4096x2048.Idx → EReal := fun i =>
  X i + G (ix2 (i 0) (i 2)) * ∑ k : Fin 2048, Y (ix3 (i 0) (i 1) k) * W (ix2 k (i 2))

theorem at0 : ∀ t : Fin cfg0.N, win0_0.index t = ![(grid0.coords t 0).val, (grid0.coords t 1).val, 0] :=
  (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![(grid0.coords t 0).val, (grid0.coords t 1).val, 0] :=
  (by decide +kernel : ∀ t : Fin grid0.N, _)
theorem at3 : ∀ t : Fin cfg0.N, win0_3.index t = ![(grid0.coords t 0).val, 0, 0] := (by decide +kernel : ∀ t : Fin grid0.N, _)
theorem at4 : ∀ t : Fin cfg0.N, win0_4.index t = ![(grid0.coords t 0).val, (grid0.coords t 1).val, 0] :=
  (by decide +kernel : ∀ t : Fin grid0.N, _)
theorem covers4 : (cfg0.win 4).Covers := by decide +kernel

theorem comb {x g s s' : EReal} (h : s = s') : x + g * s = x + g * s' := by rw [h]

theorem hz3 : (![0, 0, 0] : Fin 3 → ℕ) = fun _ => 0 := by funext a; fin_cases a <;> rfl
theorem hz2 : (![0, 0] : Fin 2 → ℕ) = fun _ => 0 := by funext a; fin_cases a <;> rfl

theorem pay_apply (x0 : Vec Ideal S1x256x2048 .bf16) (x1 : Vec Ideal S2048x2048 .bf16) (x2 : Vec Ideal S1x256x2048 .f32) (x3 : Vec Ideal S1x1x2048 .f32)
    (r : Fin 256) (j : Fin 2048) :
    k0_pay1 x0 x1 x2 x3 (ix3 (0 : Fin 1) r j)
      = x2 (ix3 (0 : Fin 1) r j) + x3 (ix3 (0 : Fin 1) (0 : Fin 1) j) * ∑ k : Fin 2048, x0 (ix3 (0 : Fin 1) r k) * x1 (ix2 k j) := by
  unfold k0_pay1
  pointwise

theorem out_apply (x0 : Vec Ideal S1x256x2048 .bf16) (x1 : Vec Ideal S2048x2048 .bf16) (x2 : Vec Ideal S1x256x2048 .f32) (x3 : Vec Ideal S1x1x2048 .f32)
    (r : Fin 256) (j : Fin 2048) :
    out0_4 x0 x1 x2 x3 (ix3 (0 : Fin 1) r j)
      = x2 (ix3 (0 : Fin 1) r j) + x3 (ix3 (0 : Fin 1) (0 : Fin 1) j) * ∑ k : Fin 2048, x0 (ix3 (0 : Fin 1) r k) * x1 (ix2 k j) := by
  unfold out0_4
  rw [View.canon_unit_zero hz3, View.ld_unit_zero (S := S1x256x2048) hz3, View.ld_unit_zero (S := S2048x2048) hz2,
    View.ld_unit_zero (S := S1x256x2048) hz3, View.ld_unit_zero (S := S1x1x2048) hz3, pay_apply]

section

variable (m : (ℓ : Loc nD τ sig) → Buf (Elt Ideal) ℓ) (c : Dev nD) (t : Fin cfg0.N)

/-- The position of a tile's row. -/
def pos (r : Fin 256) : Fin 4096 := ⟨256 * (grid0.coords t 1).val + r.val, by have : (grid0.coords t 1).val < 16 := (grid0.coords t 1).isLt; omega⟩
def seqOf : Fin 8 := ⟨(grid0.coords t 0).val, (grid0.coords t 0).isLt⟩

theorem y_block (r : Fin 256) (k : Fin 2048) :
    iblk m c 0 t (ix3 (0 : Fin 1) r k) = m ((c : Thread nD τ).loc main_arg0) (ix3 (seqOf t) (pos t r) k) := by
  blk_simp [iblk]
  rw [show V m c main_arg0 = _ from V_main_arg0 m c]
  refine congrArg (m ((c : Thread nD τ).loc main_arg0)) ?_
  funext a
  refine Fin.ext ?_
  match a with
  | ⟨0, _⟩ => blk_simp [at0]; rfl
  | ⟨1, _⟩ => blk_simp [at0]; show (grid0.coords t 1).val * 256 + r.val = 256 * (grid0.coords t 1).val + r.val; omega
  | ⟨2, _⟩ => blk_simp [at0]

theorem x_block (r : Fin 256) (k : Fin 2048) :
    iblk m c 2 t (ix3 (0 : Fin 1) r k) = m ((c : Thread nD τ).loc main_arg2) (ix3 (seqOf t) (pos t r) k) := by
  blk_simp [iblk]
  rw [show V m c main_arg2 = _ from V_main_arg2 m c]
  refine congrArg (m ((c : Thread nD τ).loc main_arg2)) ?_
  funext a
  refine Fin.ext ?_
  match a with
  | ⟨0, _⟩ => blk_simp [at2]; rfl
  | ⟨1, _⟩ => blk_simp [at2]; show (grid0.coords t 1).val * 256 + r.val = 256 * (grid0.coords t 1).val + r.val; omega
  | ⟨2, _⟩ => blk_simp [at2]

theorem w_block (k j : Fin 2048) : iblk m c 1 t (ix2 k j) = m ((c : Thread nD τ).loc main_arg1) (ix2 k j) := by
  have e : V m c main_v0 = (truncf .bf16 (m ((c : Thread nD τ).loc main_arg1)) bitsLt_bf16_f32 : FVec Ideal S2048x2048 .bf16) := by
    dsimp only [V, hostOps0]
    after_results
  have i : (win0_1.blk t).view.emb (ix2 k j) = ix2 k j := by
    funext a
    refine Fin.ext ?_
    match a with
    | ⟨0, _⟩ => blk_simp [at1]
    | ⟨1, _⟩ => blk_simp [at1]
  blk_simp [iblk]
  rw [show V m c main_v0 = _ from e, i]
  rfl

theorem g_block (j : Fin 2048) : iblk m c 3 t (ix3 (0 : Fin 1) (0 : Fin 1) j) = m ((c : Thread nD τ).loc main_arg3) (ix2 (seqOf t) j) := by
  have e : V m c main_v1 = (broadcastInDim S8x1x2048 ![0, 2] bcast_S8x2048_S8x1x2048_0_2 (m ((c : Thread nD τ).loc main_arg3)) : FVec Ideal S8x1x2048 .f32) := by
    dsimp only [V, hostOps0]
    after_results
  have i : (win0_3.blk t).view.emb (ix3 (0 : Fin 1) (0 : Fin 1) j) = ix3 (seqOf t) (0 : Fin 1) j := by
    funext a
    refine Fin.ext ?_
    match a with
    | ⟨0, _⟩ => blk_simp [at3]; rfl
    | ⟨1, _⟩ => blk_simp [at3]
    | ⟨2, _⟩ => blk_simp [at3]
  blk_simp [iblk]
  rw [show V m c main_v1 = _ from e, i]
  pointwise

/-- The result array after the launch. -/
theorem result_eq :
    (dats m 0 c).arrAt 4 cfg0.N = resid (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ covers4 fun t hf y => ?_
  blk_simp
  rw [after0_4]
  obtain ⟨u, r, j, rfl⟩ : ∃ (u : Fin 1) (r : Fin 256) (j : Fin 2048), y = ix3 u r j := ⟨_, _, _, eq_ix3 y⟩
  have hu : u = 0 := Subsingleton.elim _ _
  subst hu
  refine (out_apply _ _ _ _ r j).trans ?_
  have e : (win0_4.blk t).view.emb (ix3 (0 : Fin 1) r j) = ix3 (seqOf t) (pos t r) j := by
    funext a
    refine Fin.ext ?_
    match a with
    | ⟨0, _⟩ => blk_simp [at4]; rfl
    | ⟨1, _⟩ => blk_simp [at4]; show (grid0.coords t 1).val * 256 + r.val = 256 * (grid0.coords t 1).val + r.val; omega
    | ⟨2, _⟩ => blk_simp [at4]
  refine Eq.trans ?_ (congrArg (resid _ _ _ _) e.symm)
  rw [x_block, g_block]
  refine comb (Finset.sum_congr rfl fun k _ => ?_)
  rw [y_block, w_block]
  rfl

end

/-- Both programs run, end with equal results and leave their arguments as they were. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => resid (m ((c.tc : Thread _ _).loc Cert.Kernel3Ideal.main_arg0)) (m ((c.tc : Thread _ _).loc Cert.Kernel3Ideal.main_arg1))
      (m ((c.tc : Thread _ _).loc Cert.Kernel3Ideal.main_arg2)) (m ((c.tc : Thread _ _).loc Cert.Kernel3Ideal.main_arg3)), ?_, ?_⟩
  · exact (θ_run _ _ _).mono (fun r h c => ⟨(h c).1.trans (result_eq m c), (h c).2⟩) (Cert.Kernel3Ideal.Value.run_blocks m g)
  · refine (θ_run _ _ _).mono (fun r h c => ⟨(h c).1.trans ?_, (h c).2⟩) (Cert.Reference3Ideal.Value.run m' g')
    obtain ⟨h0, h1, h2, h3⟩ := hagree c
    rw [h0, h1, h2, h3]
    funext i
    obtain ⟨b, t, j, rfl⟩ : ∃ (b : Fin 8) (t : Fin 4096) (j : Fin 2048), i = ix3 b t j := ⟨_, _, _, eq_ix3 i⟩
    unfold resid
    pointwise

end Cert.Out3

end
-- ==== Proof.Out4.lean ====
/-
  The second output projection: the branch times the weight, times the gate, added to the layer's input, and the sum
  normalized by its root mean square.
-/
module

public import proofs.«01_k».proof.Defs
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pipeline.Covers
public import Idealize.ShloMosaic.Lib.Pointwise

@[expose] public section

noncomputable section

namespace Cert.Out4

open Cert.Kernel4Ideal Cert.Kernel4Ideal.Gen Idealize.ShloMosaic Idealize.SL.Sem
open Idealize.ShloMosaic.TcCoe

/-- The sum before the norm, over the branch, the weight, the layer's input and the gate. -/
def resid (Y : S8x4096x2048.Idx → EReal) (W : S2048x2048.Idx → EReal) (X : S8x4096x2048.Idx → EReal) (G : S8x2048.Idx → EReal) :
    S8x4096x2048.Idx → EReal := fun i =>
  X i + G (ix2 (i 0) (i 2)) * ∑ k : Fin 2048, Y (ix3 (i 0) (i 1) k) * W (ix2 k (i 2))

/-- A row divided by its root mean square, times a weight per lane. -/
def normed (Z : S8x4096x2048.Idx → EReal) (g : S2048.Idx → EReal) : S8x4096x2048.Idx → EReal := fun i =>
  Z i * Ideal.rsqrt (Ideal.div (∑ k : Fin 2048, Z (ix3 (i 0) (i 1) k) * Z (ix3 (i 0) (i 1) k)) (Ideal.ofBits .f32 0x45000000#32) + Ideal.ofBits .f32 0x358637BD#32)
    * g (ix1 (i 2))

theorem at0 : ∀ t : Fin cfg0.N, win0_0.index t = ![(grid0.coords t 0).val, (grid0.coords t 1).val, 0] :=
  (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![(grid0.coords t 0).val, (grid0.coords t 1).val, 0] :=
  (by decide +kernel : ∀ t : Fin grid0.N, _)
theorem at3 : ∀ t : Fin cfg0.N, win0_3.index t = ![(grid0.coords t 0).val, 0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![(grid0.coords t 0).val, (grid0.coords t 1).val, 0] :=
  (by decide +kernel : ∀ t : Fin grid0.N, _)
theorem covers5 : (cfg0.win 5).Covers := by decide +kernel

theorem comb {x g s s' : EReal} (h : s = s') : x + g * s = x + g * s' := by rw [h]

theorem hz3 : (![0, 0, 0] : Fin 3 → ℕ) = fun _ => 0 := by funext a; fin_cases a <;> rfl
theorem hz2 : (![0, 0] : Fin 2 → ℕ) = fun _ => 0 := by funext a; fin_cases a <;> rfl

/-- One row of the sum, over the operands' blocks. -/
def row (x0 : Vec Ideal S1x256x2048 .bf16) (x1 : Vec Ideal S2048x2048 .bf16) (x2 : Vec Ideal S1x256x2048 .f32) (x3 : Vec Ideal S1x1x2048 .f32)
    (r : Fin 256) (j : Fin 2048) : EReal :=
  x2 (ix3 (0 : Fin 1) r j) + x3 (ix3 (0 : Fin 1) (0 : Fin 1) j) * ∑ k : Fin 2048, x0 (ix3 (0 : Fin 1) r k) * x1 (ix2 k j)

theorem pay_apply (x0 : Vec Ideal S1x256x2048 .bf16) (x1 : Vec Ideal S2048x2048 .bf16) (x2 : Vec Ideal S1x256x2048 .f32) (x3 : Vec Ideal S1x1x2048 .f32) (x4 : Vec Ideal S1x2048 .f32)
    (r : Fin 256) (j : Fin 2048) :
    k0_pay1 x0 x1 x2 x3 x4 (ix3 (0 : Fin 1) r j)
      = row x0 x1 x2 x3 r j * Ideal.rsqrt (Ideal.div (∑ k : Fin 2048, row x0 x1 x2 x3 r k * row x0 x1 x2 x3 r k) (Ideal.ofBits .f32 0x45000000#32) + Ideal.ofBits .f32 0x358637BD#32)
          * x4 (ix2 (0 : Fin 1) j) := by
  unfold k0_pay1 row
  pointwise

theorem out_apply (x0 : Vec Ideal S1x256x2048 .bf16) (x1 : Vec Ideal S2048x2048 .bf16) (x2 : Vec Ideal S1x256x2048 .f32) (x3 : Vec Ideal S1x1x2048 .f32) (x4 : Vec Ideal S1x2048 .f32)
    (r : Fin 256) (j : Fin 2048) :
    out0_5 x0 x1 x2 x3 x4 (ix3 (0 : Fin 1) r j)
      = row x0 x1 x2 x3 r j * Ideal.rsqrt (Ideal.div (∑ k : Fin 2048, row x0 x1 x2 x3 r k * row x0 x1 x2 x3 r k) (Ideal.ofBits .f32 0x45000000#32) + Ideal.ofBits .f32 0x358637BD#32)
          * x4 (ix2 (0 : Fin 1) j) := by
  unfold out0_5
  rw [View.canon_unit_zero hz3, View.ld_unit_zero (S := S1x256x2048) hz3, View.ld_unit_zero (S := S2048x2048) hz2,
    View.ld_unit_zero (S := S1x256x2048) hz3, View.ld_unit_zero (S := S1x1x2048) hz3, View.ld_unit_zero (S := S1x2048) hz2, pay_apply]

section

variable (m : (ℓ : Loc nD τ sig) → Buf (Elt Ideal) ℓ) (c : Dev nD) (t : Fin cfg0.N)

/-- The position of a tile's row. -/
def pos (r : Fin 256) : Fin 4096 := ⟨256 * (grid0.coords t 1).val + r.val, by have : (grid0.coords t 1).val < 16 := (grid0.coords t 1).isLt; omega⟩
def seqOf : Fin 8 := ⟨(grid0.coords t 0).val, (grid0.coords t 0).isLt⟩

theorem y_block (r : Fin 256) (k : Fin 2048) :
    iblk m c 0 t (ix3 (0 : Fin 1) r k) = m ((c : Thread nD τ).loc main_arg0) (ix3 (seqOf t) (pos t r) k) := by
  blk_simp [iblk]
  rw [show V m c main_arg0 = _ from V_main_arg0 m c]
  refine congrArg (m ((c : Thread nD τ).loc main_arg0)) ?_
  funext a
  refine Fin.ext ?_
  match a with
  | ⟨0, _⟩ => blk_simp [at0]; rfl
  | ⟨1, _⟩ => blk_simp [at0]; show (grid0.coords t 1).val * 256 + r.val = 256 * (grid0.coords t 1).val + r.val; omega
  | ⟨2, _⟩ => blk_simp [at0]

theorem x_block (r : Fin 256) (k : Fin 2048) :
    iblk m c 2 t (ix3 (0 : Fin 1) r k) = m ((c : Thread nD τ).loc main_arg2) (ix3 (seqOf t) (pos t r) k) := by
  blk_simp [iblk]
  rw [show V m c main_arg2 = _ from V_main_arg2 m c]
  refine congrArg (m ((c : Thread nD τ).loc main_arg2)) ?_
  funext a
  refine Fin.ext ?_
  match a with
  | ⟨0, _⟩ => blk_simp [at2]; rfl
  | ⟨1, _⟩ => blk_simp [at2]; show (grid0.coords t 1).val * 256 + r.val = 256 * (grid0.coords t 1).val + r.val; omega
  | ⟨2, _⟩ => blk_simp [at2]

theorem w_block (k j : Fin 2048) : iblk m c 1 t (ix2 k j) = m ((c : Thread nD τ).loc main_arg1) (ix2 k j) := by
  have e : V m c main_v0 = (truncf .bf16 (m ((c : Thread nD τ).loc main_arg1)) bitsLt_bf16_f32 : FVec Ideal S2048x2048 .bf16) := by
    dsimp only [V, hostOps0]
    after_results
  have i : (win0_1.blk t).view.emb (ix2 k j) = ix2 k j := by
    funext a
    refine Fin.ext ?_
    match a with
    | ⟨0, _⟩ => blk_simp [at1]
    | ⟨1, _⟩ => blk_simp [at1]
  blk_simp [iblk]
  rw [show V m c main_v0 = _ from e, i]
  rfl

theorem g_block (j : Fin 2048) : iblk m c 3 t (ix3 (0 : Fin 1) (0 : Fin 1) j) = m ((c : Thread nD τ).loc main_arg3) (ix2 (seqOf t) j) := by
  have e : V m c main_v1 = (broadcastInDim S8x1x2048 ![0, 2] bcast_S8x2048_S8x1x2048_0_2 (m ((c : Thread nD τ).loc main_arg3)) : FVec Ideal S8x1x2048 .f32) := by
    dsimp only [V, hostOps0]
    after_results
  have i : (win0_3.blk t).view.emb (ix3 (0 : Fin 1) (0 : Fin 1) j) = ix3 (seqOf t) (0 : Fin 1) j := by
    funext a
    refine Fin.ext ?_
    match a with
    | ⟨0, _⟩ => blk_simp [at3]; rfl
    | ⟨1, _⟩ => blk_simp [at3]
    | ⟨2, _⟩ => blk_simp [at3]
  blk_simp [iblk]
  rw [show V m c main_v1 = _ from e, i]
  pointwise

set_option maxRecDepth 16384 in
theorem n_block (j : Fin 2048) : iblk m c 4 t (ix2 (0 : Fin 1) j) = m ((c : Thread nD τ).loc main_arg4) (ix1 j) := by
  have e : V m c main_v2 = (shapeCast S1x2048 (m ((c : Thread nD τ).loc main_arg4)) shapeCasts_S2048_S1x2048 : FVec Ideal S1x2048 .f32) := by
    dsimp only [V, hostOps0]
    after_results
    rfl
  have i : (win0_4.blk t).view.emb (ix2 (0 : Fin 1) j) = ix2 (0 : Fin 1) j := by
    funext a
    refine Fin.ext ?_
    match a with
    | ⟨0, _⟩ => blk_simp [at4]
    | ⟨1, _⟩ => blk_simp [at4]
  blk_simp [iblk]
  rw [show V m c main_v2 = _ from e, i]
  pointwise

/-- One row of the sum at a grid point. -/
theorem row_eq (r : Fin 256) (j : Fin 2048) :
    row (iblk m c 0 t) (iblk m c 1 t) (iblk m c 2 t) (iblk m c 3 t) r j = resid (m ((c : Thread nD τ).loc main_arg0)) (m ((c : Thread nD τ).loc main_arg1))
      (m ((c : Thread nD τ).loc main_arg2)) (m ((c : Thread nD τ).loc main_arg3)) (ix3 (seqOf t) (pos t r) j) := by
  unfold row
  rw [x_block, g_block]
  refine comb (Finset.sum_congr rfl fun k _ => ?_)
  rw [y_block, w_block]
  rfl

/-- The result array after the launch. -/
theorem result_eq :
    (dats m 0 c).arrAt 5 cfg0.N = normed (resid (m ((c : Thread nD τ).loc main_arg0)) (m ((c : Thread nD τ).loc main_arg1))
      (m ((c : Thread nD τ).loc main_arg2)) (m ((c : Thread nD τ).loc main_arg3))) (m ((c : Thread nD τ).loc main_arg4)) := by
  refine (dats m 0 c).arrAt_eq_of_covers 5 _ covers5 fun t hf y => ?_
  blk_simp
  rw [after0_5]
  obtain ⟨u, r, j, rfl⟩ : ∃ (u : Fin 1) (r : Fin 256) (j : Fin 2048), y = ix3 u r j := ⟨_, _, _, eq_ix3 y⟩
  have hu : u = 0 := Subsingleton.elim _ _
  subst hu
  refine (out_apply _ _ _ _ _ r j).trans ?_
  have e : (win0_5.blk t).view.emb (ix3 (0 : Fin 1) r j) = ix3 (seqOf t) (pos t r) j := by
    funext a
    refine Fin.ext ?_
    match a with
    | ⟨0, _⟩ => blk_simp [at5]; rfl
    | ⟨1, _⟩ => blk_simp [at5]; show (grid0.coords t 1).val * 256 + r.val = 256 * (grid0.coords t 1).val + r.val; omega
    | ⟨2, _⟩ => blk_simp [at5]
  refine Eq.trans ?_ (congrArg (normed _ _) e.symm)
  rw [n_block, row_eq, Finset.sum_congr rfl fun k _ => congrArg (fun z : EReal => z * z) (row_eq m c t r k)]
  rfl

end

/-- Both programs run, end with equal results and leave their arguments as they were. -/
theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => normed (resid (m ((c.tc : Thread _ _).loc Cert.Kernel4Ideal.main_arg0)) (m ((c.tc : Thread _ _).loc Cert.Kernel4Ideal.main_arg1))
      (m ((c.tc : Thread _ _).loc Cert.Kernel4Ideal.main_arg2)) (m ((c.tc : Thread _ _).loc Cert.Kernel4Ideal.main_arg3))) (m ((c.tc : Thread _ _).loc Cert.Kernel4Ideal.main_arg4)), ?_, ?_⟩
  · exact (θ_run _ _ _).mono (fun r h c => ⟨(h c).1.trans (result_eq m c), (h c).2⟩) (Cert.Kernel4Ideal.Value.run_blocks m g)
  · refine (θ_run _ _ _).mono (fun r h c => ⟨(h c).1.trans ?_, (h c).2⟩) (Cert.Reference4Ideal.Value.run m' g')
    obtain ⟨h0, h1, h2, h3, h4⟩ := hagree c
    rw [h0, h1, h2, h3, h4]
    funext i
    obtain ⟨b, t, j, rfl⟩ : ∃ (b : Fin 8) (t : Fin 4096) (j : Fin 2048), i = ix3 b t j := ⟨_, _, _, eq_ix3 i⟩
    unfold normed resid
    pointwise

end Cert.Out4

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnClaim
public import proofs.«01_k».proof.Proof.InBody2
public import proofs.«01_k».proof.Proof.InBody2K
public import proofs.«01_k».proof.Proof.InValue2
public import proofs.«01_k».proof.Proof.InBody5
public import proofs.«01_k».proof.Proof.InBody5K
public import proofs.«01_k».proof.Proof.InValue5
public import proofs.«01_k».proof.Proof.InBody6
public import proofs.«01_k».proof.Proof.InBody6K
public import proofs.«01_k».proof.Proof.InValue6
public import proofs.«01_k».proof.Proof.Out7
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Out3
public import proofs.«01_k».proof.Proof.Out4
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The attention reference runs, leaves its arguments unchanged, and has no semaphore. -/
theorem frame_r : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem frame_r2 : Cert.quiescent_Reference2Ideal (hReference2Ideal := Cert.Reference2Ideal.Gen.facts) := fun m g _ =>
  (θ_run _ _ _).mono (fun r h => ⟨fun c => (h c).2.2.2.2, sem_eq_zero_of_no_sems (by decide) r.2⟩) (Cert.Reference2Ideal.Value.run m g)

theorem frame_r3 : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem frame_r4 : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

theorem frame_r5 : Cert.quiescent_Reference5Ideal (hReference5Ideal := Cert.Reference5Ideal.Gen.facts) := fun m g _ =>
  (θ_run _ _ _).mono (fun r h => ⟨fun c => (h c).2.2.2.2, sem_eq_zero_of_no_sems (by decide) r.2⟩) (Cert.Reference5Ideal.Value.run m g)

theorem frame_r6 : Cert.quiescent_Reference6Ideal (hReference6Ideal := Cert.Reference6Ideal.Gen.facts) := fun m g _ =>
  (θ_run _ _ _).mono (fun r h => ⟨fun c => (h c).2.2.2.2, sem_eq_zero_of_no_sems (by decide) r.2⟩) (Cert.Reference6Ideal.Value.run m g)

theorem frame_r7 : Cert.quiescent_Reference7Ideal (hReference7Ideal := Cert.Reference7Ideal.Gen.facts) := fun m g _ =>
  (θ_run _ _ _).mono (fun r h => ⟨fun c => (h c).2, sem_eq_zero_of_no_sems (by decide) r.2⟩) (Cert.Reference7Ideal.Value.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.FiniteQK.facts,
    fun m g _ => Cert.Kernel.Gen.frame m g,
    fun m g _ => Cert.KernelIdeal.Gen.frame m g,
    fun m g _ => Cert.KernelIdeal.Gen.frame m g,
    frame_r,
    fun m g _ => frame_r m g trivial,
    fun m g _ => Cert.Kernel2.In.frame m g,
    fun m g _ => Cert.Kernel2Ideal.In.frame m g,
    frame_r2,
    fun m g _ => Cert.Kernel3.Gen.frame m g,
    fun m g _ => Cert.Kernel3Ideal.Gen.frame m g,
    frame_r3,
    fun m g _ => Cert.Kernel4.Gen.frame m g,
    fun m g _ => Cert.Kernel4Ideal.Gen.frame m g,
    frame_r4,
    fun m g _ => Cert.Kernel5.In.frame m g,
    fun m g _ => Cert.Kernel5Ideal.In.frame m g,
    frame_r5,
    fun m g _ => Cert.Kernel6.In.frame m g,
    fun m g _ => Cert.Kernel6Ideal.In.frame m g,
    frame_r6,
    fun m g _ => Cert.Kernel7.Gen.frame m g,
    fun m g _ => Cert.Kernel7Ideal.Gen.frame m g,
    frame_r7,
    trivial,
    Cert.Attn.algebraic,
    IdealRules.named_const.statement Cert.Kernel2Ideal.κ "s" .f32 0x3DB504F3#32 (((Real.sqrt 128)⁻¹ : ℝ) : EReal) rfl,
    Cert.In2.algebraic,
    trivial,
    Cert.Out3.algebraic,
    trivial,
    Cert.Out4.algebraic,
    trivial,
    Cert.In5.algebraic,
    IdealRules.named_const.statement Cert.Kernel6Ideal.κ "s" .f32 0x3DB504F3#32 (((Real.sqrt 128)⁻¹ : ℝ) : EReal) rfl,
    Cert.In6.algebraic,
    trivial,
    Cert.Out7.algebraic⟩

end Cert.Proof

end
